-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  IdealRules.named_const.Statement Cert.Kernel5Ideal.κ "one_over_width" .f32 0x3BAAAAAB#32 ((1 / 192 : ℝ) : EReal)
  ∧ IdealRules.named_const.Statement Cert.Kernel5Ideal.κ "score_scale" .f32 0x3DD53B95#32 (((Real.sqrt 192)⁻¹ * (Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v74)) (v1 : (c : Dev Cert.Kernel5Ideal.nD) → Buf (Elt Ideal) ((c.tc : Thread Cert.Kernel5Ideal.nD Cert.Kernel5Ideal.τ).loc Cert.Kernel5Ideal.main_v77)) (v2 : (c : Dev Cert.Kernel5Ideal.nD) → Buf (Elt Ideal) ((c.tc : Thread Cert.Kernel5Ideal.nD Cert.Kernel5Ideal.τ).loc Cert.Kernel5Ideal.main_v80)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v74) = v0 c
          ∧ r.2.mem ((c.tc : Thread Cert.Kernel5Ideal.nD Cert.Kernel5Ideal.τ).loc Cert.Kernel5Ideal.main_v77) = v1 c
          ∧ r.2.mem ((c.tc : Thread Cert.Kernel5Ideal.nD Cert.Kernel5Ideal.τ).loc Cert.Kernel5Ideal.main_v80) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v113) = v0 c
          ∧ r.2.mem ((c.tc : Thread Cert.Reference5Ideal.nD Cert.Reference5Ideal.τ).loc Cert.Reference5Ideal.main_v129) = v1 c
          ∧ r.2.mem ((c.tc : Thread Cert.Reference5Ideal.nD Cert.Reference5Ideal.τ).loc Cert.Reference5Ideal.main_v68) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16384x16x192 : Shape := ⟨3, ![16384, 16, 192]⟩
abbrev S16384x16x128 : Shape := ⟨3, ![16384, 16, 128]⟩
abbrev S_ : Shape := ⟨0, ![]⟩

class Facts : Prop where
  bcast_S_S16384x16x192 : S_.BroadcastsInDim S16384x16x192 (![] : Fin 0 → Fin S16384x16x192.rank)
  reducesTo_S16384x16x192_S_d0_1_2 : S16384x16x192.ReducesTo [0, 1, 2] S_
  h_S_ : 0 < S_.numel

variable [Facts]

def fn {F : FTy → Type} [FloatOps F] (main_arg0 : FVec F S16384x16x192 .f32) (main_arg1 : FVec F S16384x16x192 .f32) (main_arg2 : FVec F S16384x16x128 .f32) : IVec S_ 1 :=
  let main_v0 : FVec F S16384x16x192 .f32 := Host.absf main_arg0
  let main_cst : FVec F S_ .f32 := constant S_ .f32 0x7F800000#32
  let main_v1 : FVec F S16384x16x192 .f32 := broadcastInDim S16384x16x192 ![] bcast_S_S16384x16x192 main_cst
  let main_v2 : IVec S16384x16x192 1 := cmpf .olt main_v0 main_v1
  let main_c : IVec S_ 1 := constantI S_ 1 1#1
  let main_v3 : IVec S_ 1 := (fun x v => Host.reduce IntOp.andi x v reducesTo_S16384x16x192_S_d0_1_2 h_S_) main_v2 main_c
  let main_v4 : FVec F S16384x16x192 .f32 := Host.absf main_arg1
  let main_cst_0 : FVec F S_ .f32 := constant S_ .f32 0x7F800000#32
  let main_v5 : FVec F S16384x16x192 .f32 := broadcastInDim S16384x16x192 ![] bcast_S_S16384x16x192 main_cst_0
  let main_v6 : IVec S16384x16x192 1 := cmpf .olt main_v4 main_v5
  let main_c_1 : IVec S_ 1 := constantI S_ 1 1#1
  let main_v7 : IVec S_ 1 := (fun x v => Host.reduce IntOp.andi x v reducesTo_S16384x16x192_S_d0_1_2 h_S_) main_v6 main_c_1
  let main_v8 : IVec S_ 1 := andi main_v3 main_v7
  main_v8
-- ==== Kernel.lean ====
abbrev S16384x16x192 : Shape := ⟨3, ![16384, 16, 192]⟩
abbrev S16384x16x128 : Shape := ⟨3, ![16384, 16, 128]⟩
abbrev S16x192x16384 : Shape := ⟨3, ![16, 192, 16384]⟩
abbrev S_ : Shape := ⟨0, ![]⟩
abbrev S16x256x16384 : Shape := ⟨3, ![16, 256, 16384]⟩
abbrev S16x16384x192 : Shape := ⟨3, ![16, 16384, 192]⟩
abbrev S16x16384x256 : Shape := ⟨3, ![16, 16384, 256]⟩
abbrev S16x128x16384 : Shape := ⟨3, ![16, 128, 16384]⟩
abbrev S16x1x16384 : Shape := ⟨3, ![16, 1, 16384]⟩
abbrev S16x15x16384 : Shape := ⟨3, ![16, 15, 16384]⟩
abbrev S16x144x16384 : Shape := ⟨3, ![16, 144, 16384]⟩
abbrev S16384x2048 : Shape := ⟨2, ![16384, 2048]⟩
abbrev S1x256x512 : Shape := ⟨3, ![1, 256, 512]⟩
abbrev S1x16384x256 : Shape := ⟨3, ![1, 16384, 256]⟩
abbrev S1x144x16384 : Shape := ⟨3, ![1, 144, 16384]⟩
abbrev S512x128 : Shape := ⟨2, ![512, 128]⟩
abbrev S2x520x512 : Shape := ⟨3, ![2, 520, 512]⟩
abbrev S256x512 : Shape := ⟨2, ![256, 512]⟩
abbrev S1x512 : Shape := ⟨2, ![1, 512]⟩
abbrev S144x512 : Shape := ⟨2, ![144, 512]⟩
abbrev S1x512x256 : Shape := ⟨3, ![1, 512, 256]⟩
abbrev S512x256 : Shape := ⟨2, ![512, 256]⟩
abbrev S512x512 : Shape := ⟨2, ![512, 512]⟩
abbrev S1x512x512 : Shape := ⟨3, ![1, 512, 512]⟩
abbrev S512 : Shape := ⟨1, ![512]⟩
abbrev S1x144x512 : Shape := ⟨3, ![1, 144, 512]⟩
abbrev S128x512 : Shape := ⟨2, ![128, 512]⟩

abbrev nBuf : Space → Nat
  | .hbm => 28
  | .vmem => 9
  | .smem => 0
  | _ => 0

abbrev bufTy : (tb : Table) → Fin (tcTables nBuf tb) → BufTy
  | .hbm, ⟨0, _⟩ => ⟨S16384x16x192, .f32⟩
  | .hbm, ⟨1, _⟩ => ⟨S16384x16x192, .f32⟩
  | .hbm, ⟨2, _⟩ => ⟨S16384x16x128, .f32⟩
  | .hbm, ⟨3, _⟩ => ⟨S16x192x16384, .f32⟩
  | .hbm, ⟨4, _⟩ => ⟨S_, .f32⟩
  | .hbm, ⟨5, _⟩ => ⟨S16x192x16384, .f32⟩
  | .hbm, ⟨6, _⟩ => ⟨S16x192x16384, .f32⟩
  | .hbm, ⟨7, _⟩ => ⟨S_, .f32⟩
  | .hbm, ⟨8, _⟩ => ⟨S_, .f32⟩
  | .hbm, ⟨9, _⟩ => ⟨S16x192x16384, .f32⟩
  | .hbm, ⟨10, _⟩ => ⟨S16x192x16384, .f32⟩
  | .hbm, ⟨11, _⟩ => ⟨S_, .i32⟩
  | .hbm, ⟨12, _⟩ => ⟨S_, .f32⟩
  | .hbm, ⟨13, _⟩ => ⟨S16x256x16384, .f32⟩
  | .hbm, ⟨14, _⟩ => ⟨S16x256x16384, .bf16⟩
  | .hbm, ⟨15, _⟩ => ⟨S16x16384x192, .f32⟩
  | .hbm, ⟨16, _⟩ => ⟨S_, .i32⟩
  | .hbm, ⟨17, _⟩ => ⟨S_, .f32⟩
  | .hbm, ⟨18, _⟩ => ⟨S16x16384x256, .f32⟩
  | .hbm, ⟨19, _⟩ => ⟨S16x16384x256, .bf16⟩
  | .hbm, ⟨20, _⟩ => ⟨S16x128x16384, .f32⟩
  | .hbm, ⟨21, _⟩ => ⟨S16x128x16384, .bf16⟩
  | .hbm, ⟨22, _⟩ => ⟨S_, .bf16⟩
  | .hbm, ⟨23, _⟩ => ⟨S16x1x16384, .bf16⟩
  | .hbm, ⟨24, _⟩ => ⟨S_, .bf16⟩
  | .hbm, ⟨25, _⟩ => ⟨S16x15x16384, .bf16⟩
  | .hbm, ⟨26, _⟩ => ⟨S16x144x16384, .bf16⟩
  | .hbm, ⟨27, _⟩ => ⟨S16384x2048, .bf16⟩
  | .local _ .vmem, ⟨0, _⟩ => ⟨S1x256x512, .bf16⟩
  | .local _ .vmem, ⟨1, _⟩ => ⟨S1x256x512, .bf16⟩
  | .local _ .vmem, ⟨2, _⟩ => ⟨S1x16384x256, .bf16⟩
  | .local _ .vmem, ⟨3, _⟩ => ⟨S1x16384x256, .bf16⟩
  | .local _ .vmem, ⟨4, _⟩ => ⟨S1x144x16384, .bf16⟩
  | .local _ .vmem, ⟨5, _⟩ => ⟨S1x144x16384, .bf16⟩
  | .local _ .vmem, ⟨6, _⟩ => ⟨S512x128, .bf16⟩
  | .local _ .vmem, ⟨7, _⟩ => ⟨S512x128, .bf16⟩
  | .local _ .vmem, ⟨8, _⟩ => ⟨S2x520x512, .f32⟩
  | _, _ => ⟨S16384x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 16, 32], ![false, false, false]⟩

def k0_mult1 : BitVec 32 :=
  let c0_i32 : BitVec 32 := 0#32
  c0_i32
@[reducible] def k0_t1_loop : Scf.Loop 32 :=
  let c0_i32_10 : BitVec 32 := 0#32
  let c2_i32 : BitVec 32 := 2#32
  let v14 : BitVec 32 := Scalar.addi c0_i32_10 c2_i32
  let c1_i32 : BitVec 32 := 1#32
  ⟨c0_i32_10, v14, c1_i32⟩
def k0_mult2 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32 : BitVec 32 := 16#32
  let v23 : BitVec 32 := Scalar.muli arg8 c16_i32
  let c0_i32_14 : BitVec 32 := 0#32
  let v24 : BitVec 32 := Scalar.addi v23 c0_i32_14
  let c1_i32_15 : BitVec 32 := 1#32
  let v25 : BitVec 32 := Scalar.addi v24 c1_i32_15
  let c31_i32 : BitVec 32 := 31#32
  let v26 : BitVec 32 := Scalar.minsi v25 c31_i32
  let c512_i32 : BitVec 32 := 512#32
  let v27 : BitVec 32 := Scalar.muli v26 c512_i32
  v27
def k0_off1 (k0_t1 : Fin k0_t1_loop.trips) (c0_i32_14 : BitVec 32) : Fin 3 → Nat :=
  let c0_16 : Index := 0#32
  let c0_i32_10 : BitVec 32 := 0#32
  let c1_i32 : BitVec 32 := 1#32
  let arg8 : BitVec 32 := Scf.iv c0_i32_10 c1_i32 k0_t1
  let c16_i32 : BitVec 32 := 16#32
  let v23 : BitVec 32 := Scalar.muli arg8 c16_i32
  let v24 : BitVec 32 := Scalar.addi v23 c0_i32_14
  let c1_i32_15 : BitVec 32 := 1#32
  let v25 : BitVec 32 := Scalar.addi v24 c1_i32_15
  let c31_i32 : BitVec 32 := 31#32
  let v26 : BitVec 32 := Scalar.minsi v25 c31_i32
  let c512_i32 : BitVec 32 := 512#32
  let v27 : BitVec 32 := Scalar.muli v26 c512_i32
  let v28 : BitVec 32 := v27
  let v29 : Index := Scalar.indexCast v28
  let c0_17 : Index := 0#32
  ![0, v29.toNat, 0]
def k0_mult3 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32 : BitVec 32 := 16#32
  let v23 : BitVec 32 := Scalar.muli arg8 c16_i32
  let c0_i32_14 : BitVec 32 := 0#32
  let v24 : BitVec 32 := Scalar.addi v23 c0_i32_14
  let c512_i32_22 : BitVec 32 := 512#32
  let v38 : BitVec 32 := Scalar.muli v24 c512_i32_22
  v38
def k0_off2 (k0_t1 : Fin k0_t1_loop.trips) (c0_i32_14 : BitVec 32) : Fin 3 → Nat :=
  let c0_23 : Index := 0#32
  let c0_24 : Index := 0#32
  let c0_i32_10 : BitVec 32 := 0#32
  let c1_i32 : BitVec 32 := 1#32
  let arg8 : BitVec 32 := Scf.iv c0_i32_10 c1_i32 k0_t1
  let c16_i32 : BitVec 32 := 16#32
  let v23 : BitVec 32 := Scalar.muli arg8 c16_i32
  let v24 : BitVec 32 := Scalar.addi v23 c0_i32_14
  let c512_i32_22 : BitVec 32 := 512#32
  let v38 : BitVec 32 := Scalar.muli v24 c512_i32_22
  let v39 : BitVec 32 := v38
  let v40 : Index := Scalar.indexCast v39
  ![0, 0, v40.toNat]
def k0_mult4 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_29 : BitVec 32 := 16#32
  let v56 : BitVec 32 := Scalar.muli arg8 c16_i32_29
  let c1_i32_30 : BitVec 32 := 1#32
  let v57 : BitVec 32 := Scalar.addi v56 c1_i32_30
  let c1_i32_31 : BitVec 32 := 1#32
  let v58 : BitVec 32 := Scalar.addi v57 c1_i32_31
  let c31_i32_32 : BitVec 32 := 31#32
  let v59 : BitVec 32 := Scalar.minsi v58 c31_i32_32
  let c512_i32_33 : BitVec 32 := 512#32
  let v60 : BitVec 32 := Scalar.muli v59 c512_i32_33
  v60
def k0_mult5 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_29 : BitVec 32 := 16#32
  let v56 : BitVec 32 := Scalar.muli arg8 c16_i32_29
  let c1_i32_30 : BitVec 32 := 1#32
  let v57 : BitVec 32 := Scalar.addi v56 c1_i32_30
  let c512_i32_41 : BitVec 32 := 512#32
  let v71 : BitVec 32 := Scalar.muli v57 c512_i32_41
  v71
def k0_mult6 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_48 : BitVec 32 := 16#32
  let v89 : BitVec 32 := Scalar.muli arg8 c16_i32_48
  let c2_i32_49 : BitVec 32 := 2#32
  let v90 : BitVec 32 := Scalar.addi v89 c2_i32_49
  let c1_i32_50 : BitVec 32 := 1#32
  let v91 : BitVec 32 := Scalar.addi v90 c1_i32_50
  let c31_i32_51 : BitVec 32 := 31#32
  let v92 : BitVec 32 := Scalar.minsi v91 c31_i32_51
  let c512_i32_52 : BitVec 32 := 512#32
  let v93 : BitVec 32 := Scalar.muli v92 c512_i32_52
  v93
def k0_mult7 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_48 : BitVec 32 := 16#32
  let v89 : BitVec 32 := Scalar.muli arg8 c16_i32_48
  let c2_i32_49 : BitVec 32 := 2#32
  let v90 : BitVec 32 := Scalar.addi v89 c2_i32_49
  let c512_i32_60 : BitVec 32 := 512#32
  let v104 : BitVec 32 := Scalar.muli v90 c512_i32_60
  v104
def k0_mult8 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_67 : BitVec 32 := 16#32
  let v122 : BitVec 32 := Scalar.muli arg8 c16_i32_67
  let c3_i32 : BitVec 32 := 3#32
  let v123 : BitVec 32 := Scalar.addi v122 c3_i32
  let c1_i32_68 : BitVec 32 := 1#32
  let v124 : BitVec 32 := Scalar.addi v123 c1_i32_68
  let c31_i32_69 : BitVec 32 := 31#32
  let v125 : BitVec 32 := Scalar.minsi v124 c31_i32_69
  let c512_i32_70 : BitVec 32 := 512#32
  let v126 : BitVec 32 := Scalar.muli v125 c512_i32_70
  v126
def k0_mult9 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_67 : BitVec 32 := 16#32
  let v122 : BitVec 32 := Scalar.muli arg8 c16_i32_67
  let c3_i32 : BitVec 32 := 3#32
  let v123 : BitVec 32 := Scalar.addi v122 c3_i32
  let c512_i32_78 : BitVec 32 := 512#32
  let v137 : BitVec 32 := Scalar.muli v123 c512_i32_78
  v137
def k0_mult10 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_85 : BitVec 32 := 16#32
  let v155 : BitVec 32 := Scalar.muli arg8 c16_i32_85
  let c4_i32 : BitVec 32 := 4#32
  let v156 : BitVec 32 := Scalar.addi v155 c4_i32
  let c1_i32_86 : BitVec 32 := 1#32
  let v157 : BitVec 32 := Scalar.addi v156 c1_i32_86
  let c31_i32_87 : BitVec 32 := 31#32
  let v158 : BitVec 32 := Scalar.minsi v157 c31_i32_87
  let c512_i32_88 : BitVec 32 := 512#32
  let v159 : BitVec 32 := Scalar.muli v158 c512_i32_88
  v159
def k0_mult11 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_85 : BitVec 32 := 16#32
  let v155 : BitVec 32 := Scalar.muli arg8 c16_i32_85
  let c4_i32 : BitVec 32 := 4#32
  let v156 : BitVec 32 := Scalar.addi v155 c4_i32
  let c512_i32_96 : BitVec 32 := 512#32
  let v170 : BitVec 32 := Scalar.muli v156 c512_i32_96
  v170
def k0_mult12 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_103 : BitVec 32 := 16#32
  let v188 : BitVec 32 := Scalar.muli arg8 c16_i32_103
  let c5_i32 : BitVec 32 := 5#32
  let v189 : BitVec 32 := Scalar.addi v188 c5_i32
  let c1_i32_104 : BitVec 32 := 1#32
  let v190 : BitVec 32 := Scalar.addi v189 c1_i32_104
  let c31_i32_105 : BitVec 32 := 31#32
  let v191 : BitVec 32 := Scalar.minsi v190 c31_i32_105
  let c512_i32_106 : BitVec 32 := 512#32
  let v192 : BitVec 32 := Scalar.muli v191 c512_i32_106
  v192
def k0_mult13 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_103 : BitVec 32 := 16#32
  let v188 : BitVec 32 := Scalar.muli arg8 c16_i32_103
  let c5_i32 : BitVec 32 := 5#32
  let v189 : BitVec 32 := Scalar.addi v188 c5_i32
  let c512_i32_114 : BitVec 32 := 512#32
  let v203 : BitVec 32 := Scalar.muli v189 c512_i32_114
  v203
def k0_mult14 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_121 : BitVec 32 := 16#32
  let v221 : BitVec 32 := Scalar.muli arg8 c16_i32_121
  let c6_i32 : BitVec 32 := 6#32
  let v222 : BitVec 32 := Scalar.addi v221 c6_i32
  let c1_i32_122 : BitVec 32 := 1#32
  let v223 : BitVec 32 := Scalar.addi v222 c1_i32_122
  let c31_i32_123 : BitVec 32 := 31#32
  let v224 : BitVec 32 := Scalar.minsi v223 c31_i32_123
  let c512_i32_124 : BitVec 32 := 512#32
  let v225 : BitVec 32 := Scalar.muli v224 c512_i32_124
  v225
def k0_mult15 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_121 : BitVec 32 := 16#32
  let v221 : BitVec 32 := Scalar.muli arg8 c16_i32_121
  let c6_i32 : BitVec 32 := 6#32
  let v222 : BitVec 32 := Scalar.addi v221 c6_i32
  let c512_i32_132 : BitVec 32 := 512#32
  let v236 : BitVec 32 := Scalar.muli v222 c512_i32_132
  v236
def k0_mult16 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_139 : BitVec 32 := 16#32
  let v254 : BitVec 32 := Scalar.muli arg8 c16_i32_139
  let c7_i32 : BitVec 32 := 7#32
  let v255 : BitVec 32 := Scalar.addi v254 c7_i32
  let c1_i32_140 : BitVec 32 := 1#32
  let v256 : BitVec 32 := Scalar.addi v255 c1_i32_140
  let c31_i32_141 : BitVec 32 := 31#32
  let v257 : BitVec 32 := Scalar.minsi v256 c31_i32_141
  let c512_i32_142 : BitVec 32 := 512#32
  let v258 : BitVec 32 := Scalar.muli v257 c512_i32_142
  v258
def k0_mult17 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_139 : BitVec 32 := 16#32
  let v254 : BitVec 32 := Scalar.muli arg8 c16_i32_139
  let c7_i32 : BitVec 32 := 7#32
  let v255 : BitVec 32 := Scalar.addi v254 c7_i32
  let c512_i32_150 : BitVec 32 := 512#32
  let v269 : BitVec 32 := Scalar.muli v255 c512_i32_150
  v269
def k0_mult18 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_157 : BitVec 32 := 16#32
  let v287 : BitVec 32 := Scalar.muli arg8 c16_i32_157
  let c8_i32 : BitVec 32 := 8#32
  let v288 : BitVec 32 := Scalar.addi v287 c8_i32
  let c1_i32_158 : BitVec 32 := 1#32
  let v289 : BitVec 32 := Scalar.addi v288 c1_i32_158
  let c31_i32_159 : BitVec 32 := 31#32
  let v290 : BitVec 32 := Scalar.minsi v289 c31_i32_159
  let c512_i32_160 : BitVec 32 := 512#32
  let v291 : BitVec 32 := Scalar.muli v290 c512_i32_160
  v291
def k0_mult19 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_157 : BitVec 32 := 16#32
  let v287 : BitVec 32 := Scalar.muli arg8 c16_i32_157
  let c8_i32 : BitVec 32 := 8#32
  let v288 : BitVec 32 := Scalar.addi v287 c8_i32
  let c512_i32_168 : BitVec 32 := 512#32
  let v302 : BitVec 32 := Scalar.muli v288 c512_i32_168
  v302
def k0_mult20 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_175 : BitVec 32 := 16#32
  let v320 : BitVec 32 := Scalar.muli arg8 c16_i32_175
  let c9_i32 : BitVec 32 := 9#32
  let v321 : BitVec 32 := Scalar.addi v320 c9_i32
  let c1_i32_176 : BitVec 32 := 1#32
  let v322 : BitVec 32 := Scalar.addi v321 c1_i32_176
  let c31_i32_177 : BitVec 32 := 31#32
  let v323 : BitVec 32 := Scalar.minsi v322 c31_i32_177
  let c512_i32_178 : BitVec 32 := 512#32
  let v324 : BitVec 32 := Scalar.muli v323 c512_i32_178
  v324
def k0_mult21 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_175 : BitVec 32 := 16#32
  let v320 : BitVec 32 := Scalar.muli arg8 c16_i32_175
  let c9_i32 : BitVec 32 := 9#32
  let v321 : BitVec 32 := Scalar.addi v320 c9_i32
  let c512_i32_186 : BitVec 32 := 512#32
  let v335 : BitVec 32 := Scalar.muli v321 c512_i32_186
  v335
def k0_mult22 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_193 : BitVec 32 := 16#32
  let v353 : BitVec 32 := Scalar.muli arg8 c16_i32_193
  let c10_i32 : BitVec 32 := 10#32
  let v354 : BitVec 32 := Scalar.addi v353 c10_i32
  let c1_i32_194 : BitVec 32 := 1#32
  let v355 : BitVec 32 := Scalar.addi v354 c1_i32_194
  let c31_i32_195 : BitVec 32 := 31#32
  let v356 : BitVec 32 := Scalar.minsi v355 c31_i32_195
  let c512_i32_196 : BitVec 32 := 512#32
  let v357 : BitVec 32 := Scalar.muli v356 c512_i32_196
  v357
def k0_mult23 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_193 : BitVec 32 := 16#32
  let v353 : BitVec 32 := Scalar.muli arg8 c16_i32_193
  let c10_i32 : BitVec 32 := 10#32
  let v354 : BitVec 32 := Scalar.addi v353 c10_i32
  let c512_i32_204 : BitVec 32 := 512#32
  let v368 : BitVec 32 := Scalar.muli v354 c512_i32_204
  v368
def k0_mult24 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_211 : BitVec 32 := 16#32
  let v386 : BitVec 32 := Scalar.muli arg8 c16_i32_211
  let c11_i32 : BitVec 32 := 11#32
  let v387 : BitVec 32 := Scalar.addi v386 c11_i32
  let c1_i32_212 : BitVec 32 := 1#32
  let v388 : BitVec 32 := Scalar.addi v387 c1_i32_212
  let c31_i32_213 : BitVec 32 := 31#32
  let v389 : BitVec 32 := Scalar.minsi v388 c31_i32_213
  let c512_i32_214 : BitVec 32 := 512#32
  let v390 : BitVec 32 := Scalar.muli v389 c512_i32_214
  v390
def k0_mult25 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_211 : BitVec 32 := 16#32
  let v386 : BitVec 32 := Scalar.muli arg8 c16_i32_211
  let c11_i32 : BitVec 32 := 11#32
  let v387 : BitVec 32 := Scalar.addi v386 c11_i32
  let c512_i32_222 : BitVec 32 := 512#32
  let v401 : BitVec 32 := Scalar.muli v387 c512_i32_222
  v401
def k0_mult26 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_229 : BitVec 32 := 16#32
  let v419 : BitVec 32 := Scalar.muli arg8 c16_i32_229
  let c12_i32 : BitVec 32 := 12#32
  let v420 : BitVec 32 := Scalar.addi v419 c12_i32
  let c1_i32_230 : BitVec 32 := 1#32
  let v421 : BitVec 32 := Scalar.addi v420 c1_i32_230
  let c31_i32_231 : BitVec 32 := 31#32
  let v422 : BitVec 32 := Scalar.minsi v421 c31_i32_231
  let c512_i32_232 : BitVec 32 := 512#32
  let v423 : BitVec 32 := Scalar.muli v422 c512_i32_232
  v423
def k0_mult27 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_229 : BitVec 32 := 16#32
  let v419 : BitVec 32 := Scalar.muli arg8 c16_i32_229
  let c12_i32 : BitVec 32 := 12#32
  let v420 : BitVec 32 := Scalar.addi v419 c12_i32
  let c512_i32_240 : BitVec 32 := 512#32
  let v434 : BitVec 32 := Scalar.muli v420 c512_i32_240
  v434
def k0_mult28 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_247 : BitVec 32 := 16#32
  let v452 : BitVec 32 := Scalar.muli arg8 c16_i32_247
  let c13_i32 : BitVec 32 := 13#32
  let v453 : BitVec 32 := Scalar.addi v452 c13_i32
  let c1_i32_248 : BitVec 32 := 1#32
  let v454 : BitVec 32 := Scalar.addi v453 c1_i32_248
  let c31_i32_249 : BitVec 32 := 31#32
  let v455 : BitVec 32 := Scalar.minsi v454 c31_i32_249
  let c512_i32_250 : BitVec 32 := 512#32
  let v456 : BitVec 32 := Scalar.muli v455 c512_i32_250
  v456
def k0_mult29 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_247 : BitVec 32 := 16#32
  let v452 : BitVec 32 := Scalar.muli arg8 c16_i32_247
  let c13_i32 : BitVec 32 := 13#32
  let v453 : BitVec 32 := Scalar.addi v452 c13_i32
  let c512_i32_258 : BitVec 32 := 512#32
  let v467 : BitVec 32 := Scalar.muli v453 c512_i32_258
  v467
def k0_mult30 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_265 : BitVec 32 := 16#32
  let v485 : BitVec 32 := Scalar.muli arg8 c16_i32_265
  let c14_i32 : BitVec 32 := 14#32
  let v486 : BitVec 32 := Scalar.addi v485 c14_i32
  let c1_i32_266 : BitVec 32 := 1#32
  let v487 : BitVec 32 := Scalar.addi v486 c1_i32_266
  let c31_i32_267 : BitVec 32 := 31#32
  let v488 : BitVec 32 := Scalar.minsi v487 c31_i32_267
  let c512_i32_268 : BitVec 32 := 512#32
  let v489 : BitVec 32 := Scalar.muli v488 c512_i32_268
  v489
def k0_mult31 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_265 : BitVec 32 := 16#32
  let v485 : BitVec 32 := Scalar.muli arg8 c16_i32_265
  let c14_i32 : BitVec 32 := 14#32
  let v486 : BitVec 32 := Scalar.addi v485 c14_i32
  let c512_i32_276 : BitVec 32 := 512#32
  let v500 : BitVec 32 := Scalar.muli v486 c512_i32_276
  v500
def k0_mult32 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_283 : BitVec 32 := 16#32
  let v518 : BitVec 32 := Scalar.muli arg8 c16_i32_283
  let c15_i32 : BitVec 32 := 15#32
  let v519 : BitVec 32 := Scalar.addi v518 c15_i32
  let c1_i32_284 : BitVec 32 := 1#32
  let v520 : BitVec 32 := Scalar.addi v519 c1_i32_284
  let c31_i32_285 : BitVec 32 := 31#32
  let v521 : BitVec 32 := Scalar.minsi v520 c31_i32_285
  let c512_i32_286 : BitVec 32 := 512#32
  let v522 : BitVec 32 := Scalar.muli v521 c512_i32_286
  v522
def k0_mult33 (k0_t1 : Fin k0_t1_loop.trips) : BitVec 32 :=
  let c0_i32_10 : BitVec 32 := 0#32
  let c1_i32 : BitVec 32 := 1#32
  let arg8 : BitVec 32 := Scf.iv c0_i32_10 c1_i32 k0_t1
  let c16_i32_283 : BitVec 32 := 16#32
  let v518 : BitVec 32 := Scalar.muli arg8 c16_i32_283
  let c15_i32 : BitVec 32 := 15#32
  let v519 : BitVec 32 := Scalar.addi v518 c15_i32
  let c512_i32_294 : BitVec 32 := 512#32
  let v533 : BitVec 32 := Scalar.muli v519 c512_i32_294
  v533
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let c0_i32_0 : BitVec 32 := 0#32
  ![arg1.toNat, c0_i32.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x144x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16384x16x192 : Shape := ⟨3, ![16384, 16, 192]⟩
abbrev S16384x16x128 : Shape := ⟨3, ![16384, 16, 128]⟩
abbrev S16x16384x16384 : Shape := ⟨3, ![16, 16384, 16384]⟩
abbrev S_ : Shape := ⟨0, ![]⟩
abbrev S16x16384 : Shape := ⟨2, ![16, 16384]⟩
abbrev S16x16384x1 : Shape := ⟨3, ![16, 16384, 1]⟩
abbrev S16x128x16384 : Shape := ⟨3, ![16, 128, 16384]⟩
abbrev S16384x2048 : Shape := ⟨2, ![16384, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16384x16x192, .f32⟩
  | .hbm, ⟨1, _⟩ => ⟨S16384x16x192, .f32⟩
  | .hbm, ⟨2, _⟩ => ⟨S16384x16x128, .f32⟩
  | .hbm, ⟨3, _⟩ => ⟨S16x16384x16384, .f32⟩
  | .hbm, ⟨4, _⟩ => ⟨S_, .f32⟩
  | .hbm, ⟨5, _⟩ => ⟨S16x16384x16384, .f32⟩
  | .hbm, ⟨6, _⟩ => ⟨S16x16384x16384, .f32⟩
  | .hbm, ⟨7, _⟩ => ⟨S_, .f32⟩
  | .hbm, ⟨8, _⟩ => ⟨S16x16384, .f32⟩
  | .hbm, ⟨9, _⟩ => ⟨S_, .f32⟩
  | .hbm, ⟨10, _⟩ => ⟨S16x16384, .f32⟩
  | .hbm, ⟨11, _⟩ => ⟨S16x16384, .f32⟩
  | .hbm, ⟨12, _⟩ => ⟨S16x16384x1, .f32⟩
  | .hbm, ⟨13, _⟩ => ⟨S16x16384x16384, .f32⟩
  | .hbm, ⟨14, _⟩ => ⟨S16x16384x16384, .f32⟩
  | .hbm, ⟨15, _⟩ => ⟨S16x16384x16384, .f32⟩
  | .hbm, ⟨16, _⟩ => ⟨S_, .f32⟩
  | .hbm, ⟨17, _⟩ => ⟨S16x16384, .f32⟩
  | .hbm, ⟨18, _⟩ => ⟨S16x16384x1, .f32⟩
  | .hbm, ⟨19, _⟩ => ⟨S16x16384x16384, .f32⟩
  | .hbm, ⟨20, _⟩ => ⟨S16x16384x16384, .f32⟩
  | .hbm, ⟨21, _⟩ => ⟨S16x128x16384, .f32⟩
  | .hbm, ⟨22, _⟩ => ⟨S16384x16x128, .f32⟩
  | .hbm, ⟨23, _⟩ => ⟨S16384x2048, .f32⟩
  | .hbm, ⟨24, _⟩ => ⟨S16384x2048, .bf16⟩
  | _, _ => ⟨S16384x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel2.lean ====
abbrev S16384x2048 : Shape := ⟨2, ![16384, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S2048 : Shape := ⟨1, ![2048]⟩
abbrev S512x2048 : Shape := ⟨2, ![512, 2048]⟩
abbrev S1x2048x2048 : Shape := ⟨3, ![1, 2048, 2048]⟩
abbrev S512 : Shape := ⟨1, ![512]⟩
abbrev S512x1 : Shape := ⟨2, ![512, 1]⟩
abbrev S2048x2048 : Shape := ⟨2, ![2048, 2048]⟩

abbrev nBuf : Space → Nat
  | .hbm => 10
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S4x2048x8192, .bf16⟩
  | .hbm, ⟨8, _⟩ => ⟨S4x8192x2048, .bf16⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x2048x2048, .bf16⟩
  | .local _ .vmem, ⟨5, _⟩ => ⟨S1x2048x2048, .bf16⟩
  | .local _ .vmem, ⟨6, _⟩ => ⟨S1x2048x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S16384x2048 : Shape := ⟨2, ![16384, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048 : Shape := ⟨1, ![2048]⟩
abbrev S1x2048x8192 : Shape := ⟨3, ![1, 2048, 8192]⟩
abbrev S2048x8192 : Shape := ⟨2, ![2048, 8192]⟩
abbrev S16384x8192 : Shape := ⟨2, ![16384, 8192]⟩
abbrev S1x8192x2048 : Shape := ⟨3, ![1, 8192, 2048]⟩
abbrev S8192x2048 : Shape := ⟨2, ![8192, 2048]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S1x2048x8192, .f32⟩
  | .hbm, ⟨23, _⟩ => ⟨S2048x8192, .f32⟩
  | .hbm, ⟨24, _⟩ => ⟨S16384x8192, .f32⟩
  | .hbm, ⟨25, _⟩ => ⟨S_, .f32⟩
  | .hbm, ⟨26, _⟩ => ⟨S16384x8192, .f32⟩
  | .hbm, ⟨27, _⟩ => ⟨S16384x8192, .f32⟩
  | .hbm, ⟨28, _⟩ => ⟨S16384x8192, .f32⟩
  | .hbm, ⟨29, _⟩ => ⟨S1x8192x2048, .f32⟩
  | .hbm, ⟨30, _⟩ => ⟨S8192x2048, .f32⟩
  | .hbm, ⟨31, _⟩ => ⟨S16384x2048, .f32⟩
  | .hbm, ⟨32, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel3.lean ====
abbrev S16384x2048 : Shape := ⟨2, ![16384, 2048]⟩
abbrev S2048x2048 : Shape := ⟨2, ![2048, 2048]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x2048, .f32⟩
  | .hbm, ⟨3, _⟩ => ⟨S2048x2048, .bf16⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x2048, .f32⟩
  | .hbm, ⟨3, _⟩ => ⟨S16384x2048, .f32⟩
  | .hbm, ⟨4, _⟩ => ⟨S16384x2048, .f32⟩
  | .hbm, ⟨5, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S16384x2048 : Shape := ⟨2, ![16384, 2048]⟩
abbrev S2048x2048 : Shape := ⟨2, ![2048, 2048]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x2048, .f32⟩
  | .hbm, ⟨3, _⟩ => ⟨S2048x2048, .bf16⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16384x2048 : Shape := ⟨2, ![16384, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x2048, .f32⟩
  | .hbm, ⟨3, _⟩ => ⟨S16384x2048, .f32⟩
  | .hbm, ⟨4, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel5.lean ====
abbrev S16384x2048 : Shape := ⟨2, ![16384, 2048]⟩
abbrev S2048 : Shape := ⟨1, ![2048]⟩
abbrev S2048x512 : Shape := ⟨2, ![2048, 512]⟩
abbrev S512 : Shape := ⟨1, ![512]⟩
abbrev S512x3072 : Shape := ⟨2, ![512, 3072]⟩
abbrev S2048x576 : Shape := ⟨2, ![2048, 576]⟩
abbrev S512x4096 : Shape := ⟨2, ![512, 4096]⟩
abbrev S192 : Shape := ⟨1, ![192]⟩
abbrev S512x16x192 : Shape := ⟨3, ![512, 16, 192]⟩
abbrev S192x16x512 : Shape := ⟨3, ![192, 16, 512]⟩
abbrev S16x192x512 : Shape := ⟨3, ![16, 192, 512]⟩
abbrev S_ : Shape := ⟨0, ![]⟩
abbrev S16x256x512 : Shape := ⟨3, ![16, 256, 512]⟩
abbrev S4096x512 : Shape := ⟨2, ![4096, 512]⟩
abbrev S512x16x256 : Shape := ⟨3, ![512, 16, 256]⟩
abbrev S512x16x128 : Shape := ⟨3, ![512, 16, 128]⟩
abbrev S512x2048 : Shape := ⟨2, ![512, 2048]⟩
abbrev S2048x64 : Shape := ⟨2, ![2048, 64]⟩
abbrev S2048x128 : Shape := ⟨2, ![2048, 128]⟩
abbrev S2048x640 : Shape := ⟨2, ![2048, 640]⟩
abbrev S256 : Shape := ⟨1, ![256]⟩
abbrev S256x1 : Shape := ⟨2, ![256, 1]⟩
abbrev S1x2048 : Shape := ⟨2, ![1, 2048]⟩
abbrev S1x512 : Shape := ⟨2, ![1, 512]⟩
abbrev S128 : Shape := ⟨1, ![128]⟩
abbrev S64 : Shape := ⟨1, ![64]⟩
abbrev S1x256 : Shape := ⟨2, ![1, 256]⟩
abbrev S32 : Shape := ⟨1, ![32]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S1x16384x1x32 : Shape := ⟨4, ![1, 16384, 1, 32]⟩
abbrev S32x16384 : Shape := ⟨2, ![32, 16384]⟩
abbrev S16384x128 : Shape := ⟨2, ![16384, 128]⟩
abbrev S1x16384x1x128 : Shape := ⟨4, ![1, 16384, 1, 128]⟩
abbrev S16x256x16384 : Shape := ⟨3, ![16, 256, 16384]⟩
abbrev S16x16384x256 : Shape := ⟨3, ![16, 16384, 256]⟩
abbrev S16x144x16384 : Shape := ⟨3, ![16, 144, 16384]⟩
abbrev S32x512 : Shape := ⟨2, ![32, 512]⟩
abbrev S512x128 : Shape := ⟨2, ![512, 128]⟩
abbrev S16x512x256 : Shape := ⟨3, ![16, 512, 256]⟩
abbrev S16x144x512 : Shape := ⟨3, ![16, 144, 512]⟩
abbrev S512x1 : Shape := ⟨2, ![512, 1]⟩
abbrev S512x512 : Shape := ⟨2, ![512, 512]⟩
abbrev S256x512 : Shape := ⟨2, ![256, 512]⟩
abbrev S128x512 : Shape := ⟨2, ![128, 512]⟩
abbrev S1x128x512 : Shape := ⟨3, ![1, 128, 512]⟩
abbrev S1x32x512 : Shape := ⟨3, ![1, 32, 512]⟩
abbrev S64x512 : Shape := ⟨2, ![64, 512]⟩
abbrev S1x64x512 : Shape := ⟨3, ![1, 64, 512]⟩
abbrev S512x640 : Shape := ⟨2, ![512, 640]⟩
abbrev S1x128 : Shape := ⟨2, ![1, 128]⟩
abbrev S16x512 : Shape := ⟨2, ![16, 512]⟩
abbrev S512x256 : Shape := ⟨2, ![512, 256]⟩
abbrev S1x512x128 : Shape := ⟨3, ![1, 512, 128]⟩
abbrev S1x16x512 : Shape := ⟨3, ![1, 16, 512]⟩
abbrev S16x192x16384 : Shape := ⟨3, ![16, 192, 16384]⟩
abbrev S16384x16x192 : Shape := ⟨3, ![16384, 16, 192]⟩
abbrev S16x16384x192 : Shape := ⟨3, ![16, 16384, 192]⟩
abbrev S16x128x16384 : Shape := ⟨3, ![16, 128, 16384]⟩
abbrev S16384x16x128 : Shape := ⟨3, ![16384, 16, 128]⟩

abbrev nBuf : Space → Nat
  | .hbm => 104
  | .vmem => 26
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x512, .f32⟩
  | .hbm, ⟨3, _⟩ => ⟨S512, .f32⟩
  | .hbm, ⟨4, _⟩ => ⟨S512x3072, .f32⟩
  | .hbm, ⟨5, _⟩ => ⟨S2048x576, .f32⟩
  | .hbm, ⟨6, _⟩ => ⟨S512, .f32⟩
  | .hbm, ⟨7, _⟩ => ⟨S512x4096, .f32⟩
  | .hbm, ⟨8, _⟩ => ⟨S192, .f32⟩
  | .hbm, ⟨9, _⟩ => ⟨S192, .f32⟩
  | .hbm, ⟨10, _⟩ => ⟨S512x16x192, .f32⟩
  | .hbm, ⟨11, _⟩ => ⟨S192x16x512, .f32⟩
  | .hbm, ⟨12, _⟩ => ⟨S16x192x512, .f32⟩
  | .hbm, ⟨13, _⟩ => ⟨S_, .i32⟩
  | .hbm, ⟨14, _⟩ => ⟨S_, .f32⟩
  | .hbm, ⟨15, _⟩ => ⟨S16x256x512, .f32⟩
  | .hbm, ⟨16, _⟩ => ⟨S4096x512, .f32⟩
  | .hbm, ⟨17, _⟩ => ⟨S512x16x256, .f32⟩
  | .hbm, ⟨18, _⟩ => ⟨S512x16x128, .f32⟩
  | .hbm, ⟨19, _⟩ => ⟨S512x2048, .f32⟩
  | .hbm, ⟨20, _⟩ => ⟨S512x16x128, .f32⟩
  | .hbm, ⟨21, _⟩ => ⟨S512x2048, .f32⟩
  | .hbm, ⟨22, _⟩ => ⟨S2048x512, .f32⟩
  | .hbm, ⟨23, _⟩ => ⟨S2048x512, .f32⟩
  | .hbm, ⟨24, _⟩ => ⟨S2048x64, .f32⟩
  | .hbm, ⟨25, _⟩ => ⟨S2048x128, .f32⟩
  | .hbm, ⟨26, _⟩ => ⟨S2048x640, .f32⟩
  | .hbm, ⟨27, _⟩ => ⟨S_, .i32⟩
  | .hbm, ⟨28, _⟩ => ⟨S_, .f32⟩
  | .hbm, ⟨29, _⟩ => ⟨S256, .f32⟩
  | .hbm, ⟨30, _⟩ => ⟨S256x1, .f32⟩
  | .hbm, ⟨31, _⟩ => ⟨S1x2048, .f32⟩
  | .hbm, ⟨32, _⟩ => ⟨S2048x512, .bf16⟩
  | .hbm, ⟨33, _⟩ => ⟨S1x512, .f32⟩
  | .hbm, ⟨34, _⟩ => ⟨S4096x512, .bf16⟩
  | .hbm, ⟨35, _⟩ => ⟨S2048x640, .bf16⟩
  | .hbm, ⟨36, _⟩ => ⟨S1x512, .f32⟩
  | .hbm, ⟨37, _⟩ => ⟨S512x2048, .bf16⟩
  | .hbm, ⟨38, _⟩ => ⟨S2048x512, .bf16⟩
  | .hbm, ⟨39, _⟩ => ⟨S128, .f32⟩
  | .hbm, ⟨40, _⟩ => ⟨S64, .f32⟩
  | .hbm, ⟨41, _⟩ => ⟨S128, .f32⟩
  | .hbm, ⟨42, _⟩ => ⟨S256, .f32⟩
  | .hbm, ⟨43, _⟩ => ⟨S1x256, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S16384, .f32⟩
  | .hbm, ⟨59, _⟩ => ⟨S16384x1, .f32⟩
  | .hbm, ⟨60, _⟩ => ⟨S1x32, .f32⟩
  | .hbm, ⟨61, _⟩ => ⟨S16384x32, .f32⟩
  | .hbm, ⟨62, _⟩ => ⟨S16384x32, .f32⟩
  | .hbm, ⟨63, _⟩ => ⟨S16384x32, .f32⟩
  | .hbm, ⟨64, _⟩ => ⟨S16384x32, .f32⟩
  | .hbm, ⟨65, _⟩ => ⟨S16384x32, .f32⟩
  | .hbm, ⟨66, _⟩ => ⟨S_, .f32⟩
  | .hbm, ⟨67, _⟩ => ⟨S16384x32, .f32⟩
  | .hbm, ⟨68, _⟩ => ⟨S1x16384x1x32, .f32⟩
  | .hbm, ⟨69, _⟩ => ⟨S1x16384x1x32, .f32⟩
  | .hbm, ⟨70, _⟩ => ⟨S16384x32, .f32⟩
  | .hbm, ⟨71, _⟩ => ⟨S32x16384, .f32⟩
  | .hbm, ⟨72, _⟩ => ⟨S1x16384x1x32, .f32⟩
  | .hbm, ⟨73, _⟩ => ⟨S1x16384x1x32, .f32⟩
  | .hbm, ⟨74, _⟩ => ⟨S16384x32, .f32⟩
  | .hbm, ⟨75, _⟩ => ⟨S32x16384, .f32⟩
  | .hbm, ⟨76, _⟩ => ⟨S16384x128, .f32⟩
  | .hbm, ⟨77, _⟩ => ⟨S1x16384x1x128, .f32⟩
  | .hbm, ⟨78, _⟩ => ⟨S1x16384x1x128, .f32⟩
  | .hbm, ⟨79, _⟩ => ⟨S16384x128, .f32⟩
  | .hbm, ⟨80, _⟩ => ⟨S16384x32, .f32⟩
  | .hbm, ⟨81, _⟩ => ⟨S16384x128, .f32⟩
  | .hbm, ⟨82, _⟩ => ⟨S1x16384x1x128, .f32⟩
  | .hbm, ⟨83, _⟩ => ⟨S1x16384x1x128, .f32⟩
  | .hbm, ⟨84, _⟩ => ⟨S16384x128, .f32⟩
  | .hbm, ⟨85, _⟩ => ⟨S16x256x16384, .bf16⟩
  | .hbm, ⟨86, _⟩ => ⟨S16x16384x256, .bf16⟩
  | .hbm, ⟨87, _⟩ => ⟨S16x144x16384, .bf16⟩
  | .hbm, ⟨88, _⟩ => ⟨S16x192x16384, .bf16⟩
  | .hbm, ⟨89, _⟩ => ⟨S16384x16x192, .bf16⟩
  | .hbm, ⟨90, _⟩ => ⟨S16384x16x192, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S16384x16x192, .f32⟩
  | .hbm, ⟨97, _⟩ => ⟨S16384x16x192, .f32⟩
  | .hbm, ⟨98, _⟩ => ⟨S16x16384x192, .bf16⟩
  | .hbm, ⟨99, _⟩ => ⟨S16384x16x192, .bf16⟩
  | .hbm, ⟨100, _⟩ => ⟨S16384x16x192, .f32⟩
  | .hbm, ⟨101, _⟩ => ⟨S16x128x16384, .bf16⟩
  | .hbm, ⟨102, _⟩ => ⟨S16384x16x128, .bf16⟩
  | .hbm, ⟨103, _⟩ => ⟨S16384x16x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S1x512, .f32⟩
  | .local _ .vmem, ⟨5, _⟩ => ⟨S4096x512, .bf16⟩
  | .local _ .vmem, ⟨6, _⟩ => ⟨S256x1, .f32⟩
  | .local _ .vmem, ⟨7, _⟩ => ⟨S32x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S2048x640, .bf16⟩
  | .local _ .vmem, ⟨12, _⟩ => ⟨S1x512, .f32⟩
  | .local _ .vmem, ⟨13, _⟩ => ⟨S512x2048, .bf16⟩
  | .local _ .vmem, ⟨14, _⟩ => ⟨S2048x512, .bf16⟩
  | .local _ .vmem, ⟨15, _⟩ => ⟨S1x256, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S16x256x512, .bf16⟩
  | .local _ .vmem, ⟨21, _⟩ => ⟨S16x256x512, .bf16⟩
  | .local _ .vmem, ⟨22, _⟩ => ⟨S16x512x256, .bf16⟩
  | .local _ .vmem, ⟨23, _⟩ => ⟨S16x512x256, .bf16⟩
  | .local _ .vmem, ⟨24, _⟩ => ⟨S16x144x512, .bf16⟩
  | .local _ .vmem, ⟨25, _⟩ => ⟨S16x144x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_call1_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_v31 : Ref sig .tc := ⟨.hbm, 46, rfl⟩
abbrev main_v32 : Ref sig .tc := ⟨.hbm, 47, rfl⟩
abbrev main_cst_1 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_4 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66_0 : Ref sig .tc := ⟨.hbm, 85, rfl⟩
abbrev main_v66_1 : Ref sig .tc := ⟨.hbm, 86, rfl⟩
abbrev main_v66_2 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_5 : Ref sig .tc := ⟨.hbm, 91, rfl⟩
abbrev main_v70 : Ref sig .tc := ⟨.hbm, 92, rfl⟩
abbrev main_cst_6 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x640 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x144x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel5Ideal.lean ====
variable {F : FTy → Type} [FloatOps F] [Named F]
def κ : String → Option EReal := fun
  | "one_over_width" => some ((1 / 192 : ℝ) : EReal)
  | "score_scale" => some (((Real.sqrt 192)⁻¹ * (Real.log 2)⁻¹ : ℝ) : EReal)
  | _ => none
-- ==== Reference5Ideal.lean ====
abbrev S16384x2048 : Shape := ⟨2, ![16384, 2048]⟩
abbrev S2048 : Shape := ⟨1, ![2048]⟩
abbrev S2048x512 : Shape := ⟨2, ![2048, 512]⟩
abbrev S512 : Shape := ⟨1, ![512]⟩
abbrev S512x3072 : Shape := ⟨2, ![512, 3072]⟩
abbrev S2048x576 : Shape := ⟨2, ![2048, 576]⟩
abbrev S512x4096 : Shape := ⟨2, ![512, 4096]⟩
abbrev S192 : Shape := ⟨1, ![192]⟩
abbrev S32 : Shape := ⟨1, ![32]⟩
abbrev S_ : Shape := ⟨0, ![]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S16384x1x32 : Shape := ⟨3, ![16384, 1, 32]⟩
abbrev S1x2048 : Shape := ⟨2, ![1, 2048]⟩
abbrev S16384x512 : Shape := ⟨2, ![16384, 512]⟩
abbrev S1x512 : Shape := ⟨2, ![1, 512]⟩
abbrev S16384x3072 : Shape := ⟨2, ![16384, 3072]⟩
abbrev S16384x16x192 : Shape := ⟨3, ![16384, 16, 192]⟩
abbrev S16384x576 : Shape := ⟨2, ![16384, 576]⟩
abbrev S16384x64 : Shape := ⟨2, ![16384, 64]⟩
abbrev S16384x4096 : Shape := ⟨2, ![16384, 4096]⟩
abbrev S16384x16x256 : Shape := ⟨3, ![16384, 16, 256]⟩
abbrev S16384x16x128 : Shape := ⟨3, ![16384, 16, 128]⟩
abbrev S16384x1x64 : Shape := ⟨3, ![16384, 1, 64]⟩
abbrev S16384x16x64 : Shape := ⟨3, ![16384, 16, 64]⟩
abbrev S16384x16 : Shape := ⟨2, ![16384, 16]⟩
abbrev S16384x16x1 : Shape := ⟨3, ![16384, 16, 1]⟩
abbrev S1x1x192 : Shape := ⟨3, ![1, 1, 192]⟩
abbrev S16384x16x32 : Shape := ⟨3, ![16384, 16, 32]⟩

abbrev nBuf : Space → Nat
  | .hbm => 159
  | .vmem => 0
  | .smem => 0
  | _ => 0

abbrev hbmTy0_0 (i : Nat) : BufTy := match i % 128 with
  | 0 => ⟨S16384x2048, .f32⟩
  | 1 => ⟨S2048, .f32⟩
  | 2 => ⟨S2048x512, .f32⟩
  | 3 => ⟨S512, .f32⟩
  | 4 => ⟨S512x3072, .f32⟩
  | 5 => ⟨S2048x576, .f32⟩
  | 6 => ⟨S512, .f32⟩
  | 7 => ⟨S512x4096, .f32⟩
  | 8 => ⟨S192, .f32⟩
  | 9 => ⟨S192, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S16384, .f32⟩
  | 25 => ⟨S16384x1, .f32⟩
  | 26 => ⟨S1x32, .f32⟩
  | 27 => ⟨S16384x32, .f32⟩
  | 28 => ⟨S16384x32, .f32⟩
  | 29 => ⟨S16384x32, .f32⟩
  | 30 => ⟨S16384x32, .f32⟩
  | 31 => ⟨S16384x1x32, .f32⟩
  | 32 => ⟨S16384x32, .f32⟩
  | 33 => ⟨S16384x1x32, .f32⟩
  | 34 => ⟨S16384x2048, .f32⟩
  | 35 => ⟨S_, .f32⟩
  | 36 => ⟨S16384, .f32⟩
  | 37 => ⟨S16384x1, .f32⟩
  | 38 => ⟨S_, .f32⟩
  | 39 => ⟨S16384x1, .f32⟩
  | 40 => ⟨S16384x1, .f32⟩
  | 41 => ⟨S_, .f32⟩
  | 42 => ⟨S16384x1, .f32⟩
  | 43 => ⟨S16384x1, .f32⟩
  | 44 => ⟨S16384x1, .f32⟩
  | 45 => ⟨S16384x2048, .f32⟩
  | 46 => ⟨S16384x2048, .f32⟩
  | 47 => ⟨S1x2048, .f32⟩
  | 48 => ⟨S16384x2048, .f32⟩
  | 49 => ⟨S16384x2048, .f32⟩
  | 50 => ⟨S16384x512, .f32⟩
  | 51 => ⟨S16384x512, .f32⟩
  | 52 => ⟨S_, .f32⟩
  | 53 => ⟨S16384, .f32⟩
  | 54 => ⟨S16384x1, .f32⟩
  | 55 => ⟨S_, .f32⟩
  | 56 => ⟨S16384x1, .f32⟩
  | 57 => ⟨S16384x1, .f32⟩
  | 58 => ⟨S_, .f32⟩
  | 59 => ⟨S16384x1, .f32⟩
  | 60 => ⟨S16384x1, .f32⟩
  | 61 => ⟨S16384x1, .f32⟩
  | 62 => ⟨S16384x512, .f32⟩
  | 63 => ⟨S16384x512, .f32⟩
  | 64 => ⟨S1x512, .f32⟩
  | 65 => ⟨S16384x512, .f32⟩
  | 66 => ⟨S16384x512, .f32⟩
  | 67 => ⟨S16384x3072, .f32⟩
  | 68 => ⟨S16384x16x192, .f32⟩
  | 69 => ⟨S16384x576, .f32⟩
  | 70 => ⟨S16384x512, .f32⟩
  | 71 => ⟨S16384x64, .f32⟩
  | 72 => ⟨S16384x512, .f32⟩
  | 73 => ⟨S_, .f32⟩
  | 74 => ⟨S16384, .f32⟩
  | 75 => ⟨S16384x1, .f32⟩
  | 76 => ⟨S_, .f32⟩
  | 77 => ⟨S16384x1, .f32⟩
  | 78 => ⟨S16384x1, .f32⟩
  | 79 => ⟨S_, .f32⟩
  | 80 => ⟨S16384x1, .f32⟩
  | 81 => ⟨S16384x1, .f32⟩
  | 82 => ⟨S16384x1, .f32⟩
  | 83 => ⟨S16384x512, .f32⟩
  | 84 => ⟨S16384x512, .f32⟩
  | 85 => ⟨S1x512, .f32⟩
  | 86 => ⟨S16384x512, .f32⟩
  | 87 => ⟨S16384x512, .f32⟩
  | 88 => ⟨S16384x4096, .f32⟩
  | 89 => ⟨S16384x16x256, .f32⟩
  | 90 => ⟨S16384x16x128, .f32⟩
  | 91 => ⟨S16384x16x128, .f32⟩
  | 92 => ⟨S16384x1x64, .f32⟩
  | 93 => ⟨S16384x16x64, .f32⟩
  | 94 => ⟨S16384x16x192, .f32⟩
  | 95 => ⟨S16384x16x192, .f32⟩
  | 96 => ⟨S_, .f32⟩
  | 97 => ⟨S16384x16, .f32⟩
  | 98 => ⟨S16384x16x1, .f32⟩
  | 99 => ⟨S_, .f32⟩
  | 100 => ⟨S16384x16x1, .f32⟩
  | 101 => ⟨S16384x16x1, .f32⟩
  | 102 => ⟨S_, .f32⟩
  | 103 => ⟨S16384x16x1, .f32⟩
  | 104 => ⟨S16384x16x1, .f32⟩
  | 105 => ⟨S16384x16x1, .f32⟩
  | 106 => ⟨S16384x16x192, .f32⟩
  | 107 => ⟨S16384x16x192, .f32⟩
  | 108 => ⟨S1x1x192, .f32⟩
  | 109 => ⟨S16384x16x192, .f32⟩
  | 110 => ⟨S16384x16x192, .f32⟩
  | 111 => ⟨S16384x16x192, .f32⟩
  | 112 => ⟨S_, .f32⟩
  | 113 => ⟨S16384x16, .f32⟩
  | 114 => ⟨S16384x16x1, .f32⟩
  | 115 => ⟨S_, .f32⟩
  | 116 => ⟨S16384x16x1, .f32⟩
  | 117 => ⟨S16384x16x1, .f32⟩
  | 118 => ⟨S_, .f32⟩
  | 119 => ⟨S16384x16x1, .f32⟩
  | 120 => ⟨S16384x16x1, .f32⟩
  | 121 => ⟨S16384x16x1, .f32⟩
  | 122 => ⟨S16384x16x192, .f32⟩
  | 123 => ⟨S16384x16x192, .f32⟩
  | 124 => ⟨S1x1x192, .f32⟩
  | 125 => ⟨S16384x16x192, .f32⟩
  | 126 => ⟨S16384x16x192, .f32⟩
  | 127 => ⟨S16384x16x128, .f32⟩
  | _ => ⟨S16384x2048, .f32⟩

abbrev hbmTy0_1 (i : Nat) : BufTy := match i % 128 with
  | 0 => ⟨S16384x16x64, .f32⟩
  | 1 => ⟨S16384x16x32, .f32⟩
  | 2 => ⟨S16384x16x32, .f32⟩
  | 3 => ⟨S16384x16x32, .f32⟩
  | 4 => ⟨S16384x16x32, .f32⟩
  | 5 => ⟨S16384x16x32, .f32⟩
  | 6 => ⟨S16384x16x32, .f32⟩
  | 7 => ⟨S16384x16x32, .f32⟩
  | 8 => ⟨S16384x16x32, .f32⟩
  | 9 => ⟨S16384x16x32, .f32⟩
  | 10 => ⟨S16384x16x32, .f32⟩
  | 11 => ⟨S16384x16x32, .f32⟩
  | 12 => ⟨S16384x16x32, .f32⟩
  | 13 => ⟨S16384x16x64, .f32⟩
  | 14 => ⟨S16384x16x192, .f32⟩
  | 15 => ⟨S16384x16x128, .f32⟩
  | 16 => ⟨S16384x16x64, .f32⟩
  | 17 => ⟨S16384x16x32, .f32⟩
  | 18 => ⟨S16384x16x32, .f32⟩
  | 19 => ⟨S16384x16x32, .f32⟩
  | 20 => ⟨S16384x16x32, .f32⟩
  | 21 => ⟨S16384x16x32, .f32⟩
  | 22 => ⟨S16384x16x32, .f32⟩
  | 23 => ⟨S16384x16x32, .f32⟩
  | 24 => ⟨S16384x16x32, .f32⟩
  | 25 => ⟨S16384x16x32, .f32⟩
  | 26 => ⟨S16384x16x32, .f32⟩
  | 27 => ⟨S16384x16x32, .f32⟩
  | 28 => ⟨S16384x16x32, .f32⟩
  | 29 => ⟨S16384x16x64, .f32⟩
  | 30 => ⟨S16384x16x192, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_12 : Ref sig .tc := ⟨.hbm, 96, rfl⟩
abbrev main_v73 : Ref sig .tc := ⟨.hbm, 97, rfl⟩
abbrev main_v74 : Ref sig .tc := ⟨.hbm, 98, rfl⟩
abbrev main_cst_13 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_15 : Ref sig .tc := ⟨.hbm, 112, rfl⟩
abbrev main_v86 : Ref sig .tc := ⟨.hbm, 113, rfl⟩
abbrev main_v87 : Ref sig .tc := ⟨.hbm, 114, rfl⟩
abbrev main_cst_16 : Ref sig .tc := ⟨.hbm, 115, rfl⟩
abbrev main_v88 : Ref sig .tc := ⟨.hbm, 116, rfl⟩
abbrev main_v89 : Ref sig .tc := ⟨.hbm, 117, rfl⟩
abbrev main_cst_17 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩

abbrev nD : Nat := 1
abbrev τ : Topo := Topo.v7x

variable {F : FTy → Type} [FloatOps F]
-- ==== Proof.Trip.lean ====
/-
  One trip of the attention kernel's loop, at any float model: sixteen chunks of 512 keys, each of them the one step
  `step` below. The trip scores a chunk's successor while it takes the chunk in, and keeps the scores in a scratch of
  two slots; `trip_eq` says that what the trip yields is sixteen steps, and that slot 0 ends holding the scores of the
  chunk that comes next.
-/
module

public import proofs.«01_k».proof.Proof.Gen.KernelIdeal.Loops
public import Idealize.ShloMosaic.Lib.Pipeline.ValueKit.Tiles

@[expose] public section

set_option maxRecDepth 16384
set_option maxHeartbeats 1000000

noncomputable section

namespace Cert.Flash

open Idealize.ShloMosaic Idealize.ShloMosaic.TcCoe
open Idealize.SL.Sem
open Cert.KernelIdeal Cert.KernelIdeal.Gen

variable {F : FTy → Type} [FloatOps F]

/-- What a chunk starts from: its scores, their column maxima, the running maxima and the running sums. -/
structure St (F : FTy → Type) where
  s : Vec F S1x512x512 .f32
  c : FVec F S1x512 .f32
  m : FVec F S1x512 .f32
  acc : FVec F S144x512 .f32

/-- One chunk: the next chunk's scores and maxima from its keys `kn`, the maxima and sums from the values `vc`. -/
def step (q : FVec F S256x512 .bf16) (kn : Vec F S1x512x256 .bf16) (vc : Vec F S1x144x512 .bf16) (x : St F) : St F where
  s := k0_pay10 q kn
  c := k0_pay11 q kn
  m := k0_pay12 x.c x.m
  acc := k0_pay13 x.c x.m x.acc vc x.s

/-- The keys scored while chunk `n` is taken in: chunk `n + 1`'s, and the last chunk's again after the last. -/
def keysAt (K : S1x16384x256.Idx → Elt F .bf16) (n : ℕ) : Vec F S1x512x256 .bf16 := fun i =>
  K fun a => match a with
    | ⟨0, _⟩ => ⟨0, Nat.one_pos⟩
    | ⟨1, _⟩ => ⟨512 * min (n + 1) 31 + (i 1).val, by
        have h : (i 1).val < 512 := (i 1).isLt
        show 512 * min (n + 1) 31 + (i 1).val < 16384; omega⟩
    | ⟨2, _⟩ => ⟨(i 2).val, (i 2).isLt⟩

/-- The values of chunk `n`. -/
def valsAt (W : S1x144x16384.Idx → Elt F .bf16) (n : ℕ) : Vec F S1x144x512 .bf16 := fun i =>
  W fun a => match a with
    | ⟨0, _⟩ => ⟨0, Nat.one_pos⟩
    | ⟨1, _⟩ => ⟨(i 1).val, (i 1).isLt⟩
    | ⟨2, _⟩ => ⟨512 * min n 31 + (i 2).val, by
        have h : (i 2).val < 512 := (i 2).isLt
        show 512 * min n 31 + (i 2).val < 16384; omega⟩

/-- `n` chunks from chunk `b` on. -/
def steps (q : FVec F S256x512 .bf16) (K : S1x16384x256.Idx → Elt F .bf16) (W : S1x144x16384.Idx → Elt F .bf16)
    (b : ℕ) (x : St F) : ℕ → St F
  | 0 => x
  | n + 1 => step q (keysAt K (b + n)) (valsAt W (b + n)) (steps q K W b x n)

abbrev slot0 : Rect S2x520x512 := Rect.unit (s := S2x520x512) ![0, 0, 0] S1x512x512.size inb_S2x520x512_S1x512x512_0_0_0
abbrev slot1 : Rect S2x520x512 := Rect.unit (s := S2x520x512) ![1, 0, 0] S1x512x512.size inb_S2x520x512_S1x512x512_1_0_0

theorem slots_disjoint : Disjoint slot0.set slot1.set := by
  exact Rect.unit_disjoint (s := S2x520x512) 0 (Or.inl (by decide))

theorem trips_eq : k0_t1_loop.trips = 2 := by decide

theorem two_4 (q : FVec F S256x512 .bf16) (b : Vec F S1x512x256 .bf16) :
    k0_pay26 (k0_pay24 q b) = k0_pay11 q b := by rfl
theorem two_5 (q : FVec F S256x512 .bf16) (b : Vec F S1x512x256 .bf16) :
    k0_pay32 (k0_pay31 q b) = k0_pay11 q b := by rfl
theorem two_12 (q : FVec F S256x512 .bf16) (b : Vec F S1x512x256 .bf16) :
    k0_pay71 q (k0_pay68 b) = k0_pay11 q b := by rfl
theorem two_13 (q : FVec F S256x512 .bf16) (b : Vec F S1x512x256 .bf16) :
    k0_pay76 (k0_pay74 q b) = k0_pay11 q b := by rfl

section Trip

variable (arg3 : Memref sig .tc .vmem S1x256x512 .bf16) (harg3 : arg3.IsWhole)
  (arg4 : Memref sig .tc .vmem S1x16384x256 .bf16) (harg4 : arg4.IsWhole)
  (arg5 : Memref sig .tc .vmem S1x144x16384 .bf16) (harg5 : arg5.IsWhole)
  (arg6 : Memref sig .tc .vmem S512x128 .bf16) (harg6 : arg6.IsWhole)
  (arg7 : Memref sig .tc .vmem S2x520x512 .f32) (harg7 : arg7.IsWhole)
  (v0 : Vec F S1x256x512 .bf16) (X4 : BufTy.Contents (Elt F) arg4.view.ty) (X5 : BufTy.Contents (Elt F) arg5.view.ty)
  (k : Fin k0_t1_loop.trips)

theorem keys_read (r : ℕ) (hr : r < 16) (off : Fin 3 → ℕ) (hoff : off = k0_off1 k (BitVec.ofNat 32 r)) (inb) :
    View.readAt (Elt F) arg4.view (Rect.unit (s := S1x16384x256) off S1x512x256.size inb).toLoadRect X4
      = keysAt (arg4.view.read (Elt F) X4) (16 * k.val + r) := by
  funext i
  rw [View.readAt_eq_ld]
  refine View.ld_unit_apply_of _ _ _ _ i _ fun a => ?_
  have e := hoff.trans (k0_off1_eq k ⟨r, hr⟩)
  have hi : (i 0).val < 1 := (i 0).isLt
  subst e
  match a with
  | ⟨0, _⟩ => show 0 = 0 + (i 0).val; omega
  | ⟨1, _⟩ => rfl
  | ⟨2, _⟩ => exact (Nat.zero_add _).symm

theorem vals_read (r : ℕ) (hr : r < 16) (off : Fin 3 → ℕ) (hoff : off = k0_off2 k (BitVec.ofNat 32 r)) (inb) :
    View.readAt (Elt F) arg5.view (Rect.unit (s := S1x144x16384) off S1x144x512.size inb).toLoadRect X5
      = valsAt (arg5.view.read (Elt F) X5) (16 * k.val + r) := by
  funext i
  rw [View.readAt_eq_ld]
  refine View.ld_unit_apply_of _ _ _ _ i _ fun a => ?_
  have e := hoff.trans (k0_off2_eq k ⟨r, hr⟩)
  have hi : (i 0).val < 1 := (i 0).isLt
  have hk : k.val < 2 := Nat.lt_of_lt_of_eq k.isLt trips_eq
  subst e
  match a with
  | ⟨0, _⟩ => show 0 = 0 + (i 0).val; omega
  | ⟨1, _⟩ => exact (Nat.zero_add _).symm
  | ⟨2, _⟩ => show 512 * min (16 * k.val + r) 31 + (i 2).val = 8192 * k.val + 512 * r + (i 2).val; omega

/-- The last store into slot 0 is what slot 0 reads, whatever came before; -/
theorem slot0_hit (w : slot0.shape.Idx → Elt F .f32) (L : List (View.Piece (Elt F) S2x520x512 .f32)) :
    arg7.view.readCov (⟨slot0, w⟩ :: L) slot0.toLoadRect = w := View.readCov_cons_toLoadRect _ _ _ _
theorem slot1_hit (w : slot1.shape.Idx → Elt F .f32) (L : List (View.Piece (Elt F) S2x520x512 .f32)) :
    arg7.view.readCov (⟨slot1, w⟩ :: L) slot1.toLoadRect = w := View.readCov_cons_toLoadRect _ _ _ _
/-- and a store into the other slot does not change it. -/
theorem slot0_skip (w : slot1.shape.Idx → Elt F .f32) (L : List (View.Piece (Elt F) S2x520x512 .f32)) :
    arg7.view.readCov (⟨slot1, w⟩ :: L) slot0.toLoadRect = arg7.view.readCov L slot0.toLoadRect :=
  View.readCov_cons_of_disjoint _ _ _ _ slots_disjoint.symm
theorem slot1_skip (w : slot0.shape.Idx → Elt F .f32) (L : List (View.Piece (Elt F) S2x520x512 .f32)) :
    arg7.view.readCov (⟨slot0, w⟩ :: L) slot1.toLoadRect = arg7.view.readCov L slot1.toLoadRect :=
  View.readCov_cons_of_disjoint _ _ _ _ slots_disjoint

variable (acc : FVec F S1x512 .f32 × FVec F S1x512 .f32 × FVec F S144x512 .f32)
  (f7 : BufTy.Contents (Elt F) arg7.view.ty)

/-- What the trip starts from. -/
abbrev start : St F :=
  ⟨View.readAt (Elt F) arg7.view slot0.toLoadRect f7, acc.1, acc.2.1, acc.2.2⟩

/-- The state after `n` of the trip's chunks. -/
abbrev at_ (n : ℕ) : St F :=
  steps (k0_pay1 v0) (arg4.view.read (Elt F) X4) (arg5.view.read (Elt F) X5) (16 * k.val) (start arg7 acc f7) n

theorem at_s (n : ℕ) : (at_ arg4 arg5 arg7 v0 X4 X5 k acc f7 (n + 1)).s
    = k0_pay10 (k0_pay1 v0) (keysAt (arg4.view.read (Elt F) X4) (16 * k.val + n)) := by simp only [steps, step]
theorem at_c (n : ℕ) : (at_ arg4 arg5 arg7 v0 X4 X5 k acc f7 (n + 1)).c
    = k0_pay11 (k0_pay1 v0) (keysAt (arg4.view.read (Elt F) X4) (16 * k.val + n)) := by simp only [steps, step]
theorem at_m (n : ℕ) : (at_ arg4 arg5 arg7 v0 X4 X5 k acc f7 (n + 1)).m
    = k0_pay12 (at_ arg4 arg5 arg7 v0 X4 X5 k acc f7 n).c (at_ arg4 arg5 arg7 v0 X4 X5 k acc f7 n).m := by
  simp only [steps, step]
theorem at_acc (n : ℕ) : (at_ arg4 arg5 arg7 v0 X4 X5 k acc f7 (n + 1)).acc
    = k0_pay13 (at_ arg4 arg5 arg7 v0 X4 X5 k acc f7 n).c (at_ arg4 arg5 arg7 v0 X4 X5 k acc f7 n).m
        (at_ arg4 arg5 arg7 v0 X4 X5 k acc f7 n).acc (valsAt (arg5.view.read (Elt F) X5) (16 * k.val + n))
        (at_ arg4 arg5 arg7 v0 X4 X5 k acc f7 n).s := by
  simp only [steps, step]

theorem c_1 : trip_k0_t1.sl.r arg4 v0 X4 k = (at_ arg4 arg5 arg7 v0 X4 X5 k acc f7 1).c := by
  have h := keys_read arg4 X4 k 0 (by decide) (k0_off1 k 0#32) rfl (k0_off1_inb k ⟨0, by decide⟩)
  show k0_pay11 (k0_pay1 v0) (View.readAt (Elt F) arg4.view (Rect.unit (s := S1x16384x256) (k0_off1 k 0#32) S1x512x256.size (k0_off1_inb k ⟨0, by decide⟩)).toLoadRect X4) = _
  rw [h, at_c arg4 arg5 arg7 v0 X4 X5 k acc f7 0]
theorem m_1 : trip_k0_t1.sl.r_1 acc = (at_ arg4 arg5 arg7 v0 X4 X5 k acc f7 1).m := rfl
theorem s_1 : trip_k0_t1.sl.v77 arg4 arg7 v0 X4 k = (at_ arg4 arg5 arg7 v0 X4 X5 k acc f7 1).s := by
  have h := keys_read arg4 X4 k 0 (by decide) (k0_off1 k 0#32) rfl (k0_off1_inb k ⟨0, by decide⟩)
  refine (slot1_skip arg7 _ _).trans ((slot1_hit arg7 _ _).trans ?_)
  show k0_pay10 (k0_pay1 v0) (View.readAt (Elt F) arg4.view (Rect.unit (s := S1x16384x256) (k0_off1 k 0#32) S1x512x256.size (k0_off1_inb k ⟨0, by decide⟩)).toLoadRect X4) = _
  rw [h, at_s arg4 arg5 arg7 v0 X4 X5 k acc f7 0]
theorem a_1 : trip_k0_t1.sl.r_2 arg5 arg7 X5 k acc f7 = (at_ arg4 arg5 arg7 v0 X4 X5 k acc f7 1).acc := by
  have h := vals_read arg5 X5 k 0 (by decide) (k0_off2 k 0#32) rfl (k0_off2_inb k ⟨0, by decide⟩)
  show k0_pay13 acc.1 acc.2.1 acc.2.2 (View.readAt (Elt F) arg5.view (Rect.unit (s := S1x144x16384) (k0_off2 k 0#32) S1x144x512.size (k0_off2_inb k ⟨0, by decide⟩)).toLoadRect X5) (trip_k0_t1.sl.v44 arg7 f7) = _
  rw [h]; rw [at_acc arg4 arg5 arg7 v0 X4 X5 k acc f7 0]; rfl
theorem c_2 : trip_k0_t1.sl.r_3 arg4 v0 X4 k = (at_ arg4 arg5 arg7 v0 X4 X5 k acc f7 2).c := by
  have h := keys_read arg4 X4 k 1 (by decide) (k0_off1 k 1#32) rfl (k0_off1_inb k ⟨1, by decide⟩)
  show k0_pay11 (k0_pay1 v0) (View.readAt (Elt F) arg4.view (Rect.unit (s := S1x16384x256) (k0_off1 k 1#32) S1x512x256.size (k0_off1_inb k ⟨1, by decide⟩)).toLoadRect X4) = _
  rw [h, at_c arg4 arg5 arg7 v0 X4 X5 k acc f7 1]
theorem m_2 : trip_k0_t1.sl.r_4 arg4 v0 X4 k acc = (at_ arg4 arg5 arg7 v0 X4 X5 k acc f7 2).m := by
  show k0_pay12 (trip_k0_t1.sl.r arg4 v0 X4 k) (trip_k0_t1.sl.r_1 acc) = _
  rw [c_1 arg4 arg5 arg7 v0 X4 X5 k acc f7, m_1 arg4 arg5 arg7 v0 X4 X5 k acc f7, at_m arg4 arg5 arg7 v0 X4 X5 k acc f7 1]
theorem s_2 : trip_k0_t1.sl.v110 arg4 arg7 v0 X4 k = (at_ arg4 arg5 arg7 v0 X4 X5 k acc f7 2).s := by
  have h := keys_read arg4 X4 k 1 (by decide) (k0_off1 k 1#32) rfl (k0_off1_inb k ⟨1, by decide⟩)
  refine (slot0_skip arg7 _ _).trans ((slot0_hit arg7 _ _).trans ?_)
  show k0_pay10 (k0_pay1 v0) (View.readAt (Elt F) arg4.view (Rect.unit (s := S1x16384x256) (k0_off1 k 1#32) S1x512x256.size (k0_off1_inb k ⟨1, by decide⟩)).toLoadRect X4) = _
  rw [h, at_s arg4 arg5 arg7 v0 X4 X5 k acc f7 1]
theorem a_2 : trip_k0_t1.sl.r_5 arg4 arg5 arg7 v0 X4 X5 k acc f7 = (at_ arg4 arg5 arg7 v0 X4 X5 k acc f7 2).acc := by
  have h := vals_read arg5 X5 k 1 (by decide) (k0_off2 k 1#32) rfl (k0_off2_inb k ⟨1, by decide⟩)
  show k0_pay13 (trip_k0_t1.sl.r arg4 v0 X4 k) (trip_k0_t1.sl.r_1 acc) (trip_k0_t1.sl.r_2 arg5 arg7 X5 k acc f7) (View.readAt (Elt F) arg5.view (Rect.unit (s := S1x144x16384) (k0_off2 k 1#32) S1x144x512.size (k0_off2_inb k ⟨1, by decide⟩)).toLoadRect X5) (trip_k0_t1.sl.v77 arg4 arg7 v0 X4 k) = _
  rw [h]; rw [a_1 arg4 arg5 arg7 v0 X4 X5 k acc f7, c_1 arg4 arg5 arg7 v0 X4 X5 k acc f7, m_1 arg4 arg5 arg7 v0 X4 X5 k acc f7, s_1 arg4 arg5 arg7 v0 X4 X5 k acc f7]; rw [at_acc arg4 arg5 arg7 v0 X4 X5 k acc f7 1]
theorem c_3 : trip_k0_t1.sl.r_6 arg4 v0 X4 k = (at_ arg4 arg5 arg7 v0 X4 X5 k acc f7 3).c := by
  have h := keys_read arg4 X4 k 2 (by decide) (k0_off1 k 2#32) rfl (k0_off1_inb k ⟨2, by decide⟩)
  show k0_pay11 (k0_pay1 v0) (View.readAt (Elt F) arg4.view (Rect.unit (s := S1x16384x256) (k0_off1 k 2#32) S1x512x256.size (k0_off1_inb k ⟨2, by decide⟩)).toLoadRect X4) = _
  rw [h, at_c arg4 arg5 arg7 v0 X4 X5 k acc f7 2]
theorem m_3 : trip_k0_t1.sl.r_7 arg4 v0 X4 k acc = (at_ arg4 arg5 arg7 v0 X4 X5 k acc f7 3).m := by
  show k0_pay12 (trip_k0_t1.sl.r_3 arg4 v0 X4 k) (trip_k0_t1.sl.r_4 arg4 v0 X4 k acc) = _
  rw [c_2 arg4 arg5 arg7 v0 X4 X5 k acc f7, m_2 arg4 arg5 arg7 v0 X4 X5 k acc f7, at_m arg4 arg5 arg7 v0 X4 X5 k acc f7 2]
theorem s_3 : trip_k0_t1.sl.v143 arg4 arg7 v0 X4 k = (at_ arg4 arg5 arg7 v0 X4 X5 k acc f7 3).s := by
  have h := keys_read arg4 X4 k 2 (by decide) (k0_off1 k 2#32) rfl (k0_off1_inb k ⟨2, by decide⟩)
  refine (slot1_skip arg7 _ _).trans ((slot1_hit arg7 _ _).trans ?_)
  show k0_pay10 (k0_pay1 v0) (View.readAt (Elt F) arg4.view (Rect.unit (s := S1x16384x256) (k0_off1 k 2#32) S1x512x256.size (k0_off1_inb k ⟨2, by decide⟩)).toLoadRect X4) = _
  rw [h, at_s arg4 arg5 arg7 v0 X4 X5 k acc f7 2]
theorem a_3 : trip_k0_t1.sl.r_8 arg4 arg5 arg7 v0 X4 X5 k acc f7 = (at_ arg4 arg5 arg7 v0 X4 X5 k acc f7 3).acc := by
  have h := vals_read arg5 X5 k 2 (by decide) (k0_off2 k 2#32) rfl (k0_off2_inb k ⟨2, by decide⟩)
  show k0_pay13 (trip_k0_t1.sl.r_3 arg4 v0 X4 k) (trip_k0_t1.sl.r_4 arg4 v0 X4 k acc) (trip_k0_t1.sl.r_5 arg4 arg5 arg7 v0 X4 X5 k acc f7) (View.readAt (Elt F) arg5.view (Rect.unit (s := S1x144x16384) (k0_off2 k 2#32) S1x144x512.size (k0_off2_inb k ⟨2, by decide⟩)).toLoadRect X5) (trip_k0_t1.sl.v110 arg4 arg7 v0 X4 k) = _
  rw [h]; rw [a_2 arg4 arg5 arg7 v0 X4 X5 k acc f7, c_2 arg4 arg5 arg7 v0 X4 X5 k acc f7, m_2 arg4 arg5 arg7 v0 X4 X5 k acc f7, s_2 arg4 arg5 arg7 v0 X4 X5 k acc f7]; rw [at_acc arg4 arg5 arg7 v0 X4 X5 k acc f7 2]
theorem c_4 : trip_k0_t1.sl.r_10 arg4 v0 X4 k = (at_ arg4 arg5 arg7 v0 X4 X5 k acc f7 4).c := by
  have h := keys_read arg4 X4 k 3 (by decide) (k0_off1 k 3#32) rfl (k0_off1_inb k ⟨3, by decide⟩)
  unfold trip_k0_t1.sl.r_10 trip_k0_t1.sl.r_9
  rw [two_4]
  show k0_pay11 (k0_pay1 v0) (View.readAt (Elt F) arg4.view (Rect.unit (s := S1x16384x256) (k0_off1 k 3#32) S1x512x256.size (k0_off1_inb k ⟨3, by decide⟩)).toLoadRect X4) = _
  rw [h, at_c arg4 arg5 arg7 v0 X4 X5 k acc f7 3]
theorem m_4 : trip_k0_t1.sl.r_11 arg4 v0 X4 k acc = (at_ arg4 arg5 arg7 v0 X4 X5 k acc f7 4).m := by
  show k0_pay12 (trip_k0_t1.sl.r_6 arg4 v0 X4 k) (trip_k0_t1.sl.r_7 arg4 v0 X4 k acc) = _
  rw [c_3 arg4 arg5 arg7 v0 X4 X5 k acc f7, m_3 arg4 arg5 arg7 v0 X4 X5 k acc f7, at_m arg4 arg5 arg7 v0 X4 X5 k acc f7 3]
theorem s_4 : trip_k0_t1.sl.v176 arg4 arg7 v0 X4 k = (at_ arg4 arg5 arg7 v0 X4 X5 k acc f7 4).s := by
  have h := keys_read arg4 X4 k 3 (by decide) (k0_off1 k 3#32) rfl (k0_off1_inb k ⟨3, by decide⟩)
  refine (slot0_skip arg7 _ _).trans ((slot0_hit arg7 _ _).trans ?_)
  show k0_pay10 (k0_pay1 v0) (View.readAt (Elt F) arg4.view (Rect.unit (s := S1x16384x256) (k0_off1 k 3#32) S1x512x256.size (k0_off1_inb k ⟨3, by decide⟩)).toLoadRect X4) = _
  rw [h, at_s arg4 arg5 arg7 v0 X4 X5 k acc f7 3]
theorem a_4 : trip_k0_t1.sl.r_12 arg4 arg5 arg7 v0 X4 X5 k acc f7 = (at_ arg4 arg5 arg7 v0 X4 X5 k acc f7 4).acc := by
  have h := vals_read arg5 X5 k 3 (by decide) (k0_off2 k 3#32) rfl (k0_off2_inb k ⟨3, by decide⟩)
  show k0_pay13 (trip_k0_t1.sl.r_6 arg4 v0 X4 k) (trip_k0_t1.sl.r_7 arg4 v0 X4 k acc) (trip_k0_t1.sl.r_8 arg4 arg5 arg7 v0 X4 X5 k acc f7) (View.readAt (Elt F) arg5.view (Rect.unit (s := S1x144x16384) (k0_off2 k 3#32) S1x144x512.size (k0_off2_inb k ⟨3, by decide⟩)).toLoadRect X5) (trip_k0_t1.sl.v143 arg4 arg7 v0 X4 k) = _
  rw [h]; rw [a_3 arg4 arg5 arg7 v0 X4 X5 k acc f7, c_3 arg4 arg5 arg7 v0 X4 X5 k acc f7, m_3 arg4 arg5 arg7 v0 X4 X5 k acc f7, s_3 arg4 arg5 arg7 v0 X4 X5 k acc f7]; rw [at_acc arg4 arg5 arg7 v0 X4 X5 k acc f7 3]
theorem c_5 : trip_k0_t1.sl.r_14 arg4 v0 X4 k = (at_ arg4 arg5 arg7 v0 X4 X5 k acc f7 5).c := by
  have h := keys_read arg4 X4 k 4 (by decide) (k0_off1 k 4#32) rfl (k0_off1_inb k ⟨4, by decide⟩)
  unfold trip_k0_t1.sl.r_14 trip_k0_t1.sl.r_13
  rw [two_5]
  show k0_pay11 (k0_pay1 v0) (View.readAt (Elt F) arg4.view (Rect.unit (s := S1x16384x256) (k0_off1 k 4#32) S1x512x256.size (k0_off1_inb k ⟨4, by decide⟩)).toLoadRect X4) = _
  rw [h, at_c arg4 arg5 arg7 v0 X4 X5 k acc f7 4]
theorem m_5 : trip_k0_t1.sl.r_15 arg4 v0 X4 k acc = (at_ arg4 arg5 arg7 v0 X4 X5 k acc f7 5).m := by
  show k0_pay12 (trip_k0_t1.sl.r_10 arg4 v0 X4 k) (trip_k0_t1.sl.r_11 arg4 v0 X4 k acc) = _
  rw [c_4 arg4 arg5 arg7 v0 X4 X5 k acc f7, m_4 arg4 arg5 arg7 v0 X4 X5 k acc f7, at_m arg4 arg5 arg7 v0 X4 X5 k acc f7 4]
theorem s_5 : trip_k0_t1.sl.v209 arg4 arg7 v0 X4 k = (at_ arg4 arg5 arg7 v0 X4 X5 k acc f7 5).s := by
  have h := keys_read arg4 X4 k 4 (by decide) (k0_off1 k 4#32) rfl (k0_off1_inb k ⟨4, by decide⟩)
  refine (slot1_skip arg7 _ _).trans ((slot1_hit arg7 _ _).trans ?_)
  show k0_pay10 (k0_pay1 v0) (View.readAt (Elt F) arg4.view (Rect.unit (s := S1x16384x256) (k0_off1 k 4#32) S1x512x256.size (k0_off1_inb k ⟨4, by decide⟩)).toLoadRect X4) = _
  rw [h, at_s arg4 arg5 arg7 v0 X4 X5 k acc f7 4]
theorem a_5 : trip_k0_t1.sl.r_16 arg4 arg5 arg7 v0 X4 X5 k acc f7 = (at_ arg4 arg5 arg7 v0 X4 X5 k acc f7 5).acc := by
  have h := vals_read arg5 X5 k 4 (by decide) (k0_off2 k 4#32) rfl (k0_off2_inb k ⟨4, by decide⟩)
  show k0_pay13 (trip_k0_t1.sl.r_10 arg4 v0 X4 k) (trip_k0_t1.sl.r_11 arg4 v0 X4 k acc) (trip_k0_t1.sl.r_12 arg4 arg5 arg7 v0 X4 X5 k acc f7) (View.readAt (Elt F) arg5.view (Rect.unit (s := S1x144x16384) (k0_off2 k 4#32) S1x144x512.size (k0_off2_inb k ⟨4, by decide⟩)).toLoadRect X5) (trip_k0_t1.sl.v176 arg4 arg7 v0 X4 k) = _
  rw [h]; rw [a_4 arg4 arg5 arg7 v0 X4 X5 k acc f7, c_4 arg4 arg5 arg7 v0 X4 X5 k acc f7, m_4 arg4 arg5 arg7 v0 X4 X5 k acc f7, s_4 arg4 arg5 arg7 v0 X4 X5 k acc f7]; rw [at_acc arg4 arg5 arg7 v0 X4 X5 k acc f7 4]
theorem c_6 : trip_k0_t1.sl.r_17 arg4 v0 X4 k = (at_ arg4 arg5 arg7 v0 X4 X5 k acc f7 6).c := by
  have h := keys_read arg4 X4 k 5 (by decide) (k0_off1 k 5#32) rfl (k0_off1_inb k ⟨5, by decide⟩)
  show k0_pay11 (k0_pay1 v0) (View.readAt (Elt F) arg4.view (Rect.unit (s := S1x16384x256) (k0_off1 k 5#32) S1x512x256.size (k0_off1_inb k ⟨5, by decide⟩)).toLoadRect X4) = _
  rw [h, at_c arg4 arg5 arg7 v0 X4 X5 k acc f7 5]
theorem m_6 : trip_k0_t1.sl.r_18 arg4 v0 X4 k acc = (at_ arg4 arg5 arg7 v0 X4 X5 k acc f7 6).m := by
  show k0_pay12 (trip_k0_t1.sl.r_14 arg4 v0 X4 k) (trip_k0_t1.sl.r_15 arg4 v0 X4 k acc) = _
  rw [c_5 arg4 arg5 arg7 v0 X4 X5 k acc f7, m_5 arg4 arg5 arg7 v0 X4 X5 k acc f7, at_m arg4 arg5 arg7 v0 X4 X5 k acc f7 5]
theorem s_6 : trip_k0_t1.sl.v242 arg4 arg7 v0 X4 k = (at_ arg4 arg5 arg7 v0 X4 X5 k acc f7 6).s := by
  have h := keys_read arg4 X4 k 5 (by decide) (k0_off1 k 5#32) rfl (k0_off1_inb k ⟨5, by decide⟩)
  refine (slot0_skip arg7 _ _).trans ((slot0_hit arg7 _ _).trans ?_)
  show k0_pay10 (k0_pay1 v0) (View.readAt (Elt F) arg4.view (Rect.unit (s := S1x16384x256) (k0_off1 k 5#32) S1x512x256.size (k0_off1_inb k ⟨5, by decide⟩)).toLoadRect X4) = _
  rw [h, at_s arg4 arg5 arg7 v0 X4 X5 k acc f7 5]
theorem a_6 : trip_k0_t1.sl.r_19 arg4 arg5 arg7 v0 X4 X5 k acc f7 = (at_ arg4 arg5 arg7 v0 X4 X5 k acc f7 6).acc := by
  have h := vals_read arg5 X5 k 5 (by decide) (k0_off2 k 5#32) rfl (k0_off2_inb k ⟨5, by decide⟩)
  show k0_pay13 (trip_k0_t1.sl.r_14 arg4 v0 X4 k) (trip_k0_t1.sl.r_15 arg4 v0 X4 k acc) (trip_k0_t1.sl.r_16 arg4 arg5 arg7 v0 X4 X5 k acc f7) (View.readAt (Elt F) arg5.view (Rect.unit (s := S1x144x16384) (k0_off2 k 5#32) S1x144x512.size (k0_off2_inb k ⟨5, by decide⟩)).toLoadRect X5) (trip_k0_t1.sl.v209 arg4 arg7 v0 X4 k) = _
  rw [h]; rw [a_5 arg4 arg5 arg7 v0 X4 X5 k acc f7, c_5 arg4 arg5 arg7 v0 X4 X5 k acc f7, m_5 arg4 arg5 arg7 v0 X4 X5 k acc f7, s_5 arg4 arg5 arg7 v0 X4 X5 k acc f7]; rw [at_acc arg4 arg5 arg7 v0 X4 X5 k acc f7 5]
theorem c_7 : trip_k0_t1.sl.r_20 arg4 v0 X4 k = (at_ arg4 arg5 arg7 v0 X4 X5 k acc f7 7).c := by
  have h := keys_read arg4 X4 k 6 (by decide) (k0_off1 k 6#32) rfl (k0_off1_inb k ⟨6, by decide⟩)
  show k0_pay11 (k0_pay1 v0) (View.readAt (Elt F) arg4.view (Rect.unit (s := S1x16384x256) (k0_off1 k 6#32) S1x512x256.size (k0_off1_inb k ⟨6, by decide⟩)).toLoadRect X4) = _
  rw [h, at_c arg4 arg5 arg7 v0 X4 X5 k acc f7 6]
theorem m_7 : trip_k0_t1.sl.r_22 arg4 v0 X4 k acc = (at_ arg4 arg5 arg7 v0 X4 X5 k acc f7 7).m := by
  show k0_pay12 (trip_k0_t1.sl.r_17 arg4 v0 X4 k) (trip_k0_t1.sl.r_18 arg4 v0 X4 k acc) = _
  rw [c_6 arg4 arg5 arg7 v0 X4 X5 k acc f7, m_6 arg4 arg5 arg7 v0 X4 X5 k acc f7, at_m arg4 arg5 arg7 v0 X4 X5 k acc f7 6]
theorem s_7 : trip_k0_t1.sl.v275 arg4 arg7 v0 X4 k = (at_ arg4 arg5 arg7 v0 X4 X5 k acc f7 7).s := by
  have h := keys_read arg4 X4 k 6 (by decide) (k0_off1 k 6#32) rfl (k0_off1_inb k ⟨6, by decide⟩)
  refine (slot1_skip arg7 _ _).trans ((slot1_hit arg7 _ _).trans ?_)
  show k0_pay10 (k0_pay1 v0) (View.readAt (Elt F) arg4.view (Rect.unit (s := S1x16384x256) (k0_off1 k 6#32) S1x512x256.size (k0_off1_inb k ⟨6, by decide⟩)).toLoadRect X4) = _
  rw [h, at_s arg4 arg5 arg7 v0 X4 X5 k acc f7 6]
theorem a_7 : trip_k0_t1.sl.r_23 arg4 arg5 arg7 v0 X4 X5 k acc f7 = (at_ arg4 arg5 arg7 v0 X4 X5 k acc f7 7).acc := by
  have h := vals_read arg5 X5 k 6 (by decide) (k0_off2 k 6#32) rfl (k0_off2_inb k ⟨6, by decide⟩)
  show k0_pay13 (trip_k0_t1.sl.r_17 arg4 v0 X4 k) (trip_k0_t1.sl.r_18 arg4 v0 X4 k acc) (trip_k0_t1.sl.r_19 arg4 arg5 arg7 v0 X4 X5 k acc f7) (View.readAt (Elt F) arg5.view (Rect.unit (s := S1x144x16384) (k0_off2 k 6#32) S1x144x512.size (k0_off2_inb k ⟨6, by decide⟩)).toLoadRect X5) (trip_k0_t1.sl.v242 arg4 arg7 v0 X4 k) = _
  rw [h]; rw [a_6 arg4 arg5 arg7 v0 X4 X5 k acc f7, c_6 arg4 arg5 arg7 v0 X4 X5 k acc f7, m_6 arg4 arg5 arg7 v0 X4 X5 k acc f7, s_6 arg4 arg5 arg7 v0 X4 X5 k acc f7]; rw [at_acc arg4 arg5 arg7 v0 X4 X5 k acc f7 6]
theorem c_8 : trip_k0_t1.sl.r_24 arg4 v0 X4 k = (at_ arg4 arg5 arg7 v0 X4 X5 k acc f7 8).c := by
  have h := keys_read arg4 X4 k 7 (by decide) (k0_off1 k 7#32) rfl (k0_off1_inb k ⟨7, by decide⟩)
  show k0_pay11 (k0_pay1 v0) (View.readAt (Elt F) arg4.view (Rect.unit (s := S1x16384x256) (k0_off1 k 7#32) S1x512x256.size (k0_off1_inb k ⟨7, by decide⟩)).toLoadRect X4) = _
  rw [h, at_c arg4 arg5 arg7 v0 X4 X5 k acc f7 7]
theorem m_8 : trip_k0_t1.sl.r_26 arg4 v0 X4 k acc = (at_ arg4 arg5 arg7 v0 X4 X5 k acc f7 8).m := by
  show k0_pay12 (trip_k0_t1.sl.r_20 arg4 v0 X4 k) (trip_k0_t1.sl.r_22 arg4 v0 X4 k acc) = _
  rw [c_7 arg4 arg5 arg7 v0 X4 X5 k acc f7, m_7 arg4 arg5 arg7 v0 X4 X5 k acc f7, at_m arg4 arg5 arg7 v0 X4 X5 k acc f7 7]
theorem s_8 : trip_k0_t1.sl.v308 arg4 arg7 v0 X4 k = (at_ arg4 arg5 arg7 v0 X4 X5 k acc f7 8).s := by
  have h := keys_read arg4 X4 k 7 (by decide) (k0_off1 k 7#32) rfl (k0_off1_inb k ⟨7, by decide⟩)
  refine (slot0_skip arg7 _ _).trans ((slot0_hit arg7 _ _).trans ?_)
  show k0_pay10 (k0_pay1 v0) (View.readAt (Elt F) arg4.view (Rect.unit (s := S1x16384x256) (k0_off1 k 7#32) S1x512x256.size (k0_off1_inb k ⟨7, by decide⟩)).toLoadRect X4) = _
  rw [h, at_s arg4 arg5 arg7 v0 X4 X5 k acc f7 7]
theorem a_8 : k0_pay13 (trip_k0_t1.sl.r_20 arg4 v0 X4 k) (trip_k0_t1.sl.r_22 arg4 v0 X4 k acc) (trip_k0_t1.sl.r_23 arg4 arg5 arg7 v0 X4 X5 k acc f7) (View.readAt (Elt F) arg5.view (Rect.unit (s := S1x144x16384) (k0_off2 k 7#32) S1x144x512.size (k0_off2_inb k ⟨7, by decide⟩)).toLoadRect X5) (trip_k0_t1.sl.v275 arg4 arg7 v0 X4 k) = (at_ arg4 arg5 arg7 v0 X4 X5 k acc f7 8).acc := by
  have h := vals_read arg5 X5 k 7 (by decide) (k0_off2 k 7#32) rfl (k0_off2_inb k ⟨7, by decide⟩)
  show k0_pay13 (trip_k0_t1.sl.r_20 arg4 v0 X4 k) (trip_k0_t1.sl.r_22 arg4 v0 X4 k acc) (trip_k0_t1.sl.r_23 arg4 arg5 arg7 v0 X4 X5 k acc f7) (View.readAt (Elt F) arg5.view (Rect.unit (s := S1x144x16384) (k0_off2 k 7#32) S1x144x512.size (k0_off2_inb k ⟨7, by decide⟩)).toLoadRect X5) (trip_k0_t1.sl.v275 arg4 arg7 v0 X4 k) = _
  rw [h]; rw [a_7 arg4 arg5 arg7 v0 X4 X5 k acc f7, c_7 arg4 arg5 arg7 v0 X4 X5 k acc f7, m_7 arg4 arg5 arg7 v0 X4 X5 k acc f7, s_7 arg4 arg5 arg7 v0 X4 X5 k acc f7]; rw [at_acc arg4 arg5 arg7 v0 X4 X5 k acc f7 7]
theorem c_9 : trip_k0_t1.sl.r_29 arg4 v0 X4 k = (at_ arg4 arg5 arg7 v0 X4 X5 k acc f7 9).c := by
  have h := keys_read arg4 X4 k 8 (by decide) (k0_off1 k 8#32) rfl (k0_off1_inb k ⟨8, by decide⟩)
  show k0_pay11 (k0_pay1 v0) (View.readAt (Elt F) arg4.view (Rect.unit (s := S1x16384x256) (k0_off1 k 8#32) S1x512x256.size (k0_off1_inb k ⟨8, by decide⟩)).toLoadRect X4) = _
  rw [h, at_c arg4 arg5 arg7 v0 X4 X5 k acc f7 8]
theorem m_9 : trip_k0_t1.sl.r_30 arg4 v0 X4 k acc = (at_ arg4 arg5 arg7 v0 X4 X5 k acc f7 9).m := by
  show k0_pay12 (trip_k0_t1.sl.r_24 arg4 v0 X4 k) (trip_k0_t1.sl.r_26 arg4 v0 X4 k acc) = _
  rw [c_8 arg4 arg5 arg7 v0 X4 X5 k acc f7, m_8 arg4 arg5 arg7 v0 X4 X5 k acc f7, at_m arg4 arg5 arg7 v0 X4 X5 k acc f7 8]
theorem s_9 : trip_k0_t1.sl.v341 arg4 arg7 v0 X4 k = (at_ arg4 arg5 arg7 v0 X4 X5 k acc f7 9).s := by
  have h := keys_read arg4 X4 k 8 (by decide) (k0_off1 k 8#32) rfl (k0_off1_inb k ⟨8, by decide⟩)
  refine (slot1_skip arg7 _ _).trans ((slot1_hit arg7 _ _).trans ?_)
  show k0_pay10 (k0_pay1 v0) (View.readAt (Elt F) arg4.view (Rect.unit (s := S1x16384x256) (k0_off1 k 8#32) S1x512x256.size (k0_off1_inb k ⟨8, by decide⟩)).toLoadRect X4) = _
  rw [h, at_s arg4 arg5 arg7 v0 X4 X5 k acc f7 8]
theorem a_9 : trip_k0_t1.sl.r_31 arg4 arg5 arg7 v0 X4 X5 k acc f7 = (at_ arg4 arg5 arg7 v0 X4 X5 k acc f7 9).acc := by
  have h := vals_read arg5 X5 k 8 (by decide) (k0_off2 k 8#32) rfl (k0_off2_inb k ⟨8, by decide⟩)
  show k0_pay13 (trip_k0_t1.sl.r_24 arg4 v0 X4 k) (trip_k0_t1.sl.r_26 arg4 v0 X4 k acc) (k0_pay13 (trip_k0_t1.sl.r_20 arg4 v0 X4 k) (trip_k0_t1.sl.r_22 arg4 v0 X4 k acc) (trip_k0_t1.sl.r_23 arg4 arg5 arg7 v0 X4 X5 k acc f7) (View.readAt (Elt F) arg5.view (Rect.unit (s := S1x144x16384) (k0_off2 k 7#32) S1x144x512.size (k0_off2_inb k ⟨7, by decide⟩)).toLoadRect X5) (trip_k0_t1.sl.v275 arg4 arg7 v0 X4 k)) (View.readAt (Elt F) arg5.view (Rect.unit (s := S1x144x16384) (k0_off2 k 8#32) S1x144x512.size (k0_off2_inb k ⟨8, by decide⟩)).toLoadRect X5) (trip_k0_t1.sl.v308 arg4 arg7 v0 X4 k) = _
  rw [h]; rw [a_8 arg4 arg5 arg7 v0 X4 X5 k acc f7, c_8 arg4 arg5 arg7 v0 X4 X5 k acc f7, m_8 arg4 arg5 arg7 v0 X4 X5 k acc f7, s_8 arg4 arg5 arg7 v0 X4 X5 k acc f7]; rw [at_acc arg4 arg5 arg7 v0 X4 X5 k acc f7 8]
theorem c_10 : trip_k0_t1.sl.r_32 arg4 v0 X4 k = (at_ arg4 arg5 arg7 v0 X4 X5 k acc f7 10).c := by
  have h := keys_read arg4 X4 k 9 (by decide) (k0_off1 k 9#32) rfl (k0_off1_inb k ⟨9, by decide⟩)
  show k0_pay11 (k0_pay1 v0) (View.readAt (Elt F) arg4.view (Rect.unit (s := S1x16384x256) (k0_off1 k 9#32) S1x512x256.size (k0_off1_inb k ⟨9, by decide⟩)).toLoadRect X4) = _
  rw [h, at_c arg4 arg5 arg7 v0 X4 X5 k acc f7 9]
theorem m_10 : trip_k0_t1.sl.r_33 arg4 v0 X4 k acc = (at_ arg4 arg5 arg7 v0 X4 X5 k acc f7 10).m := by
  show k0_pay12 (trip_k0_t1.sl.r_29 arg4 v0 X4 k) (trip_k0_t1.sl.r_30 arg4 v0 X4 k acc) = _
  rw [c_9 arg4 arg5 arg7 v0 X4 X5 k acc f7, m_9 arg4 arg5 arg7 v0 X4 X5 k acc f7, at_m arg4 arg5 arg7 v0 X4 X5 k acc f7 9]
theorem s_10 : trip_k0_t1.sl.v374 arg4 arg7 v0 X4 k = (at_ arg4 arg5 arg7 v0 X4 X5 k acc f7 10).s := by
  have h := keys_read arg4 X4 k 9 (by decide) (k0_off1 k 9#32) rfl (k0_off1_inb k ⟨9, by decide⟩)
  refine (slot0_skip arg7 _ _).trans ((slot0_hit arg7 _ _).trans ?_)
  show k0_pay10 (k0_pay1 v0) (View.readAt (Elt F) arg4.view (Rect.unit (s := S1x16384x256) (k0_off1 k 9#32) S1x512x256.size (k0_off1_inb k ⟨9, by decide⟩)).toLoadRect X4) = _
  rw [h, at_s arg4 arg5 arg7 v0 X4 X5 k acc f7 9]
theorem a_10 : trip_k0_t1.sl.r_34 arg4 arg5 arg7 v0 X4 X5 k acc f7 = (at_ arg4 arg5 arg7 v0 X4 X5 k acc f7 10).acc := by
  have h := vals_read arg5 X5 k 9 (by decide) (k0_off2 k 9#32) rfl (k0_off2_inb k ⟨9, by decide⟩)
  show k0_pay13 (trip_k0_t1.sl.r_29 arg4 v0 X4 k) (trip_k0_t1.sl.r_30 arg4 v0 X4 k acc) (trip_k0_t1.sl.r_31 arg4 arg5 arg7 v0 X4 X5 k acc f7) (View.readAt (Elt F) arg5.view (Rect.unit (s := S1x144x16384) (k0_off2 k 9#32) S1x144x512.size (k0_off2_inb k ⟨9, by decide⟩)).toLoadRect X5) (trip_k0_t1.sl.v341 arg4 arg7 v0 X4 k) = _
  rw [h]; rw [a_9 arg4 arg5 arg7 v0 X4 X5 k acc f7, c_9 arg4 arg5 arg7 v0 X4 X5 k acc f7, m_9 arg4 arg5 arg7 v0 X4 X5 k acc f7, s_9 arg4 arg5 arg7 v0 X4 X5 k acc f7]; rw [at_acc arg4 arg5 arg7 v0 X4 X5 k acc f7 9]
theorem c_11 : trip_k0_t1.sl.r_35 arg4 v0 X4 k = (at_ arg4 arg5 arg7 v0 X4 X5 k acc f7 11).c := by
  have h := keys_read arg4 X4 k 10 (by decide) (k0_off1 k 10#32) rfl (k0_off1_inb k ⟨10, by decide⟩)
  show k0_pay11 (k0_pay1 v0) (View.readAt (Elt F) arg4.view (Rect.unit (s := S1x16384x256) (k0_off1 k 10#32) S1x512x256.size (k0_off1_inb k ⟨10, by decide⟩)).toLoadRect X4) = _
  rw [h, at_c arg4 arg5 arg7 v0 X4 X5 k acc f7 10]
theorem m_11 : trip_k0_t1.sl.r_36 arg4 v0 X4 k acc = (at_ arg4 arg5 arg7 v0 X4 X5 k acc f7 11).m := by
  show k0_pay12 (trip_k0_t1.sl.r_32 arg4 v0 X4 k) (trip_k0_t1.sl.r_33 arg4 v0 X4 k acc) = _
  rw [c_10 arg4 arg5 arg7 v0 X4 X5 k acc f7, m_10 arg4 arg5 arg7 v0 X4 X5 k acc f7, at_m arg4 arg5 arg7 v0 X4 X5 k acc f7 10]
theorem s_11 : trip_k0_t1.sl.v407 arg4 arg7 v0 X4 k = (at_ arg4 arg5 arg7 v0 X4 X5 k acc f7 11).s := by
  have h := keys_read arg4 X4 k 10 (by decide) (k0_off1 k 10#32) rfl (k0_off1_inb k ⟨10, by decide⟩)
  refine (slot1_skip arg7 _ _).trans ((slot1_hit arg7 _ _).trans ?_)
  show k0_pay10 (k0_pay1 v0) (View.readAt (Elt F) arg4.view (Rect.unit (s := S1x16384x256) (k0_off1 k 10#32) S1x512x256.size (k0_off1_inb k ⟨10, by decide⟩)).toLoadRect X4) = _
  rw [h, at_s arg4 arg5 arg7 v0 X4 X5 k acc f7 10]
theorem a_11 : trip_k0_t1.sl.r_37 arg4 arg5 arg7 v0 X4 X5 k acc f7 = (at_ arg4 arg5 arg7 v0 X4 X5 k acc f7 11).acc := by
  have h := vals_read arg5 X5 k 10 (by decide) (k0_off2 k 10#32) rfl (k0_off2_inb k ⟨10, by decide⟩)
  show k0_pay13 (trip_k0_t1.sl.r_32 arg4 v0 X4 k) (trip_k0_t1.sl.r_33 arg4 v0 X4 k acc) (trip_k0_t1.sl.r_34 arg4 arg5 arg7 v0 X4 X5 k acc f7) (View.readAt (Elt F) arg5.view (Rect.unit (s := S1x144x16384) (k0_off2 k 10#32) S1x144x512.size (k0_off2_inb k ⟨10, by decide⟩)).toLoadRect X5) (trip_k0_t1.sl.v374 arg4 arg7 v0 X4 k) = _
  rw [h]; rw [a_10 arg4 arg5 arg7 v0 X4 X5 k acc f7, c_10 arg4 arg5 arg7 v0 X4 X5 k acc f7, m_10 arg4 arg5 arg7 v0 X4 X5 k acc f7, s_10 arg4 arg5 arg7 v0 X4 X5 k acc f7]; rw [at_acc arg4 arg5 arg7 v0 X4 X5 k acc f7 10]
theorem c_12 : trip_k0_t1.sl.r_39 arg4 v0 X4 k = (at_ arg4 arg5 arg7 v0 X4 X5 k acc f7 12).c := by
  have h := keys_read arg4 X4 k 11 (by decide) (k0_off1 k 11#32) rfl (k0_off1_inb k ⟨11, by decide⟩)
  unfold trip_k0_t1.sl.r_39 trip_k0_t1.sl.r_38
  rw [two_12]
  show k0_pay11 (k0_pay1 v0) (View.readAt (Elt F) arg4.view (Rect.unit (s := S1x16384x256) (k0_off1 k 11#32) S1x512x256.size (k0_off1_inb k ⟨11, by decide⟩)).toLoadRect X4) = _
  rw [h, at_c arg4 arg5 arg7 v0 X4 X5 k acc f7 11]
theorem m_12 : trip_k0_t1.sl.r_40 arg4 v0 X4 k acc = (at_ arg4 arg5 arg7 v0 X4 X5 k acc f7 12).m := by
  show k0_pay12 (trip_k0_t1.sl.r_35 arg4 v0 X4 k) (trip_k0_t1.sl.r_36 arg4 v0 X4 k acc) = _
  rw [c_11 arg4 arg5 arg7 v0 X4 X5 k acc f7, m_11 arg4 arg5 arg7 v0 X4 X5 k acc f7, at_m arg4 arg5 arg7 v0 X4 X5 k acc f7 11]
theorem s_12 : trip_k0_t1.sl.v440 arg4 arg7 v0 X4 k = (at_ arg4 arg5 arg7 v0 X4 X5 k acc f7 12).s := by
  have h := keys_read arg4 X4 k 11 (by decide) (k0_off1 k 11#32) rfl (k0_off1_inb k ⟨11, by decide⟩)
  refine (slot0_skip arg7 _ _).trans ((slot0_hit arg7 _ _).trans ?_)
  show k0_pay10 (k0_pay1 v0) (View.readAt (Elt F) arg4.view (Rect.unit (s := S1x16384x256) (k0_off1 k 11#32) S1x512x256.size (k0_off1_inb k ⟨11, by decide⟩)).toLoadRect X4) = _
  rw [h, at_s arg4 arg5 arg7 v0 X4 X5 k acc f7 11]
theorem a_12 : trip_k0_t1.sl.r_41 arg4 arg5 arg7 v0 X4 X5 k acc f7 = (at_ arg4 arg5 arg7 v0 X4 X5 k acc f7 12).acc := by
  have h := vals_read arg5 X5 k 11 (by decide) (k0_off2 k 11#32) rfl (k0_off2_inb k ⟨11, by decide⟩)
  show k0_pay13 (trip_k0_t1.sl.r_35 arg4 v0 X4 k) (trip_k0_t1.sl.r_36 arg4 v0 X4 k acc) (trip_k0_t1.sl.r_37 arg4 arg5 arg7 v0 X4 X5 k acc f7) (View.readAt (Elt F) arg5.view (Rect.unit (s := S1x144x16384) (k0_off2 k 11#32) S1x144x512.size (k0_off2_inb k ⟨11, by decide⟩)).toLoadRect X5) (trip_k0_t1.sl.v407 arg4 arg7 v0 X4 k) = _
  rw [h]; rw [a_11 arg4 arg5 arg7 v0 X4 X5 k acc f7, c_11 arg4 arg5 arg7 v0 X4 X5 k acc f7, m_11 arg4 arg5 arg7 v0 X4 X5 k acc f7, s_11 arg4 arg5 arg7 v0 X4 X5 k acc f7]; rw [at_acc arg4 arg5 arg7 v0 X4 X5 k acc f7 11]
theorem c_13 : trip_k0_t1.sl.r_43 arg4 v0 X4 k = (at_ arg4 arg5 arg7 v0 X4 X5 k acc f7 13).c := by
  have h := keys_read arg4 X4 k 12 (by decide) (k0_off1 k 12#32) rfl (k0_off1_inb k ⟨12, by decide⟩)
  unfold trip_k0_t1.sl.r_43 trip_k0_t1.sl.r_42
  rw [two_13]
  show k0_pay11 (k0_pay1 v0) (View.readAt (Elt F) arg4.view (Rect.unit (s := S1x16384x256) (k0_off1 k 12#32) S1x512x256.size (k0_off1_inb k ⟨12, by decide⟩)).toLoadRect X4) = _
  rw [h, at_c arg4 arg5 arg7 v0 X4 X5 k acc f7 12]
theorem m_13 : trip_k0_t1.sl.r_44 arg4 v0 X4 k acc = (at_ arg4 arg5 arg7 v0 X4 X5 k acc f7 13).m := by
  show k0_pay12 (trip_k0_t1.sl.r_39 arg4 v0 X4 k) (trip_k0_t1.sl.r_40 arg4 v0 X4 k acc) = _
  rw [c_12 arg4 arg5 arg7 v0 X4 X5 k acc f7, m_12 arg4 arg5 arg7 v0 X4 X5 k acc f7, at_m arg4 arg5 arg7 v0 X4 X5 k acc f7 12]
theorem s_13 : trip_k0_t1.sl.v473 arg4 arg7 v0 X4 k = (at_ arg4 arg5 arg7 v0 X4 X5 k acc f7 13).s := by
  have h := keys_read arg4 X4 k 12 (by decide) (k0_off1 k 12#32) rfl (k0_off1_inb k ⟨12, by decide⟩)
  refine (slot1_skip arg7 _ _).trans ((slot1_hit arg7 _ _).trans ?_)
  show k0_pay10 (k0_pay1 v0) (View.readAt (Elt F) arg4.view (Rect.unit (s := S1x16384x256) (k0_off1 k 12#32) S1x512x256.size (k0_off1_inb k ⟨12, by decide⟩)).toLoadRect X4) = _
  rw [h, at_s arg4 arg5 arg7 v0 X4 X5 k acc f7 12]
theorem a_13 : trip_k0_t1.sl.r_45 arg4 arg5 arg7 v0 X4 X5 k acc f7 = (at_ arg4 arg5 arg7 v0 X4 X5 k acc f7 13).acc := by
  have h := vals_read arg5 X5 k 12 (by decide) (k0_off2 k 12#32) rfl (k0_off2_inb k ⟨12, by decide⟩)
  show k0_pay13 (trip_k0_t1.sl.r_39 arg4 v0 X4 k) (trip_k0_t1.sl.r_40 arg4 v0 X4 k acc) (trip_k0_t1.sl.r_41 arg4 arg5 arg7 v0 X4 X5 k acc f7) (View.readAt (Elt F) arg5.view (Rect.unit (s := S1x144x16384) (k0_off2 k 12#32) S1x144x512.size (k0_off2_inb k ⟨12, by decide⟩)).toLoadRect X5) (trip_k0_t1.sl.v440 arg4 arg7 v0 X4 k) = _
  rw [h]; rw [a_12 arg4 arg5 arg7 v0 X4 X5 k acc f7, c_12 arg4 arg5 arg7 v0 X4 X5 k acc f7, m_12 arg4 arg5 arg7 v0 X4 X5 k acc f7, s_12 arg4 arg5 arg7 v0 X4 X5 k acc f7]; rw [at_acc arg4 arg5 arg7 v0 X4 X5 k acc f7 12]
theorem c_14 : trip_k0_t1.sl.r_46 arg4 v0 X4 k = (at_ arg4 arg5 arg7 v0 X4 X5 k acc f7 14).c := by
  have h := keys_read arg4 X4 k 13 (by decide) (k0_off1 k 13#32) rfl (k0_off1_inb k ⟨13, by decide⟩)
  show k0_pay11 (k0_pay1 v0) (View.readAt (Elt F) arg4.view (Rect.unit (s := S1x16384x256) (k0_off1 k 13#32) S1x512x256.size (k0_off1_inb k ⟨13, by decide⟩)).toLoadRect X4) = _
  rw [h, at_c arg4 arg5 arg7 v0 X4 X5 k acc f7 13]
theorem m_14 : trip_k0_t1.sl.r_47 arg4 v0 X4 k acc = (at_ arg4 arg5 arg7 v0 X4 X5 k acc f7 14).m := by
  show k0_pay12 (trip_k0_t1.sl.r_43 arg4 v0 X4 k) (trip_k0_t1.sl.r_44 arg4 v0 X4 k acc) = _
  rw [c_13 arg4 arg5 arg7 v0 X4 X5 k acc f7, m_13 arg4 arg5 arg7 v0 X4 X5 k acc f7, at_m arg4 arg5 arg7 v0 X4 X5 k acc f7 13]
theorem s_14 : trip_k0_t1.sl.v506 arg4 arg7 v0 X4 k = (at_ arg4 arg5 arg7 v0 X4 X5 k acc f7 14).s := by
  have h := keys_read arg4 X4 k 13 (by decide) (k0_off1 k 13#32) rfl (k0_off1_inb k ⟨13, by decide⟩)
  refine (slot0_skip arg7 _ _).trans ((slot0_hit arg7 _ _).trans ?_)
  show k0_pay10 (k0_pay1 v0) (View.readAt (Elt F) arg4.view (Rect.unit (s := S1x16384x256) (k0_off1 k 13#32) S1x512x256.size (k0_off1_inb k ⟨13, by decide⟩)).toLoadRect X4) = _
  rw [h, at_s arg4 arg5 arg7 v0 X4 X5 k acc f7 13]
theorem a_14 : trip_k0_t1.sl.r_48 arg4 arg5 arg7 v0 X4 X5 k acc f7 = (at_ arg4 arg5 arg7 v0 X4 X5 k acc f7 14).acc := by
  have h := vals_read arg5 X5 k 13 (by decide) (k0_off2 k 13#32) rfl (k0_off2_inb k ⟨13, by decide⟩)
  show k0_pay13 (trip_k0_t1.sl.r_43 arg4 v0 X4 k) (trip_k0_t1.sl.r_44 arg4 v0 X4 k acc) (trip_k0_t1.sl.r_45 arg4 arg5 arg7 v0 X4 X5 k acc f7) (View.readAt (Elt F) arg5.view (Rect.unit (s := S1x144x16384) (k0_off2 k 13#32) S1x144x512.size (k0_off2_inb k ⟨13, by decide⟩)).toLoadRect X5) (trip_k0_t1.sl.v473 arg4 arg7 v0 X4 k) = _
  rw [h]; rw [a_13 arg4 arg5 arg7 v0 X4 X5 k acc f7, c_13 arg4 arg5 arg7 v0 X4 X5 k acc f7, m_13 arg4 arg5 arg7 v0 X4 X5 k acc f7, s_13 arg4 arg5 arg7 v0 X4 X5 k acc f7]; rw [at_acc arg4 arg5 arg7 v0 X4 X5 k acc f7 13]
theorem c_15 : trip_k0_t1.sl.r_49 arg4 v0 X4 k = (at_ arg4 arg5 arg7 v0 X4 X5 k acc f7 15).c := by
  have h := keys_read arg4 X4 k 14 (by decide) (k0_off1 k 14#32) rfl (k0_off1_inb k ⟨14, by decide⟩)
  show k0_pay11 (k0_pay1 v0) (View.readAt (Elt F) arg4.view (Rect.unit (s := S1x16384x256) (k0_off1 k 14#32) S1x512x256.size (k0_off1_inb k ⟨14, by decide⟩)).toLoadRect X4) = _
  rw [h, at_c arg4 arg5 arg7 v0 X4 X5 k acc f7 14]
theorem m_15 : trip_k0_t1.sl.r_51 arg4 v0 X4 k acc = (at_ arg4 arg5 arg7 v0 X4 X5 k acc f7 15).m := by
  show k0_pay12 (trip_k0_t1.sl.r_46 arg4 v0 X4 k) (trip_k0_t1.sl.r_47 arg4 v0 X4 k acc) = _
  rw [c_14 arg4 arg5 arg7 v0 X4 X5 k acc f7, m_14 arg4 arg5 arg7 v0 X4 X5 k acc f7, at_m arg4 arg5 arg7 v0 X4 X5 k acc f7 14]
theorem s_15 : trip_k0_t1.sl.v539 arg4 arg7 v0 X4 k = (at_ arg4 arg5 arg7 v0 X4 X5 k acc f7 15).s := by
  have h := keys_read arg4 X4 k 14 (by decide) (k0_off1 k 14#32) rfl (k0_off1_inb k ⟨14, by decide⟩)
  refine (slot1_skip arg7 _ _).trans ((slot1_hit arg7 _ _).trans ?_)
  show k0_pay10 (k0_pay1 v0) (View.readAt (Elt F) arg4.view (Rect.unit (s := S1x16384x256) (k0_off1 k 14#32) S1x512x256.size (k0_off1_inb k ⟨14, by decide⟩)).toLoadRect X4) = _
  rw [h, at_s arg4 arg5 arg7 v0 X4 X5 k acc f7 14]
theorem a_15 : trip_k0_t1.sl.r_52 arg4 arg5 arg7 v0 X4 X5 k acc f7 = (at_ arg4 arg5 arg7 v0 X4 X5 k acc f7 15).acc := by
  have h := vals_read arg5 X5 k 14 (by decide) (k0_off2 k 14#32) rfl (k0_off2_inb k ⟨14, by decide⟩)
  show k0_pay13 (trip_k0_t1.sl.r_46 arg4 v0 X4 k) (trip_k0_t1.sl.r_47 arg4 v0 X4 k acc) (trip_k0_t1.sl.r_48 arg4 arg5 arg7 v0 X4 X5 k acc f7) (View.readAt (Elt F) arg5.view (Rect.unit (s := S1x144x16384) (k0_off2 k 14#32) S1x144x512.size (k0_off2_inb k ⟨14, by decide⟩)).toLoadRect X5) (trip_k0_t1.sl.v506 arg4 arg7 v0 X4 k) = _
  rw [h]; rw [a_14 arg4 arg5 arg7 v0 X4 X5 k acc f7, c_14 arg4 arg5 arg7 v0 X4 X5 k acc f7, m_14 arg4 arg5 arg7 v0 X4 X5 k acc f7, s_14 arg4 arg5 arg7 v0 X4 X5 k acc f7]; rw [at_acc arg4 arg5 arg7 v0 X4 X5 k acc f7 14]
theorem c_16 : trip_k0_t1.sl.r_53 arg4 v0 X4 k = (at_ arg4 arg5 arg7 v0 X4 X5 k acc f7 16).c := by
  have h := keys_read arg4 X4 k 15 (by decide) (k0_off1 k 15#32) rfl (k0_off1_inb k ⟨15, by decide⟩)
  show k0_pay11 (k0_pay1 v0) (View.readAt (Elt F) arg4.view (Rect.unit (s := S1x16384x256) (k0_off1 k 15#32) S1x512x256.size (k0_off1_inb k ⟨15, by decide⟩)).toLoadRect X4) = _
  rw [h, at_c arg4 arg5 arg7 v0 X4 X5 k acc f7 15]
theorem m_16 : trip_k0_t1.sl.r_55 arg4 v0 X4 k acc = (at_ arg4 arg5 arg7 v0 X4 X5 k acc f7 16).m := by
  show k0_pay12 (trip_k0_t1.sl.r_49 arg4 v0 X4 k) (trip_k0_t1.sl.r_51 arg4 v0 X4 k acc) = _
  rw [c_15 arg4 arg5 arg7 v0 X4 X5 k acc f7, m_15 arg4 arg5 arg7 v0 X4 X5 k acc f7, at_m arg4 arg5 arg7 v0 X4 X5 k acc f7 15]
theorem a_16 : k0_pay7 (trip_k0_t1.sl.r_51 arg4 v0 X4 k acc) (trip_k0_t1.sl.r_52 arg4 arg5 arg7 v0 X4 X5 k acc f7) (trip_k0_t1.sl.r_54 arg5 X5 k) (trip_k0_t1.sl.r_55 arg4 v0 X4 k acc) (trip_k0_t1.sl.r_56 arg4 arg7 v0 X4 k acc) = (at_ arg4 arg5 arg7 v0 X4 X5 k acc f7 16).acc := by
  have h := vals_read arg5 X5 k 15 (by decide) (k0_off2 k 15#32) rfl (k0_off2_inb k ⟨15, by decide⟩)
  show k0_pay13 (trip_k0_t1.sl.r_49 arg4 v0 X4 k) (trip_k0_t1.sl.r_51 arg4 v0 X4 k acc) (trip_k0_t1.sl.r_52 arg4 arg5 arg7 v0 X4 X5 k acc f7) (View.readAt (Elt F) arg5.view (Rect.unit (s := S1x144x16384) (k0_off2 k 15#32) S1x144x512.size (k0_off2_inb k ⟨15, by decide⟩)).toLoadRect X5) (trip_k0_t1.sl.v539 arg4 arg7 v0 X4 k) = _
  rw [h]; rw [a_15 arg4 arg5 arg7 v0 X4 X5 k acc f7, c_15 arg4 arg5 arg7 v0 X4 X5 k acc f7, m_15 arg4 arg5 arg7 v0 X4 X5 k acc f7, s_15 arg4 arg5 arg7 v0 X4 X5 k acc f7]; rw [at_acc arg4 arg5 arg7 v0 X4 X5 k acc f7 15]

/-- What the trip yields: the sixteenth state's maxima and sums; -/
theorem trip_yield (𝒱 : Variants) (c : Dev nD) (bd : Option 𝒱.V) (i : grid0.Coords) :
    tripR_k0_t1 (F := F) 𝒱 c bd i arg3 harg3 arg4 harg4 arg5 harg5 arg6 harg6 arg7 harg7 v0 X4 X5 k acc f7
      = ((at_ arg4 arg5 arg7 v0 X4 X5 k acc f7 16).c, (at_ arg4 arg5 arg7 v0 X4 X5 k acc f7 16).m,
          (at_ arg4 arg5 arg7 v0 X4 X5 k acc f7 16).acc) := by
  unfold tripR_k0_t1 trip_k0_t1
  dsimp only
  rw [a_16 arg4 arg5 arg7 v0 X4 X5 k acc f7, c_16 arg4 arg5 arg7 v0 X4 X5 k acc f7, m_16 arg4 arg5 arg7 v0 X4 X5 k acc f7]

/-- and slot 0 is left with the sixteenth state's scores. -/
theorem trip_slot (𝒱 : Variants) (c : Dev nD) (bd : Option 𝒱.V) (i : grid0.Coords)
    (L : List (View.Piece (Elt F) S2x520x512 .f32)) (g7 : BufTy.Contents (Elt F) arg7.view.ty) :
    View.readAt (Elt F) arg7.view slot0.toLoadRect (arg7.view.writes (Elt F) g7
        (tripL_k0_t1 (F := F) 𝒱 c bd i arg3 harg3 arg4 harg4 arg5 harg5 arg6 harg6 arg7 harg7 v0 X4 X5 k acc f7 ++ L))
      = (at_ arg4 arg5 arg7 v0 X4 X5 k acc f7 16).s := by
  unfold tripL_k0_t1 trip_k0_t1
  dsimp only
  have h := keys_read arg4 X4 k 15 (by decide) (k0_off1 k 15#32) rfl (k0_off1_inb k ⟨15, by decide⟩)
  funext j
  rw [View.readAt_apply]
  refine (View.read_writes_cons_emb _ _ slot0 _ _ j).trans ?_
  show k0_pay10 (k0_pay1 v0) (View.readAt (Elt F) arg4.view (Rect.unit (s := S1x16384x256) (k0_off1 k 15#32) S1x512x256.size (k0_off1_inb k ⟨15, by decide⟩)).toLoadRect X4) j = _
  rw [h, at_s arg4 arg5 arg7 v0 X4 X5 k acc f7 15]

end Trip

end Cert.Flash

end
-- ==== Proof.Run.lean ====
/-
  The attention kernel's run, at any float model. `body_run` says what one grid point's body leaves of its operands'
  blocks (`blockOut`: two trips of sixteen steps each, then the division and the transpose); `run` is the pipelined
  run over the whole grid with the result array block by block, every argument unchanged and every semaphore at zero.
-/
module

public import Idealize.ShloMosaic.Lib.Claim
public import proofs.«01_k».proof.Proof.Gen.KernelIdeal.Frame
public import proofs.«01_k».proof.Proof.Trip

@[expose] public section

set_option maxRecDepth 16384

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first chunk's keys. -/
def keys0 (K : S1x16384x256.Idx → Elt F .bf16) : Vec F S1x512x256 .bf16 := fun i =>
  K fun a => match a with
    | ⟨0, _⟩ => ⟨0, Nat.one_pos⟩
    | ⟨1, _⟩ => ⟨(i 1).val, by
        have h : (i 1).val < 512 := (i 1).isLt
        show (i 1).val < 16384; omega⟩
    | ⟨2, _⟩ => ⟨(i 2).val, (i 2).isLt⟩

/-- What the loop starts from. -/
def init (q : FVec F S256x512 .bf16) (K : S1x16384x256.Idx → Elt F .bf16) : St F :=
  ⟨k0_pay10 q (keys0 K), k0_pay11 q (keys0 K), k0_pay2, k0_pay3⟩

/-- The block the body leaves, from its operands' blocks. -/
def blockOut (x3 : Vec F S1x256x512 .bf16) (x4 : Vec F S1x16384x256 .bf16) (x5 : Vec F S1x144x16384 .bf16) :
    Vec F S512x128 .bf16 :=
  k0_pay8 (steps (k0_pay1 x3) x4 x5 0 (init (k0_pay1 x3) x4) 32).acc

theorem steps_add (q : FVec F S256x512 .bf16) (K : S1x16384x256.Idx → Elt F .bf16) (W : S1x144x16384.Idx → Elt F .bf16)
    (b : ℕ) (x : St F) (m n : ℕ) : steps q K W b x (m + n) = steps q K W (b + m) (steps q K W b x m) n := by
  induction n with
  | zero => rfl
  | succ n ih => rw [← Nat.add_assoc]; simp only [steps]; rw [ih, Nat.add_assoc]

theorem keys0_read (arg4 : Memref sig .tc .vmem S1x16384x256 .bf16) (X4 : BufTy.Contents (Elt F) arg4.view.ty) (inb) :
    View.readAt (Elt F) arg4.view (Rect.unit (s := S1x16384x256) ![0, 0, 0] S1x512x256.size inb).toLoadRect X4
      = keys0 (arg4.view.read (Elt F) X4) := by
  funext i
  rw [View.readAt_eq_ld]
  refine View.ld_unit_apply_of _ _ _ _ i _ fun a => ?_
  have hi : (i 0).val < 1 := (i 0).isLt
  match a with
  | ⟨0, _⟩ => show 0 = 0 + (i 0).val; omega
  | ⟨1, _⟩ => exact (Nat.zero_add _).symm
  | ⟨2, _⟩ => exact (Nat.zero_add _).symm

theorem slot0_unit (w : Vec F S1x512x512 .f32) :
    (⟨Rect.unit (s := S2x520x512) ![0, 0, 0] S1x512x512.size inb_S2x520x512_S1x512x512_0_0_0, w⟩
      : View.Piece (Elt F) S2x520x512 .f32) = ⟨slot0, w⟩ := rfl
theorem pay5_eq (v0 : Vec F S1x256x512 .bf16) (b : Vec F S1x512x256 .bf16) : k0_pay5 v0 b = k0_pay10 (k0_pay1 v0) b := rfl
theorem pay6_eq (v0 : Vec F S1x256x512 .bf16) (b : Vec F S1x512x256 .bf16) : k0_pay6 v0 b = k0_pay11 (k0_pay1 v0) b := rfl

theorem slot0_read (arg7 : Memref sig .tc .vmem S2x520x512 .f32) (f7 : BufTy.Contents (Elt F) arg7.view.ty)
    (w : slot0.shape.Idx → Elt F .f32) :
    View.readAt (Elt F) arg7.view slot0.toLoadRect (arg7.view.writes (Elt F) f7 [⟨slot0, w⟩]) = w := by
  funext j
  rw [View.readAt_apply]
  exact View.read_writes_cons_emb _ _ slot0 _ _ j

/-- Before trip `k` the loop holds the state after `16 k` chunks: its carried values, and the scores in slot 0. -/
theorem loop_state (𝒱 : Variants) (c : Dev nD) (bd : Option 𝒱.V) (i : grid0.Coords)
    (arg3 : Memref sig .tc .vmem S1x256x512 .bf16) (harg3 : arg3.IsWhole)
    (arg4 : Memref sig .tc .vmem S1x16384x256 .bf16) (harg4 : arg4.IsWhole)
    (arg5 : Memref sig .tc .vmem S1x144x16384 .bf16) (harg5 : arg5.IsWhole)
    (arg6 : Memref sig .tc .vmem S512x128 .bf16) (harg6 : arg6.IsWhole)
    (arg7 : Memref sig .tc .vmem S2x520x512 .f32) (harg7 : arg7.IsWhole)
    (v0 : Vec F S1x256x512 .bf16) (X4 : BufTy.Contents (Elt F) arg4.view.ty) (X5 : BufTy.Contents (Elt F) arg5.view.ty)
    (G : BufTy.Contents (Elt F) arg7.view.ty) (x : St F)
    (hs : View.readAt (Elt F) arg7.view slot0.toLoadRect G = x.s) (k : ℕ) (hk : k ≤ k0_t1_loop.trips) :
    (st_k0_t1 (F := F) 𝒱 c bd i arg3 harg3 arg4 harg4 arg5 harg5 arg6 harg6 arg7 harg7 v0 X4 X5 G (x.c, x.m, x.acc) k).1
        = ((steps (k0_pay1 v0) (arg4.view.read (Elt F) X4) (arg5.view.read (Elt F) X5) 0 x (16 * k)).c,
           (steps (k0_pay1 v0) (arg4.view.read (Elt F) X4) (arg5.view.read (Elt F) X5) 0 x (16 * k)).m,
           (steps (k0_pay1 v0) (arg4.view.read (Elt F) X4) (arg5.view.read (Elt F) X5) 0 x (16 * k)).acc)
      ∧ View.readAt (Elt F) arg7.view slot0.toLoadRect (arg7.view.writes (Elt F) G
          (st_k0_t1 (F := F) 𝒱 c bd i arg3 harg3 arg4 harg4 arg5 harg5 arg6 harg6 arg7 harg7 v0 X4 X5 G (x.c, x.m, x.acc) k).2)
        = (steps (k0_pay1 v0) (arg4.view.read (Elt F) X4) (arg5.view.read (Elt F) X5) 0 x (16 * k)).s := by
  induction k with
  | zero => exact ⟨rfl, hs⟩
  | succ k ih =>
    obtain ⟨h1, h2⟩ := ih (Nat.le_of_succ_le hk)
    have hx := st_k0_t1_succ (F := F) 𝒱 c bd i arg3 harg3 arg4 harg4 arg5 harg5 arg6 harg6 arg7 harg7 v0 X4 X5 G (x.c, x.m, x.acc) ⟨k, hk⟩
    have e : steps (k0_pay1 v0) (arg4.view.read (Elt F) X4) (arg5.view.read (Elt F) X5) 0 x (16 * (k + 1))
        = steps (k0_pay1 v0) (arg4.view.read (Elt F) X4) (arg5.view.read (Elt F) X5) (16 * k)
            (steps (k0_pay1 v0) (arg4.view.read (Elt F) X4) (arg5.view.read (Elt F) X5) 0 x (16 * k)) 16 := by
      rw [Nat.mul_succ, steps_add, Nat.zero_add]
    rw [e, hx]
    dsimp only at h1 h2 ⊢
    rw [trip_yield, trip_slot]
    unfold at_ start
    rw [h1, h2]
    exact ⟨rfl, rfl⟩

set_option maxHeartbeats 1000000 in
theorem body_run (c : Dev nD) (E : Set ℕ) (i : grid0.Coords) (arg3 : Memref sig .tc .vmem S1x256x512 .bf16) (harg3 : arg3.IsWhole) (arg4 : Memref sig .tc .vmem S1x16384x256 .bf16) (harg4 : arg4.IsWhole) (arg5 : Memref sig .tc .vmem S1x144x16384 .bf16) (harg5 : arg5.IsWhole) (arg6 : Memref sig .tc .vmem S512x128 .bf16) (harg6 : arg6.IsWhole) (arg7 : Memref sig .tc .vmem S2x520x512 .f32) (harg7 : arg7.IsWhole)
    (x3 : Vec F S1x256x512 .bf16) (x4 : Vec F S1x16384x256 .bf16) (x5 : Vec F S1x144x16384 .bf16) (K : PUnit → sProp 𝕄) :
    iprop(owns (c : Thread nD τ) arg3 fullShare x3 ∗ owns (c : Thread nD τ) arg4 fullShare x4
        ∗ owns (c : Thread nD τ) arg5 fullShare x5 ∗ (∃ d, owns (c : Thread nD τ) arg6 fullShare d)
        ∗ (∃ d, owns (c : Thread nD τ) arg7 fullShare d)
        ∗ (iprop(owns (c : Thread nD τ) arg3 fullShare x3 ∗ owns (c : Thread nD τ) arg4 fullShare x4
            ∗ owns (c : Thread nD τ) arg5 fullShare x5 ∗ owns (c : Thread nD τ) arg6 fullShare (blockOut x3 x4 x5)
            ∗ (∃ d, owns (c : Thread nD τ) arg7 fullShare d)) -∗ K ⟨⟩))
      ⊢ wp frame (wpE (defs₀ (F := F)) Variants.none c none) E
          (cc0__flash_kernel i arg3 harg3 arg4 harg4 arg5 harg5 arg6 harg6 arg7 harg7) K := by
  simp only [cc0__flash_kernel_eq_skeleton]; unfold cc0__flash_kernel_skel
  unfold owns
  iintro ⟨⟨%f3, %hf3, H3⟩, ⟨%f4, %hf4, H4⟩, ⟨%f5, %hf5, H5⟩, ⟨%d6, %f6, -, H6⟩, ⟨%d7, %f7, -, H7⟩, Hk⟩
  subst hf3 hf4 hf5
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    have h0 : (![0, 0] : Fin S512x128.rank → ℕ) = fun _ => 0 := by funext a; fin_cases a <;> rfl
    refine (View.read_writes_eq_canon _ _ _ fun y => ⟨_, List.mem_singleton_self _, View.mem_set_unit_zero h0 inb_S512x128_S512x128_0_0 y⟩).trans ?_
    refine (View.canon_unit_zero h0 _ _).trans ?_
    have e3 : View.readAt (Elt F) arg3.view
        (Rect.unit (s := S1x256x512) ![0, 0, 0] S1x256x512.size inb_S1x256x512_S1x256x512_0_0_0).toLoadRect f3
        = arg3.view.read (Elt F) f3 :=
      (View.readAt_eq_ld _ _ _).trans (View.ld_unit_lit _ _ (by decide))
    have e4 := keys0_read arg4 f4 inb_S1x16384x256_S1x512x256_0_0_0
    rw [e3, e4, pay5_eq, pay6_eq, show Scf.trips k0_t1_loop.lb k0_t1_loop.ub k0_t1_loop.st = 2 from by decide]
    have h := (loop_state Variants.none c none i arg3 harg3 arg4 harg4 arg5 harg5 arg6 harg6 arg7 harg7
      (arg3.view.read (Elt F) f3) f4 f5 _ (init (k0_pay1 (arg3.view.read (Elt F) f3)) (arg4.view.read (Elt F) f4))
      (slot0_read arg7 f7 (k0_pay10 (k0_pay1 (arg3.view.read (Elt F) f3)) (keys0 (arg4.view.read (Elt F) f4)))) 2 (by decide)).1
    rw [show 16 * 2 = 32 from rfl] at h
    simp only [init] at h
    rw [slot0_unit]
    generalize arg7.view.writes (Elt F) f7 _ = G at h ⊢
    generalize st_k0_t1 (F := F) _ _ _ _ _ _ _ _ _ _ _ _ _ _ _ _ _ _ _ _ = B at h ⊢
    exact congrArg (fun z => k0_pay8 z.2.2) h
  iexists _, _; isplitr
  swap; · iexact H7
  ipureintro; rfl

/-! ## The pipeline's data and the run -/

variable (m : (ℓ : Loc nD τ sig) → Buf (Elt F) ℓ) (ρ : Dev nD → PrngReg)

/-- The arrays as the call finds them; a point leaves each operand's block in place and the result's at `blockOut`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦA spec0 c
  q _ := fullShare
  owed _ := 0

theorem dats_A (c : Dev nD) (w : Fin cfg0.W) : (dats m 0 c).A w = V m c (Pipeline.arrRef spec0 w) := by dsimp only [dats]
theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) :
    (dats m 0 c).after 3 t = blockOut (iblk m c 0 t) (iblk m c 1 t) (iblk m c 2 t) := by dsimp only [dats]

theorem found0 (c : Dev nD) (t : Fin cfg0.N) (d) : (dats m 0 c).before 0 t d = iblk m c 0 t :=
  before0_0_of m _ (dats_A m c 0) (left0 m c) t d
theorem found1 (c : Dev nD) (t : Fin cfg0.N) (d) : (dats m 0 c).before 1 t d = iblk m c 1 t :=
  before0_1_of m _ (dats_A m c 1) (left1 m c) t d
theorem found2 (c : Dev nD) (t : Fin cfg0.N) (d) : (dats m 0 c).before 2 t d = iblk m c 2 t :=
  before0_2_of m _ (dats_A m c 2) (left2 m c) t d

theorem phi_eq (c : Dev nD) :
    (Pipeline.ΦA (Val := Elt F) (τ := τ) spec0 c : sProp 𝕄)
      = iprop((∃ d, owns (c : Thread nD τ) (Memref.whole cc0_scratch0 : Memref sig .tc .vmem S2x520x512 .f32) fullShare d)
          ∗ ∃ r, prngReg c r) := by
  unfold Pipeline.ΦA
  rw [scopedRest0_eq]
  simp only [owns_whole]; try rfl

theorem point (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d)))
      ⊢ wp frame (wpE (defs₀ (F := F)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ owns (c : Thread nD τ) (st0_1 t) fullShare ((dats m 0 c).after 1 t)
            ∗ owns (c : Thread nD τ) (st0_2 t) fullShare ((dats m 0 c).after 2 t)
            ∗ owns (c : Thread nD τ) (st0_3 t) fullShare ((dats m 0 c).after 3 t))) := by
  unfold bodyAt0
  simp only [found0, found1, found2]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    left0, left1, left2, left3, phi_eq]
  iintro ⟨⟨HS, HP⟩, Ho, ⟨%d0, H0⟩, ⟨%d1, H1⟩, ⟨%d2, H2⟩, ⟨%d3, H3⟩⟩
  iapply (body_run c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HP]
  · isplitl [HS]; · iexact HS
    iexact HP
  isplitl [Ho]; · iexact Ho
  isplitl [H0]; · iexact H0
  isplitl [H1]; · iexact H1
  isplitl [H2]; · iexact H2
  iexact H3

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point m c t) rfl .rfl fun _ => .rfl

set_option backward.isDefEq.respectTransparency.types false in
set_option maxHeartbeats 800000 in
/-- Every execution ends, with the pipeline's arrays at what the data say and every counter at zero. -/
theorem run : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (run m ρ)))
    ((θ_run defs _ _).mono (fun _ h => h.2) (run m ρ))

end Cert.Flash

end
-- ==== Proof.Alg.lean ====
/-
  The arithmetic of the softmax taken chunk by chunk, on extended reals with finite scores.

  `Acc` is what the accumulator holds after some chunks, relative to a real shift; `acc_step` takes one more chunk in
  and moves the shift; `soft_eq` says that the weighted sum over the total, relative to any shift and in base two, is
  the softmax's weighted sum in base e.
-/
module

public import Mathlib.Data.EReal.Operations
public import Mathlib.Data.EReal.Inv
public import Mathlib.Analysis.SpecialFunctions.Pow.Real
public import Idealize.ShloMosaic.PureOps.Ideal

@[expose] public section

noncomputable section

namespace Cert.Flash

open Idealize.ShloMosaic

theorem mul_sum_nonneg {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, EReal.left_distrib_of_nonneg_of_ne_top (by exact_mod_cast hc) (EReal.coe_ne_top c), ih]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Two to the power `r`. -/
def two (r : ℝ) : ℝ := Real.rpow 2 r

theorem two_pos (r : ℝ) : 0 < two r := Real.rpow_pos_of_pos (by norm_num) r
theorem two_add (a b : ℝ) : two a * two b = two (a + b) := (Real.rpow_add (by norm_num) a b).symm
theorem two_eq_exp (r : ℝ) : two r = Real.exp (Real.log 2 * r) := Real.rpow_def_of_pos (by norm_num) r

theorem exp2_sub (a b : ℝ) : Ideal.exp2 ((a : EReal) - (b : EReal)) = (two (a - b) : EReal) := by
  rw [← EReal.coe_sub]; rfl

/-- The sum of the first `n` chunks' weighted values, each weight two to its score less the shift `μ`. -/
def Acc {J : ℕ} (W : ℕ → Fin J → EReal) (a : ℕ → Fin J → ℝ) (μ : ℝ) (n : ℕ) : EReal :=
  ∑ i ∈ Finset.range n, ∑ j : Fin J, W i j * (two (a i j - μ) : EReal)

theorem acc_shift {J : ℕ} (W : ℕ → Fin J → EReal) (a : ℕ → Fin J → ℝ) (μ ν : ℝ) (n : ℕ) :
    (two (μ - ν) : EReal) * Acc W a μ n = Acc W a ν n := by
  unfold Acc
  rw [mul_sum_nonneg _ _ (two_pos _).le]
  refine Finset.sum_congr rfl fun i _ => ?_
  rw [mul_sum_nonneg _ _ (two_pos _).le]
  refine Finset.sum_congr rfl fun j _ => ?_
  rw [mul_left_comm, ← EReal.coe_mul, two_add]
  congr 3; ring

/-- One more chunk, moving the shift. -/
theorem acc_step {J : ℕ} (W : ℕ → Fin J → EReal) (a : ℕ → Fin J → ℝ) (μ ν : ℝ) (n : ℕ) :
    Ideal.exp2 ((μ : EReal) - (ν : EReal)) * Acc W a μ n + (∑ j : Fin J, W n j * Ideal.exp2 ((a n j : EReal) - (ν : EReal)))
      = Acc W a ν (n + 1) := by
  rw [exp2_sub, acc_shift]
  conv_rhs => unfold Acc
  rw [Finset.sum_range_succ]
  refine congrArg₂ _ rfl (Finset.sum_congr rfl fun j _ => ?_)
  rw [exp2_sub]

/-- The first chunk: nothing is carried from before. -/
theorem acc_first {J : ℕ} (W : ℕ → Fin J → EReal) (a : ℕ → Fin J → ℝ) (ν : ℝ) (z : EReal) :
    z * 0 + (∑ j : Fin J, W 0 j * Ideal.exp2 ((a 0 j : EReal) - (ν : EReal))) = Acc W a ν 1 := by
  unfold Acc
  rw [mul_zero, zero_add, Finset.sum_range_one]
  exact Finset.sum_congr rfl fun j _ => by rw [exp2_sub]

/-- The weighted sum over the total, base two against base e, whatever the two shifts. -/
theorem soft_eq {ι : Type*} [Fintype ι] [Nonempty ι] (W : ι → EReal) (a b : ι → ℝ) (μ ν : ℝ)
    (hab : ∀ i, Real.log 2 * a i = b i) :
    Ideal.div (∑ i, W i * (two (a i - μ) : EReal)) (∑ i, (1 : EReal) * (two (a i - μ) : EReal))
      = ∑ i, W i * Ideal.div (Real.exp (b i - ν) : EReal) (∑ j, (Real.exp (b j - ν) : EReal)) := by
  have hT : 0 < ∑ i, two (a i - μ) := Finset.sum_pos (fun i _ => two_pos _) Finset.univ_nonempty
  have hE : 0 < ∑ i, Real.exp (b i - ν) := Finset.sum_pos (fun i _ => Real.exp_pos _) Finset.univ_nonempty
  have hw : ∀ i, two (a i - μ) = Real.exp (ν - Real.log 2 * μ) * Real.exp (b i - ν) := fun i => by
    rw [two_eq_exp, ← Real.exp_add, ← hab]; congr 1; ring
  simp only [one_mul, ← coe_sum]
  have hdiv : ∀ (x : EReal) (y : ℝ), 0 < y → Ideal.div x (y : EReal) = x * ((y⁻¹ : ℝ) : EReal) := fun x y hy => by
    unfold Ideal.div
    rw [if_neg (by exact_mod_cast hy.ne'), EReal.coe_inv]
  rw [hdiv _ _ hT, mul_comm, mul_sum_nonneg _ _ (inv_pos.mpr hT).le]
  refine Finset.sum_congr rfl fun i _ => ?_
  rw [hdiv _ _ hE, mul_left_comm, ← EReal.coe_mul, ← EReal.coe_mul]
  congr 2
  simp only [hw, ← Finset.mul_sum]
  have := Real.exp_pos (ν - Real.log 2 * μ)
  field_simp

end Cert.Flash
-- ==== Proof.Block.lean ====
/-
  What the attention body leaves of a block, read at an index over the extended reals: the softmax-weighted sum of the
  values over the total weight, taken over all keys at once.
-/
module

public import proofs.«01_k».proof.Proof.Run
public import proofs.«01_k».proof.Proof.Alg
public import Idealize.ShloMosaic.Lib.Pointwise.Tactic
public import Idealize.ShloMosaic.Lib.Pointwise.Contract
public import Idealize.ShloMosaic.Lib.Pointwise.Reshape
public import Idealize.ShloMosaic.Lib.Pointwise.Reduce
public import Idealize.ShloMosaic.Lib.Pointwise.Sums

@[expose] public section

set_option maxRecDepth 16384

noncomputable section

namespace Cert.Flash

open Cert.KernelIdeal Cert.KernelIdeal.Gen
open Idealize.ShloMosaic

theorem word_bot : Ideal.ofBits .f32 0xFF800000#32 = ⊥ := by
  simp [Ideal.ofBits, Ideal.ieee]
theorem word_two : Ideal.ofBits .f32 0x40000000#32 = ((2 : ℝ) : EReal) := by
  simp [Ideal.ofBits, Ideal.ieee, -EReal.coe_mul]; norm_num

theorem coe_max (a b : ℝ) : ((max a b : ℝ) : EReal) = max (a : EReal) (b : EReal) :=
  EReal.coe_strictMono.monotone.map_max

/-- The greatest of finitely many reals is a real. -/
theorem fold_max_real {ι : Type*} (f : ι → EReal) (g : ι → ℝ) (h : ∀ i, f i = (g i : EReal)) (s : Finset ι)
    (hs : s.Nonempty) : ∃ γ : ℝ, s.fold max (⊥ : EReal) f = (γ : EReal) := by
  classical
  induction hs using Finset.Nonempty.cons_induction with
  | singleton a => exact ⟨g a, by rw [Finset.fold_singleton, h, max_eq_left bot_le]⟩
  | cons a s ha _ ih =>
    obtain ⟨γ, hγ⟩ := ih
    exact ⟨max (g a) γ, by rw [Finset.fold_cons, h, hγ, coe_max]⟩

/-! ## The payloads at an index -/

theorem query_apply (x : Vec Ideal S1x256x512 .bf16) (d : Fin 256) (j : Fin 512) :
    k0_pay1 x (ix2 d j) = x (ix3 0 d j) := by pointwise [k0_pay1]

theorem scores_apply (q : FVec Ideal S256x512 .bf16) (k : Vec Ideal S1x512x256 .bf16) (r j : Fin 512) :
    k0_pay10 q k (ix3 0 r j) = ∑ x : Fin 256, k (ix3 0 r x) * q (ix2 x j) := by pointwise [k0_pay10, k0_pay9]; try rfl

theorem raw_apply (q : FVec Ideal S256x512 .bf16) (k : Vec Ideal S1x512x256 .bf16) (r j : Fin 512) :
    k0_pay9 q k (ix2 r j) = ∑ x : Fin 256, k (ix3 0 r x) * q (ix2 x j) := by pointwise [k0_pay9]; try rfl

theorem greatest_apply (q : FVec Ideal S256x512 .bf16) (k : Vec Ideal S1x512x256 .bf16) (j : Fin 512) :
    k0_pay11 q k (ix2 0 j) = (Finset.univ : Finset (Fin 512)).fold max ⊥ (fun r => k0_pay9 q k (ix2 r j)) := by
  pointwise [k0_pay11, word_bot]; try rfl

theorem shift_apply (c s : FVec Ideal S1x512 .f32) (j : Fin 512) :
    k0_pay12 c s (ix2 0 j) = max (s (ix2 0 j)) (c (ix2 0 j)) := by pointwise [k0_pay12]; try rfl

theorem taken_apply (c s : FVec Ideal S1x512 .f32) (acc : FVec Ideal S144x512 .f32) (v : Vec Ideal S1x144x512 .bf16)
    (x : Vec Ideal S1x512x512 .f32) (d : Fin 144) (j : Fin 512) :
    k0_pay13 c s acc v x (ix2 d j)
      = Ideal.exp2 (s (ix2 0 j) - max (s (ix2 0 j)) (c (ix2 0 j))) * acc (ix2 d j)
        + ∑ r : Fin 512, v (ix3 0 d r) * Ideal.exp2 (x (ix3 0 r j) - max (s (ix2 0 j)) (c (ix2 0 j))) := by
  pointwise [k0_pay13, k0_pay12]; try rfl

theorem ratio_apply (acc : FVec Ideal S144x512 .f32) (j : Fin 512) (d : Fin 128) :
    k0_pay8 acc (ix2 j d) = Ideal.div (acc (ix2 ⟨d.val, by omega⟩ j)) (acc (ix2 128 j)) := by
  pointwise [k0_pay8]; try rfl

theorem shift0_apply (j : Fin 512) : k0_pay2 (F := Ideal) (ix2 0 j) = ⊥ := by pointwise [k0_pay2, word_bot]; try rfl
theorem acc0_apply (d : Fin 144) (j : Fin 512) : k0_pay3 (F := Ideal) (ix2 d j) = 0 := by pointwise [k0_pay3]; try rfl

/-! ## The chunks' positions -/

/-- The key at place `r` of chunk `n`. -/
def pos (n : ℕ) (r : Fin 512) : Fin 16384 := ⟨512 * min n 31 + r.val, by have := r.isLt; omega⟩

theorem keysAt_apply (K : S1x16384x256.Idx → Elt Ideal .bf16) (n : ℕ) (r : Fin 512) (x : Fin 256) :
    keysAt K n (ix3 0 r x) = K (ix3 0 (pos (n + 1) r) x) := by
  refine congrArg K (funext fun a => ?_)
  match a with
  | ⟨0, _⟩ => rfl
  | ⟨1, _⟩ => rfl
  | ⟨2, _⟩ => rfl

theorem keys0_apply (K : S1x16384x256.Idx → Elt Ideal .bf16) (r : Fin 512) (x : Fin 256) :
    keys0 K (ix3 0 r x) = K (ix3 0 (pos 0 r) x) := by
  refine congrArg K (funext fun a => ?_)
  match a with
  | ⟨0, _⟩ => rfl
  | ⟨1, _⟩ => exact Fin.ext (show r.val = 512 * min 0 31 + r.val by omega)
  | ⟨2, _⟩ => rfl

theorem valsAt_apply (W : S1x144x16384.Idx → Elt Ideal .bf16) (n : ℕ) (d : Fin 144) (r : Fin 512) :
    valsAt W n (ix3 0 d r) = W (ix3 0 d (pos n r)) := by
  refine congrArg W (funext fun a => ?_)
  match a with
  | ⟨0, _⟩ => rfl
  | ⟨1, _⟩ => rfl
  | ⟨2, _⟩ => rfl

/-! ## The steps -/

theorem init_s (q : FVec Ideal S256x512 .bf16) (K : S1x16384x256.Idx → Elt Ideal .bf16) :
    (init q K).s = k0_pay10 q (keys0 K) := by simp only [init]
theorem init_c (q : FVec Ideal S256x512 .bf16) (K : S1x16384x256.Idx → Elt Ideal .bf16) :
    (init q K).c = k0_pay11 q (keys0 K) := by simp only [init]
theorem init_m (q : FVec Ideal S256x512 .bf16) (K : S1x16384x256.Idx → Elt Ideal .bf16) :
    (init q K).m = k0_pay2 := by simp only [init]
theorem init_acc (q : FVec Ideal S256x512 .bf16) (K : S1x16384x256.Idx → Elt Ideal .bf16) :
    (init q K).acc = k0_pay3 := by simp only [init]
section
variable (q : FVec Ideal S256x512 .bf16) (kn : Vec Ideal S1x512x256 .bf16) (vc : Vec Ideal S1x144x512 .bf16) (x : St Ideal)
theorem step_s : (step q kn vc x).s = k0_pay10 q kn := by simp only [step]
theorem step_c : (step q kn vc x).c = k0_pay11 q kn := by simp only [step]
theorem step_m : (step q kn vc x).m = k0_pay12 x.c x.m := by simp only [step]
theorem step_acc : (step q kn vc x).acc = k0_pay13 x.c x.m x.acc vc x.s := by simp only [step]
end

section
variable (x3 : Vec Ideal S1x256x512 .bf16) (K : Vec Ideal S1x16384x256 .bf16) (W : Vec Ideal S1x144x16384 .bf16)
  (j : Fin 512) (a : Fin 16384 → ℝ)

/-- The steps' state: the chunk to take in is scored, its greatest score is a real, and what was taken in is `Acc`. -/
structure Good (n : ℕ) (x : St Ideal) : Prop where
  s : ∀ r : Fin 512, x.s (ix3 0 r j) = (a (pos n r) : EReal)
  c : ∃ γ : ℝ, x.c (ix2 0 j) = (γ : EReal)
  first : n = 0 → x.m (ix2 0 j) = ⊥ ∧ ∀ d : Fin 144, x.acc (ix2 d j) = 0
  later : n ≠ 0 → ∃ μ : ℝ, x.m (ix2 0 j) = (μ : EReal)
    ∧ ∀ d : Fin 144, x.acc (ix2 d j) = Acc (fun n r => W (ix3 0 d (pos n r))) (fun n r => a (pos n r)) μ n

variable (hs : ∀ k : Fin 16384, ∑ x : Fin 256, K (ix3 0 k x) * x3 (ix3 0 x j) = (a k : EReal))
include hs

theorem scored (kn : Vec Ideal S1x512x256 .bf16) (n : ℕ) (hk : ∀ r x, kn (ix3 0 r x) = K (ix3 0 (pos n r) x)) (r : Fin 512) :
    ∑ x : Fin 256, kn (ix3 0 r x) * k0_pay1 x3 (ix2 x j) = (a (pos n r) : EReal) := by
  rw [← hs]; exact Finset.sum_congr rfl fun x _ => by rw [hk, query_apply]

theorem greatest_real (kn : Vec Ideal S1x512x256 .bf16) (n : ℕ) (hk : ∀ r x, kn (ix3 0 r x) = K (ix3 0 (pos n r) x)) :
    ∃ γ : ℝ, k0_pay11 (k0_pay1 x3) kn (ix2 0 j) = (γ : EReal) := by
  rw [greatest_apply]
  exact fold_max_real _ (fun r => a (pos n r)) (fun r => by rw [raw_apply, scored x3 K j a hs kn n hk]) _ Finset.univ_nonempty

theorem good (n : ℕ) : Good W j a n (steps (k0_pay1 x3) K W 0 (init (k0_pay1 x3) K) n) := by
  induction n with
  | zero =>
    simp only [steps]
    refine ⟨fun r => ?_, ?_, fun _ => ⟨?_, fun d => ?_⟩, fun h => absurd rfl h⟩
    · rw [init_s, scores_apply]; exact scored x3 K j a hs _ 0 (keys0_apply K) r
    · rw [init_c]; exact greatest_real x3 K j a hs _ 0 (keys0_apply K)
    · rw [init_m]; exact shift0_apply j
    · rw [init_acc]; exact acc0_apply d j
  | succ n ih =>
    simp only [steps, Nat.zero_add]
    generalize steps (k0_pay1 x3) K W 0 (init (k0_pay1 x3) K) n = x at ih ⊢
    obtain ⟨is, ⟨γ, ic⟩, i0, i1⟩ := ih
    refine ⟨fun r => ?_, ?_, fun h => absurd h n.succ_ne_zero, fun _ => ?_⟩
    · rw [step_s, scores_apply]; exact scored x3 K j a hs _ (n + 1) (keysAt_apply K n) r
    · rw [step_c]; exact greatest_real x3 K j a hs _ (n + 1) (keysAt_apply K n)
    have key : ∀ ν : ℝ, max (x.m (ix2 0 j)) (x.c (ix2 0 j)) = (ν : EReal) →
        (∀ d : Fin 144, Ideal.exp2 (x.m (ix2 0 j) - (ν : EReal)) * x.acc (ix2 d j)
          + ∑ r : Fin 512, W (ix3 0 d (pos n r)) * Ideal.exp2 ((a (pos n r) : EReal) - (ν : EReal))
          = Acc (fun n r => W (ix3 0 d (pos n r))) (fun n r => a (pos n r)) ν (n + 1)) →
        ∃ μ : ℝ, (step (k0_pay1 x3) (keysAt K n) (valsAt W n) x).m (ix2 0 j) = (μ : EReal)
          ∧ ∀ d : Fin 144, (step (k0_pay1 x3) (keysAt K n) (valsAt W n) x).acc (ix2 d j)
            = Acc (fun n r => W (ix3 0 d (pos n r))) (fun n r => a (pos n r)) μ (n + 1) := by
      intro ν hν h
      refine ⟨ν, by rw [step_m, shift_apply, hν], fun d => ?_⟩
      rw [step_acc, taken_apply, hν, ← h d]
      exact congrArg₂ _ rfl (Finset.sum_congr rfl fun r _ => by rw [valsAt_apply, is])
    rcases Nat.eq_zero_or_pos n with rfl | hn
    · obtain ⟨hm, ha⟩ := i0 rfl
      refine key γ (by rw [hm, ic]; exact max_eq_right bot_le) fun d => ?_
      rw [ha d]
      exact acc_first (fun n r => (W (ix3 0 d (pos n r)) : EReal)) (fun n r => a (pos n r)) γ _
    · obtain ⟨μ, hm, ha⟩ := i1 hn.ne'
      refine key (max μ γ) (by rw [hm, ic, coe_max]) fun d => ?_
      rw [hm, ha d]
      exact acc_step _ _ _ _ _

omit hs in
theorem acc_all (d : Fin 144) (μ : ℝ) :
    Acc (fun n r => W (ix3 0 d (pos n r))) (fun n r => a (pos n r)) μ 32
      = ∑ k : Fin 16384, W (ix3 0 d k) * (two (a k - μ) : EReal) := by
  rw [Fin.sum_univ_tiles 32 512 rfl]
  unfold Acc
  rw [← Fin.sum_univ_eq_sum_range (fun n => ∑ r : Fin 512, W (ix3 0 d (pos n r)) * (two (a (pos n r) - μ) : EReal)) 32]
  refine Finset.sum_congr rfl fun n _ => Finset.sum_congr rfl fun r _ => ?_
  have e : pos n.val r = ⟨n.val * 512 + r.val, by have := n.isLt; have := r.isLt; omega⟩ :=
    Fin.ext (show 512 * min n.val 31 + r.val = n.val * 512 + r.val by have := n.isLt; omega)
  rw [e]

theorem block_apply (h1 : ∀ k : Fin 16384, W (ix3 0 128 k) = 1) (d : Fin 128) :
    ∃ μ : ℝ, blockOut x3 K W (ix2 j d)
      = Ideal.div (∑ k : Fin 16384, W (ix3 0 ⟨d.val, by omega⟩ k) * (two (a k - μ) : EReal))
          (∑ k : Fin 16384, (1 : EReal) * (two (a k - μ) : EReal)) := by
  obtain ⟨μ, -, h⟩ := (good x3 K W j a hs 32).later (by decide)
  refine ⟨μ, (ratio_apply _ _ _).trans ?_⟩
  rw [h, h, acc_all, acc_all]
  refine congrArg _ (Finset.sum_congr rfl fun k _ => ?_)
  rw [h1]
end

end Cert.Flash
-- ==== Proof.Ref.lean ====
/-
  The reference read at an index: with queries and keys that are real, an element of the result is the sum over the keys
  of the value times exp (score - ν) over the sum of these, ν the row's greatest score (`ref_apply`). And what the
  precondition says: every element of the queries and of the keys is a real (`reals_of_finite`).
-/
module

public import proofs.«01_k».proof.Proof.Block
public import proofs.«01_k».proof.Proof.Gen.ReferenceIdeal.Read
public import proofs.«01_k».proof.Proof.Gen.Pre_finite
public import Idealize.ShloMosaic.Lib.ReduceAll

@[expose] public section

set_option maxRecDepth 16384

noncomputable section

namespace Cert.Flash

open Idealize.ShloMosaic

/-- The scores' scale, the number its literal spells. -/
def scale : ℝ := 9686330 / 2 ^ 27

theorem word_scale : Ideal.ofBits .f32 0x3D93CD3A#32 = (scale : EReal) := by
  unfold scale
  simp [Ideal.ofBits, Ideal.ieee, -EReal.coe_mul]; norm_num

theorem word_top : Ideal.ofBits .f32 0x7F800000#32 = (⊤ : EReal) := by
  simp [Ideal.ofBits, Ideal.ieee]

/-- One score: a query against a key, scaled. -/
def score (r0 r1 : Cert.ReferenceIdeal.S16384x16x192.Idx → ℝ) (h : Fin 16) (q k : Fin 16384) : ℝ :=
  (∑ d : Fin 192, r0 (ix3 q h d) * r1 (ix3 k h d)) * scale

section
open Cert.ReferenceIdeal Cert.ReferenceIdeal.Gen Cert.ReferenceIdeal.Read

theorem ref_fold (y : Vec Ideal S16x16384x16384 .f32) (h : Fin 16) (q : Fin 16384) :
    (Host.reduce (FloatOps.maximumf (F := Ideal) (φ := .f32)) y (val_main_cst_0 (F := Ideal)) reducesTo_S16x16384x16384_S16x16384_d2 h_S_ : Vec Ideal S16x16384 .f32) (ix2 h q)
      = (Finset.univ : Finset (Fin 16384)).fold max (⊥ : EReal) (fun k => y (ix3 h q k)) := by
  pointwise [val_main_cst_0, word_bot]; try rfl

theorem ref_reduce (x0 x1 : Vec Ideal S16384x16x192 .f32) (h : Fin 16) (q : Fin 16384) :
    val_main_v3 (F := Ideal) x0 x1 (ix2 h q)
      = (Finset.univ : Finset (Fin 16384)).fold max (⊥ : EReal) (fun k => val_main_v2 (F := Ideal) x0 x1 (ix3 h q k)) := by
  unfold val_main_v3
  exact ref_fold _ h q

end

section
open Cert.ReferenceIdeal Cert.ReferenceIdeal.Gen Cert.ReferenceIdeal.Read
variable (x0 x1 : Vec Ideal S16384x16x192 .f32) (x2 : Vec Ideal S16384x16x128 .f32)
variable (r0 r1 : S16384x16x192.Idx → ℝ) (h0 : ∀ i, x0 i = (r0 i : EReal)) (h1 : ∀ i, x1 i = (r1 i : EReal))
include h0 h1

theorem ref_scores (h : Fin 16) (q k : Fin 16384) : val_main_v2 (F := Ideal) x0 x1 (ix3 h q k) = (score r0 r1 h q k : EReal) := by
  rw [val_main_v2_apply, val_main_v0_apply, val_main_v1_apply, val_main_cst_apply]
  show (∑ d : Fin 192, x0 _ * x1 _) * Ideal.ofBits .f32 0x3D93CD3A#32 = _
  rw [word_scale, score, EReal.coe_mul, coe_sum]
  refine congrArg (· * (scale : EReal)) (Finset.sum_congr rfl fun d _ => ?_)
  rw [h0, h1, ← EReal.coe_mul]
  refine congrArg _ (congrArg₂ _ (congrArg r0 ?_) (congrArg r1 ?_)) <;>
    (funext a; match a with | ⟨0, _⟩ => rfl | ⟨1, _⟩ => rfl | ⟨2, _⟩ => rfl)

theorem ref_greatest (h : Fin 16) (q : Fin 16384) : ∃ ν : ℝ, val_main_v5 (F := Ideal) x0 x1 (ix2 h q) = (ν : EReal) := by
  obtain ⟨ν, hν⟩ := fold_max_real (fun k : Fin 16384 => val_main_v2 (F := Ideal) x0 x1 (ix3 h q k)) _
    (ref_scores x0 x1 r0 r1 h0 h1 h q) Finset.univ ⟨0, Finset.mem_univ _⟩
  refine ⟨ν, ?_⟩
  rw [val_main_v5_apply, val_main_v4_apply, val_main_cst_1_apply, ref_reduce, hν]
  show max (Ideal.ofBits .f32 0xFF800000#32) (ν : EReal) = _
  rw [word_bot]; exact max_eq_right bot_le

theorem ref_apply (i : S16384x2048.Idx) (q : Fin 16384) (h : Fin 16) (d : Fin 128) (hq : q.val = (i 0).val)
    (hh : h.val = (i 1).val / 128) (hd : d.val = (i 1).val % 128) : ∃ ν : ℝ, val_main_v17 (F := Ideal) x0 x1 x2 i
    = ∑ k : Fin 16384, x2 (ix3 k h d) * Ideal.div (Real.exp (score r0 r1 h q k - ν) : EReal)
        (∑ j : Fin 16384, (Real.exp (score r0 r1 h q j - ν) : EReal)) := by
  have hi : (i 1).val < 2048 := (i 1).isLt
  have hi0 : (i 0).val < 16384 := (i 0).isLt
  obtain ⟨ν, hν⟩ := ref_greatest x0 x1 r0 r1 h0 h1 h q
  have hexp : ∀ k : Fin 16384, val_main_v9 (F := Ideal) x0 x1 (ix3 h q k) = (Real.exp (score r0 r1 h q k - ν) : EReal) := by
    intro k
    rw [val_main_v9_apply, val_main_v8_apply, ref_scores x0 x1 r0 r1 h0 h1, val_main_v7_apply, val_main_v6_apply]
    have e : idx_main_v6 (idx_main_v7 (ix3 h q k)) = ix2 h q := by
      funext a; match a with | ⟨0, _⟩ => rfl | ⟨1, _⟩ => rfl
    rw [e, hν]
    rfl
  refine ⟨ν, ?_⟩
  rw [val_main_v17_apply, val_main_v16_apply, val_main_v15_apply]
  show val_main_v14 (F := Ideal) x0 x1 x2 _ = _
  rw [val_main_v14_apply]
  refine Finset.sum_congr rfl fun k _ => ?_
  have el : lidx_main_v14 (idx_main_v15 (idx_main_v16 i)) k = ix3 k h d := by
    funext a; apply Fin.ext
    match a with
    | ⟨0, _⟩ => rfl
    | ⟨1, _⟩ => show ((i 0).val * 2048 + (i 1).val) / 128 % 16 = h.val; omega
    | ⟨2, _⟩ => show ((i 0).val * 2048 + (i 1).val) % 128 = d.val; omega
  have er : ridx_main_v14 (idx_main_v15 (idx_main_v16 i)) k = ix3 h q k := by
    funext a; apply Fin.ext
    match a with
    | ⟨0, _⟩ => show ((i 0).val * 2048 + (i 1).val) / 128 % 16 = h.val; omega
    | ⟨1, _⟩ => show ((i 0).val * 2048 + (i 1).val) / 2048 = q.val; omega
    | ⟨2, _⟩ => rfl
  rw [el, er, val_main_v13_apply, hexp, val_main_v12_apply, val_main_v11_apply, val_main_v10_apply, val_main_cst_2_apply]
  refine congrArg _ (congrArg (Ideal.div _) ?_)
  have ez : (FloatOps.ofBits .f32 0x00000000#32 : Ideal .f32) = (0 : EReal) := by
    show Ideal.ofBits .f32 0x00000000#32 = 0
    simp [Ideal.ofBits, Ideal.ieee]
  rw [ez]
  refine (zero_add _).trans (Finset.sum_congr rfl fun j _ => ?_)
  refine Eq.trans (congrArg _ ?_) (hexp j)
  funext a; match a with | ⟨0, _⟩ => rfl | ⟨1, _⟩ => rfl | ⟨2, _⟩ => rfl
end

/-- What the precondition says of the queries and the keys: every element is a real. -/
theorem reals_of_finite (x0 x1 : Vec Ideal Cert.Pre_finite.S16384x16x192 .f32) (x2 : Vec Ideal Cert.Pre_finite.S16384x16x128 .f32)
    (h : Cert.Pre_finite.fn (F := Ideal) x0 x1 x2 = fun _ => 1#1) :
    (∃ r : Cert.Pre_finite.S16384x16x192.Idx → ℝ, ∀ i, x0 i = (r i : EReal))
      ∧ ∃ r : Cert.Pre_finite.S16384x16x192.Idx → ℝ, ∀ i, x1 i = (r i : EReal) := by
  have one : ∀ x : EReal, max x (-x) < ⊤ → ∃ r : ℝ, x = (r : EReal) := by
    intro x hx
    induction x with
    | bot => simp at hx
    | top => simp at hx
    | coe r => exact ⟨r, rfl⟩
  have h' := congrFun h (fun a => a.elim0)
  unfold Cert.Pre_finite.fn at h'
  have hand : ∀ a b : BitVec 1, a &&& b = 1#1 → a = 1#1 ∧ b = 1#1 := by decide
  obtain ⟨ha, hb⟩ := hand _ _ h'
  have elem : ∀ x : Vec Ideal Cert.Pre_finite.S16384x16x192 .f32, ∀ i,
      cmpf .olt (Host.absf x) (broadcastInDim Cert.Pre_finite.S16384x16x192 ![] Cert.Pre_finite.Facts.bcast_S_S16384x16x192 (constant (F := Ideal) Cert.Pre_finite.S_ .f32 0x7F800000#32)) i = 1#1
        → ∃ r : ℝ, x i = (r : EReal) := by
    intro x i e
    refine one _ ?_
    have e' : Ideal.cmp .olt (max (x i) (-(x i))) (Ideal.ofBits .f32 0x7F800000#32) = 1#1 := e
    rw [word_top] at e'
    by_contra hn
    simp [Ideal.cmp, hn] at e'
  constructor
  · choose r hr using fun i => elem x0 i (Host.reduce_andi_all _ _ _ _ _ ha i)
    exact ⟨r, hr⟩
  · choose r hr using fun i => elem x1 i (Host.reduce_andi_all _ _ _ _ _ hb i)
    exact ⟨r, hr⟩

end Cert.Flash

end
-- ==== Proof.Array.lean ====
/-
  The array that the attention kernel leaves. The operands of the call at an index (the padded, scaled and transposed
  queries; the padded keys; the values with the row of ones), each window's block of them at a grid point, the scores as
  reals, and from these every block of the result (`block_attn`), hence the whole array (`final`): the reference's.
-/
module

public import proofs.«01_k».proof.Proof.Ref
public import Idealize.ShloMosaic.Lib.StableHlo.ReadAt
public import Idealize.ShloMosaic.Lib.Pipeline.ValueKit.Geometry

@[expose] public section

set_option maxRecDepth 16384

noncomputable section

namespace Cert.Flash

open Cert.KernelIdeal Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ)

/-- The queries, the keys and the values given. -/
def qIn (c : Dev nD) : S16384x16x192.Idx → EReal := m ((c.tc : Thread nD τ).loc main_arg0)
def kIn (c : Dev nD) : S16384x16x192.Idx → EReal := m ((c.tc : Thread nD τ).loc main_arg1)
def vIn (c : Dev nD) : S16384x16x128.Idx → EReal := m ((c.tc : Thread nD τ).loc main_arg2)

/-- The three operands of the call. -/
def qOp (c : Dev nD) : S16x256x16384.Idx → EReal := V m c main_v7
def kOp (c : Dev nD) : S16x16384x256.Idx → EReal := V m c main_v10
def vOp (c : Dev nD) : S16x144x16384.Idx → EReal := V m c main_v15

/-! ## The operands at an index -/

theorem keys_in (c : Dev nD) (h : Fin 16) (k : Fin 16384) (x : Fin 256) (hx : x.val < 192) :
    kOp m c (ix3 h k x) = kIn m c (ix3 k h ⟨x.val, hx⟩) := by
  unfold kOp kIn V
  after_reads_at
  exact dif_pos hx
theorem keys_out (c : Dev nD) (h : Fin 16) (k : Fin 16384) (x : Fin 256) (hx : ¬ x.val < 192) :
    kOp m c (ix3 h k x) = 0 := by
  unfold kOp V
  after_reads_at
  refine (dif_neg hx).trans ?_
  show (((0#32 : BitVec 32).toInt : ℝ) : EReal) = 0
  simp
theorem query_in (c : Dev nD) (h : Fin 16) (x : Fin 256) (q : Fin 16384) (hx : x.val < 192) :
    qOp m c (ix3 h x q) = Ideal.div (qIn m c (ix3 q h ⟨x.val, hx⟩) * (scale : EReal)) ((Real.log 2 : ℝ) : EReal) := by
  unfold qOp V
  after_reads_at
  refine (dif_pos hx).trans ?_
  show Ideal.div (qIn m c (ix3 q h ⟨x.val, hx⟩) * Ideal.ofBits .f32 0x3D93CD3A#32) (Ideal.log (Ideal.ofBits .f32 0x40000000#32)) = _
  rw [word_scale, word_two]
  refine congrArg _ ?_
  show (if (2 : ℝ) ≤ 0 then (⊥ : EReal) else ((Real.log 2 : ℝ) : EReal)) = _
  exact if_neg (by norm_num)
theorem query_out (c : Dev nD) (h : Fin 16) (x : Fin 256) (q : Fin 16384) (hx : ¬ x.val < 192) :
    qOp m c (ix3 h x q) = 0 := by
  unfold qOp V
  after_reads_at
  refine (dif_neg hx).trans ?_
  show (((0#32 : BitVec 32).toInt : ℝ) : EReal) = 0
  simp
theorem values_in (c : Dev nD) (h : Fin 16) (d : Fin 144) (k : Fin 16384) (hd : d.val < 128) :
    vOp m c (ix3 h d k) = vIn m c (ix3 k h ⟨d.val, hd⟩) := by
  unfold vOp vIn V
  after_reads_at
  refine (dif_pos hd).trans ?_
  after_reads_at
  try rfl
theorem values_one (c : Dev nD) (h : Fin 16) (k : Fin 16384) :
    vOp m c (ix3 h 128 k) = 1 := by
  unfold vOp V
  after_reads_at
  after_reads_at

/-! ## The blocks -/

theorem idx0 : ∀ t : Fin cfg0.N, win0_0.index t (0 : Fin 3) = t.val / 32 ∧ win0_0.index t (1 : Fin 3) = 0 ∧ win0_0.index t (2 : Fin 3) = t.val % 32 :=
  (by decide +kernel : ∀ t : Fin grid0.N, _)
theorem idx1 : ∀ t : Fin cfg0.N, win0_1.index t (0 : Fin 3) = t.val / 32 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 32 ∧ win0_2.index t (1 : Fin 3) = 0 ∧ win0_2.index t (2 : Fin 3) = 0 :=
  (by decide +kernel : ∀ t : Fin grid0.N, _)
theorem idx3 : ∀ t : Fin cfg0.N, win0_3.index t (0 : Fin 2) = t.val % 32 ∧ win0_3.index t (1 : Fin 2) = t.val / 32 :=
  (by decide +kernel : ∀ t : Fin grid0.N, _)

theorem points (t : Fin cfg0.N) : t.val < 512 := N_0 ▸ t.isLt

/-- The head of a grid point. -/
def headOf (t : Fin cfg0.N) : Fin 16 := ⟨t.val / 32, by have := points t; omega⟩
/-- The query at place `j` of a grid point's tile. -/
def queryOf (t : Fin cfg0.N) (j : Fin 512) : Fin 16384 := ⟨t.val % 32 * 512 + j.val, by omega⟩

theorem query_blk (c : Dev nD) (t : Fin cfg0.N) (x : Fin 256) (j : Fin 512) :
    iblk m c 0 t (ix3 0 x j) = qOp m c (ix3 (headOf t) x (queryOf t j)) := by
  obtain ⟨e0, e1, e2⟩ := idx0 t
  show V m c main_v7 (((cfg0.win 0).blk t).view.emb (ix3 0 x j)) = _
  refine congrArg _ (funext fun a => Fin.ext ?_)
  match a with
  | ⟨0, _⟩ => show win0_0.index t (0 : Fin 3) * 1 + 1 * 0 = t.val / 32; omega
  | ⟨1, _⟩ => show win0_0.index t (1 : Fin 3) * 256 + 1 * x.val = x.val; omega
  | ⟨2, _⟩ => show win0_0.index t (2 : Fin 3) * 512 + 1 * j.val = t.val % 32 * 512 + j.val; omega

theorem keys_blk (c : Dev nD) (t : Fin cfg0.N) (k : Fin 16384) (x : Fin 256) :
    iblk m c 1 t (ix3 0 k x) = kOp m c (ix3 (headOf t) k x) := by
  obtain ⟨e0, e1, e2⟩ := idx1 t
  show V m c main_v10 (((cfg0.win 1).blk t).view.emb (ix3 0 k x)) = _
  refine congrArg _ (funext fun a => Fin.ext ?_)
  match a with
  | ⟨0, _⟩ => show win0_1.index t (0 : Fin 3) * 1 + 1 * 0 = t.val / 32; omega
  | ⟨1, _⟩ => show win0_1.index t (1 : Fin 3) * 16384 + 1 * k.val = k.val; omega
  | ⟨2, _⟩ => show win0_1.index t (2 : Fin 3) * 256 + 1 * x.val = x.val; omega

theorem values_blk (c : Dev nD) (t : Fin cfg0.N) (d : Fin 144) (k : Fin 16384) :
    iblk m c 2 t (ix3 0 d k) = vOp m c (ix3 (headOf t) d k) := by
  obtain ⟨e0, e1, e2⟩ := idx2 t
  show V m c main_v15 (((cfg0.win 2).blk t).view.emb (ix3 0 d k)) = _
  refine congrArg _ (funext fun a => Fin.ext ?_)
  match a with
  | ⟨0, _⟩ => show win0_2.index t (0 : Fin 3) * 1 + 1 * 0 = t.val / 32; omega
  | ⟨1, _⟩ => show win0_2.index t (1 : Fin 3) * 144 + 1 * d.val = d.val; omega
  | ⟨2, _⟩ => show win0_2.index t (2 : Fin 3) * 16384 + 1 * k.val = k.val; omega

theorem out_emb (t : Fin cfg0.N) (j : Fin 512) (d : Fin 128) :
    ((cfg0.win 3).blk t).view.emb (ix2 j d) = (ix2 (queryOf t j) ⟨t.val / 32 * 128 + d.val, by have := points t; omega⟩ : S16384x2048.Idx) := by
  obtain ⟨e0, e1⟩ := idx3 t
  refine funext fun a => Fin.ext ?_
  match a with
  | ⟨0, _⟩ => show win0_3.index t (0 : Fin 2) * 512 + 1 * j.val = t.val % 32 * 512 + j.val; omega
  | ⟨1, _⟩ => show win0_3.index t (1 : Fin 2) * 128 + 1 * d.val = t.val / 32 * 128 + d.val; omega

/-! ## The array after the run -/

theorem soft_eq_of {ι : Type*} [Fintype ι] [Nonempty ι] (W W' : ι → EReal) (a b : ι → ℝ) (μ ν : ℝ)
    (hab : ∀ i, Real.log 2 * a i = b i) (hW : ∀ i, W i = W' i) :
    Ideal.div (∑ i, W i * (two (a i - μ) : EReal)) (∑ i, (1 : EReal) * (two (a i - μ) : EReal))
      = ∑ i, W' i * Ideal.div (Real.exp (b i - ν) : EReal) (∑ j, (Real.exp (b j - ν) : EReal)) := by
  rw [soft_eq W a b μ ν hab]
  exact Finset.sum_congr rfl fun i _ => by rw [hW]

variable (c : Dev nD) (r0 r1 : S16384x16x192.Idx → ℝ)
  (h0 : ∀ i, qIn m c i = (r0 i : EReal))
  (h1 : ∀ i, kIn m c i = (r1 i : EReal))
include h0 h1

theorem query_real (h : Fin 16) (x : Fin 256) (q : Fin 16384) (hx : x.val < 192) :
    qOp m c (ix3 h x q) = ((r0 (ix3 q h ⟨x.val, hx⟩) * scale / Real.log 2 : ℝ) : EReal) := by
  rw [query_in m c h x q hx, h0, ← EReal.coe_mul]
  have hl : (Real.log 2 : ℝ) ≠ 0 := (Real.log_pos (by norm_num)).ne'
  unfold Ideal.div
  rw [if_neg (by exact_mod_cast hl), ← EReal.coe_inv, ← EReal.coe_mul, div_eq_mul_inv]

theorem kernel_scores (h : Fin 16) (q k : Fin 16384) :
    ∑ x : Fin 256, kOp m c (ix3 h k x) * qOp m c (ix3 h x q)
      = ((score r0 r1 h q k / Real.log 2 : ℝ) : EReal) := by
  rw [Fin.sum_univ_two_halves 192 64 rfl]
  have z : ∑ x : Fin 64, kOp m c (ix3 h k ⟨192 + x.val, by omega⟩) * qOp m c (ix3 h ⟨192 + x.val, by omega⟩ q) = 0 :=
    Finset.sum_eq_zero fun x _ => by rw [keys_out m c h k _ (show ¬ 192 + x.val < 192 by omega), zero_mul]
  rw [z, add_zero, score, Finset.sum_mul, Finset.sum_div, coe_sum]
  refine Finset.sum_congr rfl fun x _ => ?_
  rw [keys_in m c h k _ x.isLt, h1, query_real m c r0 r1 h0 h1 h _ q x.isLt, ← EReal.coe_mul]
  refine congrArg _ ?_
  show r1 (ix3 k h x) * (r0 (ix3 q h x) * scale / Real.log 2) = r0 (ix3 q h x) * r1 (ix3 k h x) * scale / Real.log 2
  ring

theorem block_attn (t : Fin cfg0.N) (j : Fin 512) (d : Fin 128) (ν : ℝ) :
    (blockOut (iblk m c 0 t) (iblk m c 1 t) (iblk m c 2 t) (ix2 j d) : EReal)
      = ∑ k : Fin 16384, vIn m c (ix3 k (headOf t) d)
          * Ideal.div (Real.exp (score r0 r1 (headOf t) (queryOf t j) k - ν) : EReal)
              (∑ i : Fin 16384, (Real.exp (score r0 r1 (headOf t) (queryOf t j) i - ν) : EReal)) := by
  obtain ⟨μ, hμ⟩ := block_apply (iblk m c 0 t) (iblk m c 1 t) (iblk m c 2 t) j
    (fun k => score r0 r1 (headOf t) (queryOf t j) k / Real.log 2)
    (fun k => by
      rw [← kernel_scores m c r0 r1 h0 h1]
      exact Finset.sum_congr rfl fun x _ => congrArg₂ _ (keys_blk m c t k x) (query_blk m c t x j))
    (fun k => (values_blk m c t 128 k).trans (values_one m c (headOf t) k)) d
  exact hμ.trans (soft_eq_of _ _ _ (score r0 r1 (headOf t) (queryOf t j)) μ ν
    (fun k => mul_div_cancel₀ _ (Real.log_pos (by norm_num)).ne')
    fun k => (values_blk m c t _ k).trans (values_in m c (headOf t) _ k d.isLt))

theorem final : (dats m 0 c).arrAt 3 cfg0.N
    = Cert.ReferenceIdeal.Read.val_main_v17 (F := Ideal) (m ((c.tc : Thread nD τ).loc main_arg0))
        (m ((c.tc : Thread nD τ).loc main_arg1)) (m ((c.tc : Thread nD τ).loc main_arg2)) := by
  refine (dats m 0 c).arrAt_eq_of_covers 3 _ (by decide +kernel) fun t _ y => ?_
  obtain ⟨j, d, rfl⟩ : ∃ (j : Fin 512) (d : Fin 128), y = ix2 j d := ⟨y 0, y 1, by
    funext a; match a with | ⟨0, _⟩ => rfl | ⟨1, _⟩ => rfl⟩
  obtain ⟨ν, hν⟩ := ref_apply (qIn m c) (kIn m c) (vIn m c) r0 r1 h0 h1
    (ix2 (queryOf t j) ⟨t.val / 32 * 128 + d.val, by have := points t; omega⟩) (queryOf t j) (headOf t) d rfl
    (show t.val / 32 = (t.val / 32 * 128 + d.val) / 128 by omega)
    (show d.val = (t.val / 32 * 128 + d.val) % 128 by omega)
  have key : blockOut (iblk m c 0 t) (iblk m c 1 t) (iblk m c 2 t) (ix2 j d)
      = Cert.ReferenceIdeal.Read.val_main_v17 (F := Ideal) (qIn m c) (kIn m c) (vIn m c)
          (((cfg0.win 3).blk t).view.emb (ix2 j d)) := by
    rw [out_emb]
    exact (block_attn m c r0 r1 h0 h1 t j d ν).trans hν.symm
  blk_simp
  rw [left3]
  exact key

end Cert.Flash

end
-- ==== Proof.Mlp.lean ====
/-
  What the feed-forward kernel leaves of a block of rows. A point at the start of a block normalises the rows into the
  scratch and starts the result at the rows themselves (`first`); every point adds its share of the hidden columns
  (`next`); after the fourth point the result holds the rows plus the four shares (`last`).
-/
module

public import proofs.«01_k».proof.Proof.Gen.Kernel2Ideal.Value
public import Idealize.ShloMosaic.Lib.Tactic
public import Idealize.ShloMosaic.Lib.Pointwise.Tactic
public import Idealize.ShloMosaic.Lib.Pointwise.Contract
public import Idealize.ShloMosaic.Lib.Pointwise.Reshape
public import Idealize.ShloMosaic.Lib.Pointwise.Reduce
public import Idealize.ShloMosaic.Lib.Pointwise.Sums

@[expose] public section

set_option maxRecDepth 16384

noncomputable section

namespace Cert.Mlp

open Cert.Kernel2Ideal Cert.Kernel2Ideal.Gen Cert.Kernel2Ideal.Value
open Idealize.ShloMosaic Idealize.ShloMosaic.TcCoe Idealize.SL.Sem

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

section
variable (c : Dev nD) (i : grid0.Coords)
  (a2 : Memref sig .tc .vmem S512x2048 .f32) (h2 : a2.IsWhole) (a3 : Memref sig .tc .vmem S1x2048 .f32) (h3 : a3.IsWhole)
  (a4 : Memref sig .tc .vmem S1x2048x2048 .bf16) (h4 : a4.IsWhole) (a5 : Memref sig .tc .vmem S1x2048x2048 .bf16) (h5 : a5.IsWhole)
  (a6 : Memref sig .tc .vmem S512x2048 .f32) (h6 : a6.IsWhole) (a7 : Memref sig .tc .vmem S512x2048 .bf16) (h7 : a7.IsWhole)
  (x0 : Vec F S512x2048 .f32) (x1 : Vec F S1x2048 .f32) (x2 x3 : Vec F S1x2048x2048 .bf16)

/-- At the start of a block the scratch is left at the normalised rows. -/
theorem scratch_first (hc : cond0_0 i) :
    sout0_A_0 c i a2 h2 a3 h3 a4 h4 a5 h5 a6 h6 a7 h7 hc x0 x1 x2 x3 = k0_pay1 x0 x1 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero (S := S512x2048) zeros2]
  simp only [View.readAt_eq_ld, h2.read_unread, h3.read_unread, View.ld_unit_zero (S := S512x2048) zeros2,
    View.ld_unit_zero (S := S1x2048) zeros2]

/-- … and the result at the rows plus the first share. -/
theorem result_first (hc : cond0_0 i) :
    out0_A_4 c i a2 h2 a3 h3 a4 h4 a5 h5 a6 h6 a7 h7 hc x0 x1 x2 x3 = k0_pay2 (k0_pay1 x0 x1) x2 x0 x3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_cons_unit_zero (S := S512x2048) zeros2]
  simp only [View.readCov_unit_zero (S := S512x2048) _ zeros2, View.readAt_eq_ld, h2.read_unread, h3.read_unread,
    h4.read_unread, h5.read_unread, View.ld_unit_zero (S := S512x2048) zeros2,
    View.ld_unit_zero (S := S1x2048) zeros2, View.ld_unit_zero (S := S1x2048x2048) zeros3]

/-- A later point leaves the result at what it held plus the point's share. -/
theorem result_next (hc : ¬cond0_0 i) (xo : Vec F S512x2048 .f32) (xs : Vec F S512x2048 .bf16) :
    out0_B_4 c i a2 h2 a3 h3 a4 h4 a5 h5 a6 h6 a7 h7 hc x0 x1 x2 x3 xo xs = k0_pay2 xs x2 xo x3 := by
  unfold out0_B_4
  rw [View.read_writes_eq_canon _ _ _ (cover0_B_4 c i a2 h2 a3 h3 a4 h4 a5 h5 a6 h6 a7 h7 hc x0 x1 x2 x3 xo xs)]
  unfold kernelRun0_B
  dsimp only
  sl_unfold_words
  rw [View.canon_unit_zero (S := S512x2048) zeros2]
  simp only [View.readAt_eq_ld, h4.read_unread, h5.read_unread, h6.read_unread, h7.read_unread,
    View.ld_unit_zero (S := S512x2048) zeros2, View.ld_unit_zero (S := S1x2048x2048) zeros3]
end

variable (m : (ℓ : Loc nD τ sig) → Buf (Elt F) ℓ)

theorem first (c : Dev nD) (n : ℕ) (h : n < cfg0.N) (hm : n % 4 = 0) :
    outsAt0 m c n h = (k0_pay2 (k0_pay1 (iblk m c 0 ⟨n, h⟩) (iblk m c 1 ⟨n, h⟩)) (iblk m c 2 ⟨n, h⟩) (iblk m c 0 ⟨n, h⟩) (iblk m c 3 ⟨n, h⟩),
      k0_pay1 (iblk m c 0 ⟨n, h⟩) (iblk m c 1 ⟨n, h⟩)) := by
  rw [outsAt0_A m c ⟨n, h⟩ hm, result_first, scratch_first]

theorem next (c : Dev nD) (n : ℕ) (h : n + 1 < cfg0.N) (hm : ¬ (n + 1) % 4 = 0) :
    outsAt0 m c (n + 1) h = (k0_pay2 (outsAt0 m c n (Nat.lt_of_succ_lt h)).2 (iblk m c 2 ⟨n + 1, h⟩)
        (outsAt0 m c n (Nat.lt_of_succ_lt h)).1 (iblk m c 3 ⟨n + 1, h⟩),
      (outsAt0 m c n (Nat.lt_of_succ_lt h)).2) := by
  rw [outsAt0_B m c ⟨n + 1, h⟩ hm, result_next]
  rfl

/-- The result at the end of a block, whose first point is `n`. -/
theorem last (c : Dev nD) (n : ℕ) (h : n + 3 < cfg0.N) (hm : n % 4 = 0) :
    (outsAt0 m c (n + 3) h).1 =
      k0_pay2 (k0_pay1 (iblk m c 0 ⟨n, by omega⟩) (iblk m c 1 ⟨n, by omega⟩)) (iblk m c 2 ⟨n + 3, h⟩)
        (k0_pay2 (k0_pay1 (iblk m c 0 ⟨n, by omega⟩) (iblk m c 1 ⟨n, by omega⟩)) (iblk m c 2 ⟨n + 2, by omega⟩)
          (k0_pay2 (k0_pay1 (iblk m c 0 ⟨n, by omega⟩) (iblk m c 1 ⟨n, by omega⟩)) (iblk m c 2 ⟨n + 1, by omega⟩)
            (k0_pay2 (k0_pay1 (iblk m c 0 ⟨n, by omega⟩) (iblk m c 1 ⟨n, by omega⟩)) (iblk m c 2 ⟨n, by omega⟩)
              (iblk m c 0 ⟨n, by omega⟩) (iblk m c 3 ⟨n, by omega⟩))
            (iblk m c 3 ⟨n + 1, by omega⟩))
          (iblk m c 3 ⟨n + 2, by omega⟩))
        (iblk m c 3 ⟨n + 3, h⟩) := by
  rw [next m c (n + 2) h (by omega), next m c (n + 1) _ (by omega), next m c n _ (by omega), first m c n _ hm]

/-! ## The two payloads at an index, over the extended reals -/

theorem norm_apply (x : Vec Ideal S512x2048 .f32) (g : Vec Ideal S1x2048 .f32) (r : Fin 512) (d : Fin 2048) :
    k0_pay1 x g (ix2 r d)
      = x (ix2 r d) * Ideal.rsqrt (Ideal.div (∑ k : Fin 2048, x (ix2 r k) * x (ix2 r k)) (Ideal.ofBits .f32 0x45000000#32)
          + Ideal.ofBits .f32 0x358637BD#32) * g (ix2 0 d) := by
  pointwise [k0_pay1]; try rfl

theorem share_apply (n : Vec Ideal S512x2048 .bf16) (u w : Vec Ideal S1x2048x2048 .bf16) (o : Vec Ideal S512x2048 .f32)
    (r : Fin 512) (d : Fin 2048) :
    k0_pay2 n u o w (ix2 r d)
      = o (ix2 r d) + ∑ j : Fin 2048, max (∑ k : Fin 2048, n (ix2 r k) * u (ix3 0 k j)) 0
          * max (∑ k : Fin 2048, n (ix2 r k) * u (ix3 0 k j)) 0 * w (ix3 0 j d) := by
  pointwise [k0_pay2]; try rfl

end Cert.Mlp

end
-- ==== Proof.MlpArray.lean ====
/-
  The array that the feed-forward kernel leaves: its operands and each window's block of them at an index, the reference
  at an index, and that the rows plus the four shares, one after another, are the rows plus the product over all the
  hidden columns (sums of extended reals may be regrouped freely).
-/
module

public import proofs.«01_k».proof.Proof.Mlp
public import proofs.«01_k».proof.Proof.Gen.Reference2Ideal.Read
public import Idealize.ShloMosaic.Lib.StableHlo.ReadAt

@[expose] public section

set_option maxRecDepth 16384

noncomputable section

namespace Cert.Mlp

open Cert.Kernel2Ideal Cert.Kernel2Ideal.Gen Cert.Kernel2Ideal.Value
open Idealize.ShloMosaic Idealize.ShloMosaic.TcCoe Idealize.SL.Sem

/-! ## The mathematics -/

/-- A normalised row at a channel. -/
def normed (x : S16384x2048.Idx → EReal) (g : S4x2048.Idx → EReal) (q : Fin 16384) (d : Fin 2048) : EReal :=
  x (ix2 q d) * Ideal.rsqrt (Ideal.div (∑ k : Fin 2048, x (ix2 q k) * x (ix2 q k)) (Ideal.ofBits .f32 0x45000000#32)
    + Ideal.ofBits .f32 0x358637BD#32) * g (ix2 3 d)

/-- A hidden column's part of the result: the squared rectified product, times the second weight. -/
def part (x : S16384x2048.Idx → EReal) (g : S4x2048.Idx → EReal) (u : S4x2048x8192.Idx → EReal) (w : S4x8192x2048.Idx → EReal)
    (q : Fin 16384) (d : Fin 2048) (j : Fin 8192) : EReal :=
  max (∑ k : Fin 2048, normed x g q k * u (ix3 3 k j)) 0 * max (∑ k : Fin 2048, normed x g q k * u (ix3 3 k j)) 0
    * w (ix3 3 j d)

/-- The rows plus the four shares in turn are the rows plus the sum over all the hidden columns. -/
theorem shares (x : EReal) (p : Fin 8192 → EReal) :
    x + (∑ j : Fin 2048, p ⟨0 * 2048 + j.val, by omega⟩) + (∑ j : Fin 2048, p ⟨1 * 2048 + j.val, by omega⟩)
      + (∑ j : Fin 2048, p ⟨2 * 2048 + j.val, by omega⟩) + (∑ j : Fin 2048, p ⟨3 * 2048 + j.val, by omega⟩)
      = x + ∑ j : Fin 8192, p j := by
  rw [Fin.sum_univ_tiles 4 2048 rfl, Fin.sum_univ_four]
  simp only [add_assoc]
  rfl

theorem normed_of (x a b : EReal) {s s' g g' : EReal} (hs : s = s') (hg : g = g') :
    x * Ideal.rsqrt (Ideal.div s a + b) * g = x * Ideal.rsqrt (Ideal.div s' a + b) * g' := by rw [hs, hg]

theorem word_none : Ideal.ofBits .f32 0x00000000#32 = (0 : EReal) := by
  simp [Ideal.ofBits, Ideal.ieee]

/-! ## The reference at an index -/

section
open Cert.Reference2Ideal.Read
variable (x0 : S16384x2048.Idx → EReal) (x1 : S4x2048.Idx → EReal) (x2 : S4x2048x8192.Idx → EReal) (x3 : S4x8192x2048.Idx → EReal)

theorem ref_normed (i : S16384x2048.Idx) (q : Fin 16384) (d : Fin 2048) (hi : i = ix2 q d) :
    val_main_v14 (F := Ideal) x0 x1 i = normed x0 x1 q d := by
  subst hi
  rw [val_main_v14_apply, val_main_v9_apply, val_main_v8_apply, val_main_v7_apply, val_main_v6_apply, val_main_v4_apply,
    val_main_v2_apply, val_main_v1_apply, val_main_v3_apply, val_main_cst_0_apply, val_main_v5_apply, val_main_cst_1_apply,
    val_main_cst_apply, val_main_v13_apply, val_main_v12_apply, val_main_v11_apply, val_main_v10_apply]
  refine normed_of _ _ _ ?_ (congrArg x1 ?_)
  · refine (congrArg (· + _) word_none).trans ((zero_add _).trans (Finset.sum_congr rfl fun k _ => ?_))
    refine (val_main_v0_apply (F := Ideal) x0 _).trans ?_
    have e : idx_main_v1 (idx_main_v2 (idx_main_v8 (ix2 q d))) k = ix2 q k := by
      funext a; match a with | ⟨0, _⟩ => rfl | ⟨1, _⟩ => rfl
    rw [e]; rfl
  · funext a; apply Fin.ext
    match a with
    | ⟨0, _⟩ => rfl
    | ⟨1, _⟩ => exact Nat.mod_eq_of_lt d.isLt

theorem ref_hidden (i : Cert.Reference2Ideal.S16384x8192.Idx) (q : Fin 16384) (j : Fin 8192) (hi : i = ix2 q j) :
    val_main_v18 (F := Ideal) x0 x1 x2 i = max (∑ k : Fin 2048, normed x0 x1 q k * x2 (ix3 3 k j)) 0 := by
  subst hi
  rw [val_main_v18_apply, val_main_v17_apply, val_main_call0_v0_apply, val_main_call0_cst_apply]
  refine congrArg₂ max (Finset.sum_congr rfl fun k _ => congrArg₂ _ (ref_normed x0 x1 _ q k ?_) ?_) word_none
  · funext a; match a with | ⟨0, _⟩ => rfl | ⟨1, _⟩ => rfl
  · rw [val_main_v16_apply, val_main_v15_apply]
    refine congrArg x2 (funext fun a => Fin.ext ?_)
    match a with
    | ⟨0, _⟩ => rfl
    | ⟨1, _⟩ => show (k.val * 8192 + j.val) / 8192 % 2048 = k.val; omega
    | ⟨2, _⟩ => show (k.val * 8192 + j.val) % 8192 = j.val; omega

theorem ref_apply (q : Fin 16384) (d : Fin 2048) :
    val_main_v23 (F := Ideal) x0 x1 x2 x3 (ix2 q d) = x0 (ix2 q d) + ∑ j : Fin 8192, part x0 x1 x2 x3 q d j := by
  rw [val_main_v23_apply, val_main_v22_apply]
  refine congrArg (x0 (ix2 q d) + ·) (Finset.sum_congr rfl fun j _ => congrArg₂ _ ?_ ?_)
  · rw [val_main_v19_apply]
    have e := ref_hidden x0 x1 x2 (lidx_main_v22 (ix2 q d) j) q j (by
      funext a; match a with | ⟨0, _⟩ => rfl | ⟨1, _⟩ => rfl)
    exact congrArg₂ (· * ·) e e
  · rw [val_main_v21_apply, val_main_v20_apply]
    refine congrArg x3 (funext fun a => Fin.ext ?_)
    match a with
    | ⟨0, _⟩ => rfl
    | ⟨1, _⟩ => show (j.val * 2048 + d.val) / 2048 % 8192 = j.val; omega
    | ⟨2, _⟩ => show (j.val * 2048 + d.val) % 2048 = d.val; omega
end

/-! ## The operands and their blocks -/

variable (m : (ℓ : Loc nD τ sig) → Buf (Elt Ideal) ℓ) (c : Dev nD)

/-- The rows, the norms' gains and the two weights given. -/
def xIn : S16384x2048.Idx → EReal := m ((c.tc : Thread nD τ).loc main_arg0)
def gIn : S4x2048.Idx → EReal := m ((c.tc : Thread nD τ).loc main_arg1)
def uIn : S4x2048x8192.Idx → EReal := m ((c.tc : Thread nD τ).loc main_arg2)
def wIn : S4x8192x2048.Idx → EReal := m ((c.tc : Thread nD τ).loc main_arg3)

/-- The operands of the call that the lines before it prepare. -/
def gOp : S1x2048.Idx → EReal := V m c main_v2
def uOp : S4x2048x8192.Idx → EReal := V m c main_v3
def wOp : S4x8192x2048.Idx → EReal := V m c main_v4

theorem gain (d : Fin 2048) : gOp m c (ix2 0 d) = gIn m c (ix2 3 d) := by
  unfold gOp gIn V
  after_reads_at
  try rfl
theorem up (i : S4x2048x8192.Idx) : uOp m c i = uIn m c i := by
  unfold uOp uIn V
  after_reads_at
  try rfl
theorem down (i : S4x8192x2048.Idx) : wOp m c i = wIn m c i := by
  unfold wOp wIn V
  after_reads_at
  try rfl

theorem idx0 : ∀ t : Fin cfg0.N, win0_0.index t (0 : Fin 2) = t.val / 4 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 3 ∧ win0_2.index t (1 : Fin 3) = 0 ∧ win0_2.index t (2 : Fin 3) = t.val % 4 :=
  (by decide +kernel : ∀ t : Fin grid0.N, _)
theorem idx3 : ∀ t : Fin cfg0.N, win0_3.index t (0 : Fin 3) = 3 ∧ win0_3.index t (1 : Fin 3) = t.val % 4 ∧ win0_3.index t (2 : Fin 3) = 0 :=
  (by decide +kernel : ∀ t : Fin grid0.N, _)

theorem rows_blk (t : Fin cfg0.N) (r : Fin 512) (d : Fin 2048) (q : Fin 16384) (hq : q.val = t.val / 4 * 512 + r.val) :
    iblk m c 0 t (ix2 r d) = xIn m c (ix2 q d) := by
  obtain ⟨e0, e1⟩ := idx0 t
  refine Eq.trans ?_ (congrFun (V_main_arg0 m c) (ix2 q d))
  show V m c main_arg0 (((cfg0.win 0).blk t).view.emb (ix2 r d)) = _
  refine congrArg _ (funext fun a => Fin.ext ?_)
  match a with
  | ⟨0, _⟩ => show win0_0.index t (0 : Fin 2) * 512 + 1 * r.val = q.val; omega
  | ⟨1, _⟩ => show win0_0.index t (1 : Fin 2) * 2048 + 1 * d.val = d.val; omega

theorem gain_blk (t : Fin cfg0.N) (d : Fin 2048) : iblk m c 1 t (ix2 0 d) = gIn m c (ix2 3 d) := by
  obtain ⟨e0, e1⟩ := idx1 t
  refine Eq.trans ?_ (gain m c d)
  show V m c main_v2 (((cfg0.win 1).blk t).view.emb (ix2 0 d)) = _
  refine congrArg _ (funext fun a => Fin.ext ?_)
  match a with
  | ⟨0, _⟩ => show win0_1.index t (0 : Fin 2) * 1 + 1 * 0 = 0; omega
  | ⟨1, _⟩ => show win0_1.index t (1 : Fin 2) * 2048 + 1 * d.val = d.val; omega

theorem up_blk (t : Fin cfg0.N) (k j : Fin 2048) (J : Fin 8192) (hJ : J.val = t.val % 4 * 2048 + j.val) :
    iblk m c 2 t (ix3 0 k j) = uIn m c (ix3 3 k J) := by
  obtain ⟨e0, e1, e2⟩ := idx2 t
  refine Eq.trans ?_ (up m c (ix3 3 k J))
  show V m c main_v3 (((cfg0.win 2).blk t).view.emb (ix3 0 k j)) = _
  refine congrArg _ (funext fun a => Fin.ext ?_)
  match a with
  | ⟨0, _⟩ => show win0_2.index t (0 : Fin 3) * 1 + 1 * 0 = 3; omega
  | ⟨1, _⟩ => show win0_2.index t (1 : Fin 3) * 2048 + 1 * k.val = k.val; omega
  | ⟨2, _⟩ => show win0_2.index t (2 : Fin 3) * 2048 + 1 * j.val = J.val; omega

theorem down_blk (t : Fin cfg0.N) (j d : Fin 2048) (J : Fin 8192) (hJ : J.val = t.val % 4 * 2048 + j.val) :
    iblk m c 3 t (ix3 0 j d) = wIn m c (ix3 3 J d) := by
  obtain ⟨e0, e1, e2⟩ := idx3 t
  refine Eq.trans ?_ (down m c (ix3 3 J d))
  show V m c main_v4 (((cfg0.win 3).blk t).view.emb (ix3 0 j d)) = _
  refine congrArg _ (funext fun a => Fin.ext ?_)
  match a with
  | ⟨0, _⟩ => show win0_3.index t (0 : Fin 3) * 1 + 1 * 0 = 3; omega
  | ⟨1, _⟩ => show win0_3.index t (1 : Fin 3) * 2048 + 1 * j.val = J.val; omega
  | ⟨2, _⟩ => show win0_3.index t (2 : Fin 3) * 2048 + 1 * d.val = d.val; omega

/-! ## A block of the result, and the array -/

theorem normed_blk (t : Fin cfg0.N) (r : Fin 512) (d : Fin 2048) (q : Fin 16384) (hq : q.val = t.val / 4 * 512 + r.val) :
    k0_pay1 (iblk m c 0 t) (iblk m c 1 t) (ix2 r d) = normed (xIn m c) (gIn m c) q d := by
  refine (norm_apply _ _ r d).trans ?_
  unfold normed
  rw [gain_blk m c t d, rows_blk m c t r d q hq]
  simp only [rows_blk m c t r _ q hq]

/-- A point adds its share to what the result held. -/
theorem share_blk (s t : Fin cfg0.N) (o : Vec Ideal S512x2048 .f32) (r : Fin 512) (d : Fin 2048) (q : Fin 16384)
    (hq : q.val = s.val / 4 * 512 + r.val) (f : ℕ) (hf : t.val % 4 = f) (h4 : f < 4) :
    k0_pay2 (k0_pay1 (iblk m c 0 s) (iblk m c 1 s)) (iblk m c 2 t) o (iblk m c 3 t) (ix2 r d)
      = o (ix2 r d) + ∑ j : Fin 2048, part (xIn m c) (gIn m c) (uIn m c) (wIn m c) q d ⟨f * 2048 + j.val, by omega⟩ := by
  subst hf
  refine (share_apply _ _ _ _ r d).trans (congrArg (o (ix2 r d) + ·) (Finset.sum_congr rfl fun j _ => ?_))
  unfold part
  have e : ∑ k : Fin 2048, k0_pay1 (iblk m c 0 s) (iblk m c 1 s) (ix2 r k) * iblk m c 2 t (ix3 0 k j)
      = ∑ k : Fin 2048, normed (xIn m c) (gIn m c) q k * uIn m c (ix3 3 k ⟨t.val % 4 * 2048 + j.val, by omega⟩) :=
    Finset.sum_congr rfl fun k _ => congrArg₂ _ (normed_blk m c s r k q hq) (up_blk m c t k j _ rfl)
  exact congrArg₂ (fun a b : EReal => max a 0 * max a 0 * b) e (down_blk m c t j d _ rfl)

theorem block (n : ℕ) (h : n + 3 < cfg0.N) (hm : n % 4 = 0) (r : Fin 512) (d : Fin 2048) (q : Fin 16384)
    (hq : q.val = n / 4 * 512 + r.val) :
    (outsAt0 m c (n + 3) h).1 (ix2 r d)
      = Cert.Reference2Ideal.Read.val_main_v23 (F := Ideal) (xIn m c) (gIn m c) (uIn m c) (wIn m c) (ix2 q d) := by
  have hN : cfg0.N = 128 := N_0
  have e (f : ℕ) (h4 : f < 4) (o : Vec Ideal S512x2048 .f32) := share_blk m c ⟨n, by omega⟩ ⟨n + f, by omega⟩ o r d q hq f
    (show (n + f) % 4 = f by omega) h4
  refine (congrFun (last m c n h hm) (ix2 r d)).trans ?_
  refine ((e 3 (by omega) _).trans (congrArg (· + _) ?_)).trans ((shares (xIn m c (ix2 q d)) _).trans (ref_apply _ _ _ _ q d).symm)
  refine (e 2 (by omega) _).trans (congrArg (· + _) ?_)
  refine (e 1 (by omega) _).trans (congrArg (· + _) ?_)
  exact (e 0 (by omega) _).trans (congrArg (· + _) (rows_blk m c ⟨n, by omega⟩ r d q hq))

theorem final : G4 m c
    = Cert.Reference2Ideal.Read.val_main_v23 (F := Ideal) (m ((c.tc : Thread nD τ).loc main_arg0))
        (m ((c.tc : Thread nD τ).loc main_arg1)) (m ((c.tc : Thread nD τ).loc main_arg2)) (m ((c.tc : Thread nD τ).loc main_arg3)) := by
  funext i
  obtain ⟨q, d, rfl⟩ : ∃ (q : Fin 16384) (d : Fin 2048), i = ix2 q d := ⟨i 0, i 1, by
    funext a; match a with | ⟨0, _⟩ => rfl | ⟨1, _⟩ => rfl⟩
  have hN : cfg0.N = 128 := N_0
  have hp : pt4Of (ix2 q d) = 4 * (q.val / 512) + 3 := by
    show 4 * (1 * (q.val / 512 - 0) + 1 * (d.val / 2048 - 0)) + 3 = _
    omega
  have hb : 4 * (q.val / 512) + 3 < cfg0.N := by omega
  have hl : loc4Of (ix2 q d) = ix2 ⟨q.val % 512, by omega⟩ d := by
    funext a; apply Fin.ext
    match a with
    | ⟨0, _⟩ => rfl
    | ⟨1, _⟩ => exact Nat.mod_eq_of_lt d.isLt
  unfold G4
  rw [dif_pos (by rw [hp]; exact hb), hl, fold0_congr m c _ _ _ (by omega) hp, ← outsAt0_sweep m c _ hb]
  exact block m c (4 * (q.val / 512)) hb (by omega) _ d q (show q.val = 4 * (q.val / 512) / 4 * 512 + q.val % 512 by omega)

end Cert.Mlp

end
-- ==== Proof.Oproj.lean ====
/-
  The output projection's array: every block of it is a tile of rows plus the product of the attention's rows with the
  weight, over the extended reals the reference's block, hence the whole array (`final`).
-/
module

public import proofs.«01_k».proof.Proof.Gen.Kernel3Ideal.Value
public import proofs.«01_k».proof.Proof.Gen.Reference3Ideal.Read
public import Idealize.ShloMosaic.Lib.Tactic
public import Idealize.ShloMosaic.Lib.Pointwise.Tactic
public import Idealize.ShloMosaic.Lib.Pointwise.Contract
public import Idealize.ShloMosaic.Lib.Pointwise.Sums
public import Idealize.ShloMosaic.Lib.StableHlo.ReadAt
public import Idealize.ShloMosaic.Lib.Pipeline.ValueKit.Geometry

@[expose] public section

set_option maxRecDepth 16384

noncomputable section

namespace Cert.Oproj

open Cert.Kernel3Ideal Cert.Kernel3Ideal.Gen Cert.Kernel3Ideal.Value
open Idealize.ShloMosaic Idealize.ShloMosaic.TcCoe Idealize.SL.Sem
open Idealize.ShloMosaic.Pipeline (Dat Cfg Window)

theorem zeros2 : (![0, 0] : Fin 2 → Nat) = fun _ => 0 := funext fun a => by fin_cases a <;> rfl

theorem pay_apply (x : Vec Ideal S512x2048 .f32) (a : Vec Ideal S512x2048 .bf16) (w : Vec Ideal S2048x2048 .bf16)
    (r : Fin 512) (d : Fin 2048) :
    k0_pay1 x a w (ix2 r d) = x (ix2 r d) + ∑ k : Fin 2048, a (ix2 r k) * w (ix2 k d) := by
  pointwise [k0_pay1]; try rfl

section
open Cert.Reference3Ideal.Read

theorem ref_apply (x0 x1 : S16384x2048.Idx → EReal) (x2 : S2048x2048.Idx → EReal) (q : Fin 16384) (d : Fin 2048) :
    val_main_v2 (F := Ideal) x0 x1 x2 (ix2 q d) = x0 (ix2 q d) + ∑ k : Fin 2048, x1 (ix2 q k) * x2 (ix2 k d) := by
  rw [val_main_v2_apply, val_main_v1_apply]
  refine congrArg (x0 (ix2 q d) + ·) (Finset.sum_congr rfl fun k _ => congrArg₂ _ (congrArg x1 ?_) (congrArg x2 ?_)) <;>
    (funext a; match a with | ⟨0, _⟩ => rfl | ⟨1, _⟩ => rfl)
end

variable (m : (ℓ : Loc nD τ sig) → Buf (Elt Ideal) ℓ) (c : Dev nD)

/-- The rows, the attention's rows and the weight given. -/
def xIn : S16384x2048.Idx → EReal := m ((c.tc : Thread nD τ).loc main_arg0)
def aIn : S16384x2048.Idx → EReal := m ((c.tc : Thread nD τ).loc main_arg1)
def wIn : S2048x2048.Idx → EReal := m ((c.tc : Thread nD τ).loc main_arg2)

/-- The weight as the call takes it. -/
def wOp : S2048x2048.Idx → EReal := V m c main_v0

theorem weight (i : S2048x2048.Idx) : wOp m c i = wIn m c i := by
  unfold wOp wIn V
  after_reads_at
  try rfl

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)

theorem points (t : Fin cfg0.N) : t.val < 32 := N_0 ▸ t.isLt

/-- The row at place `r` of a grid point's tile. -/
def rowOf (t : Fin cfg0.N) (r : Fin 512) : Fin 16384 := ⟨t.val * 512 + r.val, by have := points t; omega⟩

theorem rows_blk (t : Fin cfg0.N) (r : Fin 512) (d : Fin 2048) : iblk m c 0 t (ix2 r d) = xIn m c (ix2 (rowOf t r) d) := by
  obtain ⟨e0, e1⟩ := idx0 t
  refine Eq.trans ?_ (congrFun (V_main_arg0 m c) (ix2 (rowOf t r) d))
  show V m c main_arg0 (((cfg0.win 0).blk t).view.emb (ix2 r d)) = _
  refine congrArg _ (funext fun a => Fin.ext ?_)
  match a with
  | ⟨0, _⟩ => show win0_0.index t (0 : Fin 2) * 512 + 1 * r.val = t.val * 512 + r.val; omega
  | ⟨1, _⟩ => show win0_0.index t (1 : Fin 2) * 2048 + 1 * d.val = d.val; omega

theorem attn_blk (t : Fin cfg0.N) (r : Fin 512) (d : Fin 2048) : iblk m c 1 t (ix2 r d) = aIn m c (ix2 (rowOf t r) d) := by
  obtain ⟨e0, e1⟩ := idx1 t
  refine Eq.trans ?_ (congrFun (V_main_arg1 m c) (ix2 (rowOf t r) d))
  show V m c main_arg1 (((cfg0.win 1).blk t).view.emb (ix2 r d)) = _
  refine congrArg _ (funext fun a => Fin.ext ?_)
  match a with
  | ⟨0, _⟩ => show win0_1.index t (0 : Fin 2) * 512 + 1 * r.val = t.val * 512 + r.val; omega
  | ⟨1, _⟩ => show win0_1.index t (1 : Fin 2) * 2048 + 1 * d.val = d.val; omega

theorem weight_blk (t : Fin cfg0.N) (k d : Fin 2048) : iblk m c 2 t (ix2 k d) = wIn m c (ix2 k d) := by
  obtain ⟨e0, e1⟩ := idx2 t
  refine Eq.trans ?_ (weight m c (ix2 k d))
  show V m c main_v0 (((cfg0.win 2).blk t).view.emb (ix2 k d)) = _
  refine congrArg _ (funext fun a => Fin.ext ?_)
  match a with
  | ⟨0, _⟩ => show win0_2.index t (0 : Fin 2) * 2048 + 1 * k.val = k.val; omega
  | ⟨1, _⟩ => show win0_2.index t (1 : Fin 2) * 2048 + 1 * d.val = d.val; omega

theorem out_emb (t : Fin cfg0.N) (r : Fin 512) (d : Fin 2048) :
    ((cfg0.win 3).blk t).view.emb (ix2 r d) = (ix2 (rowOf t r) d : S16384x2048.Idx) := by
  obtain ⟨e0, e1⟩ := idx3 t
  refine funext fun a => Fin.ext ?_
  match a with
  | ⟨0, _⟩ => show win0_3.index t (0 : Fin 2) * 512 + 1 * r.val = t.val * 512 + r.val; omega
  | ⟨1, _⟩ => show win0_3.index t (1 : Fin 2) * 2048 + 1 * d.val = d.val; omega

/-- What a point leaves in its block: the payload of the point's operands. -/
theorem left3 (t : Fin cfg0.N) : (dats m 0 c).after 3 t = k0_pay1 (iblk m c 0 t) (iblk m c 1 t) (iblk m c 2 t) := by
  rw [after0_3]
  unfold out0_3
  rw [View.canon_unit_zero (S := S512x2048) zeros2, View.ld_unit_zero (S := S512x2048) zeros2,
    View.ld_unit_zero (S := S512x2048) zeros2, View.ld_unit_zero (S := S2048x2048) zeros2]

theorem block (t : Fin cfg0.N) (r : Fin 512) (d : Fin 2048) :
    k0_pay1 (iblk m c 0 t) (iblk m c 1 t) (iblk m c 2 t) (ix2 r d)
      = Cert.Reference3Ideal.Read.val_main_v2 (F := Ideal) (xIn m c) (aIn m c) (wIn m c) (ix2 (rowOf t r) d) := by
  refine (pay_apply _ _ _ r d).trans (Eq.trans ?_ (ref_apply _ _ _ _ d).symm)
  exact congrArg₂ (fun a b : EReal => a + b) (rows_blk m c t r d)
    (Finset.sum_congr rfl fun k _ => congrArg₂ (fun a b : EReal => a * b) (attn_blk m c t r k) (weight_blk m c t k d))

theorem final : (dats m 0 c).arrAt 3 cfg0.N
    = Cert.Reference3Ideal.Read.val_main_v2 (F := Ideal) (m ((c.tc : Thread nD τ).loc main_arg0))
        (m ((c.tc : Thread nD τ).loc main_arg1)) (m ((c.tc : Thread nD τ).loc main_arg2)) := by
  refine (dats m 0 c).arrAt_eq_of_covers 3 _ (by decide +kernel) fun t _ y => ?_
  obtain ⟨r, d, rfl⟩ : ∃ (r : Fin 512) (d : Fin 2048), y = ix2 r d := ⟨y 0, y 1, by
    funext a; match a with | ⟨0, _⟩ => rfl | ⟨1, _⟩ => rfl⟩
  have key : k0_pay1 (iblk m c 0 t) (iblk m c 1 t) (iblk m c 2 t) (ix2 r d)
      = Cert.Reference3Ideal.Read.val_main_v2 (F := Ideal) (xIn m c) (aIn m c) (wIn m c)
          (((cfg0.win 3).blk t).view.emb (ix2 r d)) := by
    rw [out_emb]
    exact block m c t r d
  blk_simp
  rw [left3]
  exact key

end Cert.Oproj

end
-- ==== Proof.OprojMix.lean ====
/-
  The output projection after a Fourier mixer: the call of Proof/Oproj.lean on rows in f32, which the body casts itself.
  Its array is the reference's in the same way (`final`).
-/
module

public import proofs.«01_k».proof.Proof.Oproj
public import proofs.«01_k».proof.Proof.Gen.Kernel4Ideal.Value
public import proofs.«01_k».proof.Proof.Gen.Reference4Ideal.Read
public import Idealize.ShloMosaic.Lib.Tactic
public import Idealize.ShloMosaic.Lib.Pointwise.Tactic
public import Idealize.ShloMosaic.Lib.Pointwise.Contract
public import Idealize.ShloMosaic.Lib.Pointwise.Sums
public import Idealize.ShloMosaic.Lib.StableHlo.ReadAt
public import Idealize.ShloMosaic.Lib.Pipeline.ValueKit.Geometry

@[expose] public section

set_option maxRecDepth 16384

noncomputable section

namespace Cert.OprojMix

open Cert.Kernel4Ideal Cert.Kernel4Ideal.Gen Cert.Kernel4Ideal.Value
open Idealize.ShloMosaic Idealize.ShloMosaic.TcCoe Idealize.SL.Sem
open Idealize.ShloMosaic.Pipeline (Dat Cfg Window)

theorem pay_apply (x : Vec Ideal S512x2048 .f32) (a : Vec Ideal S512x2048 .f32) (w : Vec Ideal S2048x2048 .bf16)
    (r : Fin 512) (d : Fin 2048) :
    k0_pay1 x a w (ix2 r d) = x (ix2 r d) + ∑ k : Fin 2048, a (ix2 r k) * w (ix2 k d) := by
  pointwise [k0_pay1]; try rfl

section
open Cert.Reference4Ideal.Read

theorem ref_apply (x0 x1 : S16384x2048.Idx → EReal) (x2 : S2048x2048.Idx → EReal) (q : Fin 16384) (d : Fin 2048) :
    val_main_v1 (F := Ideal) x0 x1 x2 (ix2 q d) = x0 (ix2 q d) + ∑ k : Fin 2048, x1 (ix2 q k) * x2 (ix2 k d) := by
  rw [val_main_v1_apply, val_main_v0_apply]
  refine congrArg (x0 (ix2 q d) + ·) (Finset.sum_congr rfl fun k _ => congrArg₂ _ (congrArg x1 ?_) (congrArg x2 ?_)) <;>
    (funext a; match a with | ⟨0, _⟩ => rfl | ⟨1, _⟩ => rfl)
end

variable (m : (ℓ : Loc nD τ sig) → Buf (Elt Ideal) ℓ) (c : Dev nD)

/-- The rows, the mixer's rows and the weight given. -/
def xIn : S16384x2048.Idx → EReal := m ((c.tc : Thread nD τ).loc main_arg0)
def aIn : S16384x2048.Idx → EReal := m ((c.tc : Thread nD τ).loc main_arg1)
def wIn : S2048x2048.Idx → EReal := m ((c.tc : Thread nD τ).loc main_arg2)

/-- The weight as the call takes it. -/
def wOp : S2048x2048.Idx → EReal := V m c main_v0

theorem weight (i : S2048x2048.Idx) : wOp m c i = wIn m c i := by
  unfold wOp wIn V
  after_reads_at
  try rfl

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)

theorem points (t : Fin cfg0.N) : t.val < 32 := N_0 ▸ t.isLt

/-- The row at place `r` of a grid point's tile. -/
def rowOf (t : Fin cfg0.N) (r : Fin 512) : Fin 16384 := ⟨t.val * 512 + r.val, by have := points t; omega⟩

theorem rows_blk (t : Fin cfg0.N) (r : Fin 512) (d : Fin 2048) : iblk m c 0 t (ix2 r d) = xIn m c (ix2 (rowOf t r) d) := by
  obtain ⟨e0, e1⟩ := idx0 t
  refine Eq.trans ?_ (congrFun (V_main_arg0 m c) (ix2 (rowOf t r) d))
  show V m c main_arg0 (((cfg0.win 0).blk t).view.emb (ix2 r d)) = _
  refine congrArg _ (funext fun a => Fin.ext ?_)
  match a with
  | ⟨0, _⟩ => show win0_0.index t (0 : Fin 2) * 512 + 1 * r.val = t.val * 512 + r.val; omega
  | ⟨1, _⟩ => show win0_0.index t (1 : Fin 2) * 2048 + 1 * d.val = d.val; omega

theorem mix_blk (t : Fin cfg0.N) (r : Fin 512) (d : Fin 2048) : iblk m c 1 t (ix2 r d) = aIn m c (ix2 (rowOf t r) d) := by
  obtain ⟨e0, e1⟩ := idx1 t
  refine Eq.trans ?_ (congrFun (V_main_arg1 m c) (ix2 (rowOf t r) d))
  show V m c main_arg1 (((cfg0.win 1).blk t).view.emb (ix2 r d)) = _
  refine congrArg _ (funext fun a => Fin.ext ?_)
  match a with
  | ⟨0, _⟩ => show win0_1.index t (0 : Fin 2) * 512 + 1 * r.val = t.val * 512 + r.val; omega
  | ⟨1, _⟩ => show win0_1.index t (1 : Fin 2) * 2048 + 1 * d.val = d.val; omega

theorem weight_blk (t : Fin cfg0.N) (k d : Fin 2048) : iblk m c 2 t (ix2 k d) = wIn m c (ix2 k d) := by
  obtain ⟨e0, e1⟩ := idx2 t
  refine Eq.trans ?_ (weight m c (ix2 k d))
  show V m c main_v0 (((cfg0.win 2).blk t).view.emb (ix2 k d)) = _
  refine congrArg _ (funext fun a => Fin.ext ?_)
  match a with
  | ⟨0, _⟩ => show win0_2.index t (0 : Fin 2) * 2048 + 1 * k.val = k.val; omega
  | ⟨1, _⟩ => show win0_2.index t (1 : Fin 2) * 2048 + 1 * d.val = d.val; omega

theorem out_emb (t : Fin cfg0.N) (r : Fin 512) (d : Fin 2048) :
    ((cfg0.win 3).blk t).view.emb (ix2 r d) = (ix2 (rowOf t r) d : S16384x2048.Idx) := by
  obtain ⟨e0, e1⟩ := idx3 t
  refine funext fun a => Fin.ext ?_
  match a with
  | ⟨0, _⟩ => show win0_3.index t (0 : Fin 2) * 512 + 1 * r.val = t.val * 512 + r.val; omega
  | ⟨1, _⟩ => show win0_3.index t (1 : Fin 2) * 2048 + 1 * d.val = d.val; omega

/-- What a point leaves in its block: the payload of the point's operands. -/
theorem left3 (t : Fin cfg0.N) : (dats m 0 c).after 3 t = k0_pay1 (iblk m c 0 t) (iblk m c 1 t) (iblk m c 2 t) := by
  rw [after0_3]
  unfold out0_3
  rw [View.canon_unit_zero (S := S512x2048) Cert.Oproj.zeros2, View.ld_unit_zero (S := S512x2048) Cert.Oproj.zeros2,
    View.ld_unit_zero (S := S512x2048) Cert.Oproj.zeros2, View.ld_unit_zero (S := S2048x2048) Cert.Oproj.zeros2]

theorem block (t : Fin cfg0.N) (r : Fin 512) (d : Fin 2048) :
    k0_pay1 (iblk m c 0 t) (iblk m c 1 t) (iblk m c 2 t) (ix2 r d)
      = Cert.Reference4Ideal.Read.val_main_v1 (F := Ideal) (xIn m c) (aIn m c) (wIn m c) (ix2 (rowOf t r) d) := by
  refine (pay_apply _ _ _ r d).trans (Eq.trans ?_ (ref_apply _ _ _ _ d).symm)
  exact congrArg₂ (fun a b : EReal => a + b) (rows_blk m c t r d)
    (Finset.sum_congr rfl fun k _ => congrArg₂ (fun a b : EReal => a * b) (mix_blk m c t r k) (weight_blk m c t k d))

theorem final : (dats m 0 c).arrAt 3 cfg0.N
    = Cert.Reference4Ideal.Read.val_main_v1 (F := Ideal) (m ((c.tc : Thread nD τ).loc main_arg0))
        (m ((c.tc : Thread nD τ).loc main_arg1)) (m ((c.tc : Thread nD τ).loc main_arg2)) := by
  refine (dats m 0 c).arrAt_eq_of_covers 3 _ (by decide +kernel) fun t _ y => ?_
  obtain ⟨r, d, rfl⟩ : ∃ (r : Fin 512) (d : Fin 2048), y = ix2 r d := ⟨y 0, y 1, by
    funext a; match a with | ⟨0, _⟩ => rfl | ⟨1, _⟩ => rfl⟩
  have key : k0_pay1 (iblk m c 0 t) (iblk m c 1 t) (iblk m c 2 t) (ix2 r d)
      = Cert.Reference4Ideal.Read.val_main_v1 (F := Ideal) (xIn m c) (aIn m c) (wIn m c)
          (((cfg0.win 3).blk t).view.emb (ix2 r d)) := by
    rw [out_emb]
    exact block m c t r d
  blk_simp
  rw [left3]
  exact key

end Cert.OprojMix

end
-- ==== Proof.ProjBody.lean ====
/-
  The values the projection kernel computes from a block of rows, at an index: the normalised rows and their compressed
  queries, a head of queries with its norm and its rotary step, the compressed keys, a head of keys, and the values.
-/
module

public import proofs.«01_k».proof.Proof.Gen.Kernel5Ideal.Skeleton
public import Idealize.ShloMosaic.Lib.Tactic
public import Idealize.ShloMosaic.Lib.Pointwise.Tactic
public import Idealize.ShloMosaic.Lib.Pointwise.Contract
public import Idealize.ShloMosaic.Lib.Pointwise.Reshape
public import Idealize.ShloMosaic.Lib.Pointwise.Reduce
public import Idealize.ShloMosaic.Lib.Pointwise.Sums

@[expose] public section

set_option maxRecDepth 16384

noncomputable section

namespace Cert.Proj

open Cert.Kernel5Ideal Cert.Kernel5Ideal.Gen
open Idealize.ShloMosaic Idealize.ShloMosaic.TcCoe Idealize.SL.Sem

/-- The step that keeps a mean square away from zero. -/
abbrev eps : EReal := Ideal.ofBits .f32 0x358637BD#32

theorem row_apply (x : Vec Ideal S512x2048 .f32) (g : Vec Ideal S1x2048 .f32) (r : Fin 512) (d : Fin 2048) :
    k0_pay3 x g (ix2 r d)
      = x (ix2 r d) * Ideal.rsqrt (Ideal.div (∑ k : Fin 2048, x (ix2 r k) * x (ix2 r k)) (Ideal.ofBits .f32 0x45000000#32)
          + eps) * g (ix2 0 d) := by
  pointwise [k0_pay3]; try rfl

/-- The compressed queries, with the rows along the second axis. -/
theorem cq_apply (x : Vec Ideal S512x2048 .f32) (g : Vec Ideal S1x2048 .f32) (w : Vec Ideal S2048x512 .bf16)
    (gq : Vec Ideal S1x512 .f32) (j r : Fin 512) :
    k0_pay4 x g w gq (ix2 j r)
      = (∑ k : Fin 2048, k0_pay3 x g (ix2 r k) * w (ix2 k j))
        * Ideal.rsqrt (Ideal.div (∑ i : Fin 512, (∑ k : Fin 2048, k0_pay3 x g (ix2 r k) * w (ix2 k i))
            * (∑ k : Fin 2048, k0_pay3 x g (ix2 r k) * w (ix2 k i))) (Ideal.ofBits .f32 0x44000000#32) + eps)
        * gq (ix2 0 j) := by
  pointwise [k0_pay4]; try rfl

/-- A head of queries before the rotary step. -/
theorem head_apply (c : FVec Ideal S512x512 .bf16) (w : Vec Ideal S256x512 .bf16) (g : Vec Ideal S256x1 .f32)
    (d : Fin 256) (r : Fin 512) :
    k0_pay7 c w g (ix2 d r)
      = (∑ k : Fin 512, w (ix2 d k) * c (ix2 k r))
        * (Ideal.rsqrt ((∑ i : Fin 256, (∑ k : Fin 512, w (ix2 i k) * c (ix2 k r)) * (∑ k : Fin 512, w (ix2 i k) * c (ix2 k r)))
            * ((1 / 192 : ℝ) : EReal) + eps) * (((Real.sqrt 192)⁻¹ * (Real.log 2)⁻¹ : ℝ) : EReal))
        * g (ix2 d 0) := by
  pointwise [k0_pay7]; try rfl

theorem nope_apply (c : FVec Ideal S512x512 .bf16) (w : Vec Ideal S256x512 .bf16) (g : Vec Ideal S256x1 .f32)
    (d : Fin 128) (r : Fin 512) :
    k0_pay10 c w g (ix3 0 d r) = k0_pay7 c w g (ix2 (d.castLE (by decide)) r) := by
  pointwise [k0_pay10]; try rfl

theorem rope1_apply (c : FVec Ideal S512x512 .bf16) (co si : FVec Ideal S32x512 .f32) (w : Vec Ideal S256x512 .bf16)
    (g : Vec Ideal S256x1 .f32) (l : Fin 32) (r : Fin 512) :
    k0_pay11 c co si w g (ix3 0 l r)
      = k0_pay7 c w g (ix2 ⟨128 + l.val, by omega⟩ r) * co (ix2 l r)
        - k0_pay7 c w g (ix2 ⟨160 + l.val, by omega⟩ r) * si (ix2 l r) := by
  pointwise [k0_pay11, k0_pay8, k0_pay9]; try rfl

theorem rope2_apply (c : FVec Ideal S512x512 .bf16) (co si : FVec Ideal S32x512 .f32) (w : Vec Ideal S256x512 .bf16)
    (g : Vec Ideal S256x1 .f32) (l : Fin 32) (r : Fin 512) :
    k0_pay12 c co si w g (ix3 0 l r)
      = k0_pay7 c w g (ix2 ⟨160 + l.val, by omega⟩ r) * co (ix2 l r)
        + k0_pay7 c w g (ix2 ⟨128 + l.val, by omega⟩ r) * si (ix2 l r) := by
  pointwise [k0_pay12, k0_pay8, k0_pay9]; try rfl

/-! ## Keys and values -/

/-- The compressed keys with the rotary columns twice. -/
theorem ckv_apply (h : FVec Ideal S512x2048 .bf16) (w : Vec Ideal S2048x640 .bf16) (r : Fin 512) (j : Fin 640) :
    k0_pay139 h w (ix2 r j) = ∑ k : Fin 2048, h (ix2 r k) * w (ix2 k j) := by
  pointwise [k0_pay139]; try rfl

/-- The normalised compressed keys, from the rows. -/
abbrev comp {F : FTy → Type} [FloatOps F] [Named F] (h : FVec F S512x2048 .bf16) (w : Vec F S2048x640 .bf16)
    (g : Vec F S1x512 .f32) : FVec F S512x512 .f32 :=
  k0_pay143 (k0_pay140 h w) (k0_pay141 g) (k0_pay142 h w)

theorem comp_apply (h : FVec Ideal S512x2048 .bf16) (w : Vec Ideal S2048x640 .bf16) (g : Vec Ideal S1x512 .f32)
    (r j : Fin 512) :
    comp h w g (ix2 r j)
      = k0_pay139 h w (ix2 r (j.castLE (by decide)))
        * Ideal.rsqrt (Ideal.div (∑ i : Fin 512, k0_pay139 h w (ix2 r (i.castLE (by decide)))
            * k0_pay139 h w (ix2 r (i.castLE (by decide)))) (Ideal.ofBits .f32 0x44000000#32) + eps)
        * g (ix2 0 j) := by
  pointwise [comp, k0_pay143, k0_pay140, k0_pay141, k0_pay142]; try rfl

/-- Half the sum of the squares of the doubled rotary columns. -/
theorem peSq_apply (v : FVec Ideal S512x640 .f32) (r : Fin 512) :
    k0_pay145 v (ix2 r 0)
      = Ideal.ofBits .f32 0x3F000000#32 * ∑ i : Fin 128, v (ix2 r ⟨512 + i.val, by omega⟩) * v (ix2 r ⟨512 + i.val, by omega⟩) := by
  pointwise [k0_pay145, k0_pay144]; try rfl

/-- The rotated columns before the norm. -/
theorem rot_apply (v : FVec Ideal S512x640 .f32) (g : Vec Ideal S1x128 .f32) (co si : Vec Ideal S512x128 .f32)
    (r : Fin 512) (l : Fin 128) :
    k0_pay147 v g co si (ix2 r l)
      = v (ix2 r ⟨512 + l.val, by omega⟩) * g (ix2 0 l) * co (ix2 r l)
        + v (ix2 r ⟨512 + (l.val + 128 - 32) % 128, by omega⟩)
          * g (ix2 0 ⟨(l.val + 128 - 32) % 128, Nat.mod_lt _ (by decide)⟩) * si (ix2 r l) := by
  pointwise [k0_pay147, k0_pay144]; try rfl

theorem val_apply (h : FVec Ideal S512x2048 .bf16) (w : Vec Ideal S2048x640 .bf16) (g : Vec Ideal S1x512 .f32)
    (wv : Vec Ideal S2048x512 .bf16) (j : Fin 2048) (r : Fin 512) :
    k0_pay148 (k0_pay140 h w) (k0_pay141 g) (k0_pay142 h w) wv (ix2 j r)
      = ∑ k : Fin 512, wv (ix2 j k) * comp h w g (ix2 r k) := by
  pointwise [k0_pay148]; try rfl

/-- Two heads of keys without a norm. -/
theorem pair_apply (c : FVec Ideal S512x512 .bf16) (w : Vec Ideal S512x256 .bf16) (r : Fin 512) (d : Fin 256) :
    k0_pay167 c w (ix2 r d) = ∑ k : Fin 512, c (ix2 r k) * w (ix2 k d) := by
  pointwise [k0_pay167]; try rfl

theorem even_apply (c : FVec Ideal S512x512 .bf16) (w : Vec Ideal S512x256 .bf16) (r : Fin 512) (d : Fin 128) :
    k0_pay168 c w (ix2 r d) = k0_pay167 c w (ix2 r (d.castLE (by decide))) := by
  pointwise [k0_pay168]; try rfl

theorem odd_apply (v : FVec Ideal S512x256 .f32) (r : Fin 512) (d : Fin 128) :
    k0_pay159 v (ix2 r d) = v (ix2 r ⟨128 + d.val, by omega⟩) := by
  pointwise [k0_pay159]; try rfl

/-- A head's norm, from the half sum of the rotary columns and the head's own columns. -/
theorem inv_apply (s : FVec Ideal S512x1 .f32) (n : FVec Ideal S512x128 .f32) (r : Fin 512) :
    k0_pay154 s (mulf n n) (ix2 r 0)
      = Ideal.rsqrt (((∑ i : Fin 128, n (ix2 r i) * n (ix2 r i)) + s (ix2 r 0)) * ((1 / 192 : ℝ) : EReal) + eps) := by
  pointwise [k0_pay154]; try rfl

theorem keyN_apply (s : FVec Ideal S512x1 .f32) (g : FVec Ideal S1x128 .f32) (n : FVec Ideal S512x128 .f32)
    (r : Fin 512) (d : Fin 128) :
    k0_pay155 s g n (mulf n n) (ix3 0 r d) = n (ix2 r d) * k0_pay154 s (mulf n n) (ix2 r 0) * g (ix2 0 d) := by
  pointwise [k0_pay155]; try rfl

theorem keyR_apply (s : FVec Ideal S512x1 .f32) (rot : FVec Ideal S512x128 .f32) (n : FVec Ideal S512x128 .f32)
    (r : Fin 512) (d : Fin 128) :
    k0_pay156 s rot (mulf n n) (ix3 0 r d) = rot (ix2 r d) * k0_pay154 s (mulf n n) (ix2 r 0) := by
  pointwise [k0_pay156]; try rfl

end Cert.Proj

end
-- ==== Proof.ProjRun.lean ====
/-
  What the projection kernel's stores leave in its three blocks. The stores of the sixteen heads are one family indexed
  by the head: each head of queries is stored in four row bands, each head of keys in two column bands, each head of
  values with a band under it.
-/
module

public import proofs.«01_k».proof.Proof.Gen.Kernel5Ideal.Frame
public import proofs.«01_k».proof.Proof.ProjBody
public import Idealize.ShloMosaic.Lib.Pipeline.Value
public import Idealize.ShloMosaic.Lib.Pipeline.ValueKit.Tiles

@[expose] public section

set_option maxRecDepth 16384

noncomputable section

namespace Cert.Proj

open Cert.Kernel5Ideal Cert.Kernel5Ideal.Gen
open Idealize.ShloMosaic Idealize.ShloMosaic.TcCoe Idealize.SL.Sem

variable {F : FTy → Type} [FloatOps F] [Named F]

theorem zeros2 : (![0, 0] : Fin 2 → Nat) = fun _ => 0 := funext fun a => by fin_cases a <;> rfl

/-- The heads, the last one first: the order of the stores read backwards. -/
abbrev heads : List (Fin 16) := [15, 14, 13, 12, 11, 10, 9, 8, 7, 6, 5, 4, 3, 2, 1, 0]

theorem mem_heads (h : Fin 16) : h ∈ heads := by revert h; decide

/-! ## Queries -/

/-- A head's block of the query weights. -/
abbrev headW (x4 : Vec F S4096x512 .bf16) (h : Fin 16) : Vec F S256x512 .bf16 :=
  View.ld x4 (Rect.unit ![256 * h.val, 0] S256x512.size (by intro a; fin_cases a <;> simp <;> omega))

/-- The stores of one head of queries. -/
abbrev headQPieces (cq : FVec F S512x512 .bf16) (co si : FVec F S32x512 .f32) (w : Fin 16 → Vec F S256x512 .bf16)
    (g : Vec F S256x1 .f32) (h : Fin 16) : List (View.Piece (Elt F) S16x256x512 .bf16) :=
  [⟨Rect.unit ![h.val, 192, 0] ![1, 64, 512] (by intro a; fin_cases a <;> simp <;> omega), k0_pay13⟩,
   ⟨Rect.unit ![h.val, 160, 0] ![1, 32, 512] (by intro a; fin_cases a <;> simp <;> omega), k0_pay12 cq co si (w h) g⟩,
   ⟨Rect.unit ![h.val, 128, 0] ![1, 32, 512] (by intro a; fin_cases a <;> simp <;> omega), k0_pay11 cq co si (w h) g⟩,
   ⟨Rect.unit ![h.val, 0, 0] ![1, 128, 512] (by intro a; fin_cases a <;> simp <;> omega), k0_pay10 cq (w h) g⟩]

/-! ## Keys and values -/

/-- The compressed rows of a block, rounded: what the keys and the values are products of. -/
abbrev compB (x0 : Vec F S512x2048 .f32) (x1 : Vec F S1x2048 .f32) (x8 : Vec F S2048x640 .bf16) (x9 : Vec F S1x512 .f32) :
    FVec F S512x512 .bf16 :=
  truncf .bf16 (comp (k0_pay3 x0 x1) x8 x9) bitsLt_bf16_f32

/-- A head's keys without a norm: the half of its pair's product. -/
abbrev headN (cb : FVec F S512x512 .bf16) (x10 : Vec F S512x2048 .bf16) (h : Fin 16) : FVec F S512x128 .f32 :=
  extractStridedSlice S512x128 ![0, 128 * (h.val % 2)]
    (k0_pay167 cb (View.ld x10 (Rect.unit ![0, 256 * (h.val / 2)] S512x256.size (by intro a; fin_cases a <;> simp <;> omega))))
    ⟨rfl, by intro a; fin_cases a <;> simp <;> omega⟩

/-- The stores of one head of keys. -/
abbrev headKPieces (pss : FVec F S512x1 .f32) (rot : FVec F S512x128 .f32) (g : FVec F S1x128 .f32)
    (n : Fin 16 → FVec F S512x128 .f32) (h : Fin 16) : List (View.Piece (Elt F) S16x512x256 .bf16) :=
  [⟨Rect.unit ![h.val, 0, 128] ![1, 512, 128] (by intro a; fin_cases a <;> simp <;> omega), k0_pay156 pss rot (mulf (n h) (n h))⟩,
   ⟨Rect.unit ![h.val, 0, 0] ![1, 512, 128] (by intro a; fin_cases a <;> simp <;> omega), k0_pay155 pss g (n h) (mulf (n h) (n h))⟩]

/-- The stores of one head of values. -/
abbrev headVPieces (v : FVec F S2048x512 .f32) (h : Fin 16) : List (View.Piece (Elt F) S16x144x512 .bf16) :=
  [⟨Rect.unit ![h.val, 128, 0] ![1, 16, 512] (by intro a; fin_cases a <;> simp <;> omega), k0_pay158 k0_pay149⟩,
   ⟨Rect.unit ![h.val, 0, 0] ![1, 128, 512] (by intro a; fin_cases a <;> simp <;> omega),
    shapeCast S1x128x512 (truncf .bf16 (extractStridedSlice S128x512 ![128 * h.val, 0] v
      ⟨rfl, by intro a; fin_cases a <;> simp <;> omega⟩) bitsLt_bf16_f32) shapeCasts_S128x512_S1x128x512⟩]

/-- The norm weights of the first 128 columns and of the doubled rotary columns. -/
abbrev gainN (x12 : Vec F S1x256 .f32) : Vec F S1x128 .f32 :=
  View.ld x12 (Rect.unit ![0, 0] S1x128.size (by intro a; fin_cases a <;> simp))
abbrev gainR (x12 : Vec F S1x256 .f32) : Vec F S1x128 .f32 :=
  View.ld x12 (Rect.unit ![0, 128] S1x128.size (by intro a; fin_cases a <;> simp))

section
variable (c : Dev nD) (i : grid0.Coords)
  (a1 : Memref sig .tc .vmem S512x2048 .f32) (h1 : a1.IsWhole) (a2 : Memref sig .tc .vmem S1x2048 .f32) (h2 : a2.IsWhole)
  (a3 : Memref sig .tc .vmem S2048x512 .bf16) (h3 : a3.IsWhole) (a4 : Memref sig .tc .vmem S1x512 .f32) (h4 : a4.IsWhole)
  (a5 : Memref sig .tc .vmem S4096x512 .bf16) (h5 : a5.IsWhole) (a6 : Memref sig .tc .vmem S256x1 .f32) (h6 : a6.IsWhole)
  (a7 : Memref sig .tc .vmem S32x512 .f32) (h7 : a7.IsWhole) (a8 : Memref sig .tc .vmem S32x512 .f32) (h8 : a8.IsWhole)
  (a9 : Memref sig .tc .vmem S2048x640 .bf16) (h9 : a9.IsWhole) (a10 : Memref sig .tc .vmem S1x512 .f32) (h10 : a10.IsWhole)
  (a11 : Memref sig .tc .vmem S512x2048 .bf16) (h11 : a11.IsWhole) (a12 : Memref sig .tc .vmem S2048x512 .bf16) (h12 : a12.IsWhole)
  (a13 : Memref sig .tc .vmem S1x256 .f32) (h13 : a13.IsWhole) (a14 : Memref sig .tc .vmem S512x128 .f32) (h14 : a14.IsWhole)
  (a15 : Memref sig .tc .vmem S512x128 .f32) (h15 : a15.IsWhole) (a16 : Memref sig .tc .vmem S16x256x512 .bf16) (h16 : a16.IsWhole)
  (a17 : Memref sig .tc .vmem S16x512x256 .bf16) (h17 : a17.IsWhole) (a18 : Memref sig .tc .vmem S16x144x512 .bf16) (h18 : a18.IsWhole)
  (x0 : Vec F S512x2048 .f32) (x1 : Vec F S1x2048 .f32) (x2 : Vec F S2048x512 .bf16)
  (x3 : Vec F S1x512 .f32) (x4 : Vec F S4096x512 .bf16) (x5 : Vec F S256x1 .f32)
  (x6 : Vec F S32x512 .f32) (x7 : Vec F S32x512 .f32) (x8 : Vec F S2048x640 .bf16)
  (x9 : Vec F S1x512 .f32) (x10 : Vec F S512x2048 .bf16) (x11 : Vec F S2048x512 .bf16)
  (x12 : Vec F S1x256 .f32) (x13 : Vec F S512x128 .f32) (x14 : Vec F S512x128 .f32)

set_option maxHeartbeats 4000000 in
theorem q_pieces :
    (kernelRun0_A c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 x13 x14).1
      = heads.flatMap (headQPieces (k0_pay4 x0 x1 x2 x3) x6 x7 (headW x4) x5) := by
  unfold kernelRun0_A
  dsimp only
  sl_unfold_words
  simp only [View.readAt_eq_ld, h1.read_unread, h2.read_unread, h3.read_unread, h4.read_unread, h5.read_unread,
    h6.read_unread, h7.read_unread, h8.read_unread, View.ld_unit_zero (S := S512x2048) zeros2,
    View.ld_unit_zero (S := S1x2048) zeros2, View.ld_unit_zero (S := S2048x512) zeros2,
    View.ld_unit_zero (S := S1x512) zeros2, View.ld_unit_zero (S := S256x1) zeros2,
    View.ld_unit_zero (S := S32x512) zeros2, k0_pay5, k0_pay6, shapeCast_self]
  generalize k0_pay4 x0 x1 x2 x3 = cq
  rfl

set_option maxHeartbeats 4000000 in
theorem k_pieces :
    (kernelRun0_A c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 x13 x14).2.1
      = heads.flatMap (headKPieces (k0_pay145 (k0_pay139 (k0_pay3 x0 x1) x8))
          (k0_pay147 (k0_pay139 (k0_pay3 x0 x1) x8) (gainR x12) x13 x14) (gainN x12)
          (headN (compB x0 x1 x8 x9) x10)) := by
  unfold kernelRun0_A
  dsimp only
  sl_unfold_words
  simp only [View.readAt_eq_ld, h1.read_unread, h2.read_unread, h9.read_unread, h10.read_unread, h11.read_unread,
    h12.read_unread, h13.read_unread, h14.read_unread, h15.read_unread, View.ld_unit_zero (S := S512x2048) zeros2,
    View.ld_unit_zero (S := S1x2048) zeros2, View.ld_unit_zero (S := S2048x640) zeros2,
    View.ld_unit_zero (S := S1x512) zeros2, View.ld_unit_zero (S := S2048x512) zeros2,
    View.ld_unit_zero (S := S512x128) zeros2, k0_pay146, shapeCast_self]
  rfl

set_option maxHeartbeats 4000000 in
theorem v_pieces :
    (kernelRun0_A c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 x13 x14).2.2.1
      = heads.flatMap (headVPieces (k0_pay148 (k0_pay140 (k0_pay3 x0 x1) x8) (k0_pay141 x9) (k0_pay142 (k0_pay3 x0 x1) x8) x11)) := by
  unfold kernelRun0_A
  dsimp only
  sl_unfold_words
  simp only [View.readAt_eq_ld, h1.read_unread, h2.read_unread, h9.read_unread, h10.read_unread, h11.read_unread,
    h12.read_unread, h13.read_unread, h14.read_unread, h15.read_unread, View.ld_unit_zero (S := S512x2048) zeros2,
    View.ld_unit_zero (S := S1x2048) zeros2, View.ld_unit_zero (S := S2048x640) zeros2,
    View.ld_unit_zero (S := S1x512) zeros2, View.ld_unit_zero (S := S2048x512) zeros2,
    View.ld_unit_zero (S := S512x128) zeros2, k0_pay146, shapeCast_self]
  rfl

end

end Cert.Proj

end
-- ==== Proof.ProjBlock.lean ====
/-
  What the projection kernel's blocks hold at an index: a head of queries, of keys and of values, from the blocks of its
  operands.
-/
module

public import proofs.«01_k».proof.Proof.ProjRun
public import Idealize.ShloMosaic.Lib.Writes

@[expose] public section

set_option maxRecDepth 16384

noncomputable section

namespace Cert.Proj

open Cert.Kernel5Ideal Cert.Kernel5Ideal.Gen
open Idealize.ShloMosaic Idealize.ShloMosaic.TcCoe Idealize.SL.Sem

/-- A head of queries at a row band's index: the columns as they are, the two rotary halves, and the padding. -/
def qTile (cq : FVec Ideal S512x512 .bf16) (co si : FVec Ideal S32x512 .f32) (w : Fin 16 → Vec Ideal S256x512 .bf16)
    (g : Vec Ideal S256x1 .f32) (h : Fin 16) (d : Fin 256) (r : Fin 512) : EReal :=
  if h0 : d.val < 128 then k0_pay10 cq (w h) g (ix3 0 ⟨d.val, h0⟩ r)
  else if h1 : d.val < 160 then k0_pay11 cq co si (w h) g (ix3 0 ⟨d.val - 128, by omega⟩ r)
  else if h2 : d.val < 192 then k0_pay12 cq co si (w h) g (ix3 0 ⟨d.val - 160, by omega⟩ r)
  else k0_pay13 (F := Ideal) (ix3 0 ⟨d.val - 192, by omega⟩ r)

def kTile (pss : FVec Ideal S512x1 .f32) (rot : FVec Ideal S512x128 .f32) (g : FVec Ideal S1x128 .f32)
    (n : Fin 16 → FVec Ideal S512x128 .f32) (h : Fin 16) (r : Fin 512) (d : Fin 256) : EReal :=
  if h0 : d.val < 128 then k0_pay155 pss g (n h) (mulf (n h) (n h)) (ix3 0 r ⟨d.val, h0⟩)
  else k0_pay156 pss rot (mulf (n h) (n h)) (ix3 0 r ⟨d.val - 128, by omega⟩)

def vTile (v : FVec Ideal S2048x512 .f32) (h : Fin 16) (d : Fin 144) (r : Fin 512) : EReal :=
  if h0 : d.val < 128 then v (ix2 ⟨128 * h.val + d.val, by omega⟩ r)
  else k0_pay158 (k0_pay149 (F := Ideal)) (ix3 0 ⟨d.val - 128, by omega⟩ r)

theorem ix2_congr {A B : ℕ} (f : (⟨2, ![A, B]⟩ : Shape).Idx → EReal) {a a' : Fin A} {b b' : Fin B} (ha : a.val = a'.val)
    (hb : b.val = b'.val) : f (ix2 a b) = f (ix2 a' b') := by
  rw [Fin.ext ha, Fin.ext hb]

theorem ix3_congr {A B C : ℕ} (f : (⟨3, ![A, B, C]⟩ : Shape).Idx → EReal) {a : Fin A} {b b' : Fin B} {c c' : Fin C}
    (hb : b.val = b'.val) (hc : c.val = c'.val) : f (ix3 a b c) = f (ix3 a b' c') := by
  rw [Fin.ext hb, Fin.ext hc]

/-- A store into one head agrees with a function of the block's index when it does at the store's own index, shifted. -/
theorem piece3 {A B C : ℕ} (h : Fin A) (b c nB nC : ℕ)
    (inb : ∀ a, (![h.val, b, c] : Fin 3 → ℕ) a + (![1, nB, nC] : Fin 3 → ℕ) a ≤ (⟨3, ![A, B, C]⟩ : Shape).size a)
    (pay : (⟨3, ![1, nB, nC]⟩ : Shape).Idx → EReal) (G : Fin A → Fin B → Fin C → EReal)
    (hG : ∀ (d : Fin nB) (r : Fin nC) (hd : b + d.val < B) (hr : c + r.val < C), pay (ix3 0 d r) = G h ⟨b + d.val, hd⟩ ⟨c + r.val, hr⟩)
    (x : (Rect.unit (s := ⟨3, ![A, B, C]⟩) ![h.val, b, c] ![1, nB, nC] inb).shape.Idx) :
    pay x = G ((Rect.unit (s := ⟨3, ![A, B, C]⟩) ![h.val, b, c] ![1, nB, nC] inb).emb x 0)
      ((Rect.unit (s := ⟨3, ![A, B, C]⟩) ![h.val, b, c] ![1, nB, nC] inb).emb x 1)
      ((Rect.unit (s := ⟨3, ![A, B, C]⟩) ![h.val, b, c] ![1, nB, nC] inb).emb x 2) := by
  have h0 : (x 0).val < 1 := (x 0).isLt
  have hB : b + nB ≤ B := inb 1
  have hC : c + nC ≤ C := inb 2
  have h1 : (x 1).val < nB := (x 1).isLt
  have h2 : (x 2).val < nC := (x 2).isLt
  have k1 : b + (x 1).val < B := by omega
  have k2 : c + (x 2).val < C := by omega
  have ex : x = ix3 0 ⟨(x 1).val, h1⟩ ⟨(x 2).val, h2⟩ := by
    funext a; apply Fin.ext
    match a with | ⟨0, _⟩ => exact Nat.lt_one_iff.mp h0 | ⟨1, _⟩ => rfl | ⟨2, _⟩ => rfl
  have e0 : (Rect.unit (s := ⟨3, ![A, B, C]⟩) ![h.val, b, c] ![1, nB, nC] inb).emb x 0 = h :=
    Fin.ext (by show h.val + 1 * (x 0).val = h.val; omega)
  have e1 : (Rect.unit (s := ⟨3, ![A, B, C]⟩) ![h.val, b, c] ![1, nB, nC] inb).emb x 1 = ⟨b + (x 1).val, k1⟩ :=
    Fin.ext (by show b + 1 * (x 1).val = b + (x 1).val; omega)
  have e2 : (Rect.unit (s := ⟨3, ![A, B, C]⟩) ![h.val, b, c] ![1, nB, nC] inb).emb x 2 = ⟨c + (x 2).val, k2⟩ :=
    Fin.ext (by show c + 1 * (x 2).val = c + (x 2).val; omega)
  rw [e0, e1, e2]
  exact (congrArg pay ex).trans (hG ⟨(x 1).val, h1⟩ ⟨(x 2).val, h2⟩ (by simp; omega) (by simp; omega))

theorem q_piece (cq : FVec Ideal S512x512 .bf16) (co si : FVec Ideal S32x512 .f32) (w : Fin 16 → Vec Ideal S256x512 .bf16)
    (g : Vec Ideal S256x1 .f32) (h : Fin 16) (p) (hp : p ∈ headQPieces cq co si w g h) (x : p.1.shape.Idx) :
    p.2 x = qTile cq co si w g (p.1.emb x 0) (p.1.emb x 1) (p.1.emb x 2) := by
  simp only [List.mem_cons, List.not_mem_nil, or_false] at hp
  rcases hp with rfl | rfl | rfl | rfl <;>
    refine piece3 h _ _ _ _ (by intro a; fin_cases a <;> simp <;> omega) _ (qTile cq co si w g) (fun d r hd hr => ?_) x <;> unfold qTile
  · rw [dif_neg (by dsimp only; omega), dif_neg (by dsimp only; omega), dif_neg (by dsimp only; omega)]
    exact ix3_congr _ (by first | omega | (dsimp only; omega) | rfl) (by first | omega | (dsimp only; omega) | rfl)
  · rw [dif_neg (by dsimp only; omega), dif_neg (by dsimp only; omega), dif_pos (by dsimp only; omega)]
    exact ix3_congr _ (by dsimp only; omega) (by dsimp only; omega)
  · rw [dif_neg (by dsimp only; omega), dif_pos (by dsimp only; omega)]
    exact ix3_congr _ (by dsimp only; omega) (by dsimp only; omega)
  · rw [dif_pos (by dsimp only; omega)]
    exact ix3_congr _ (by dsimp only; omega) (by dsimp only; omega)

theorem k_piece (pss : FVec Ideal S512x1 .f32) (rot : FVec Ideal S512x128 .f32) (g : FVec Ideal S1x128 .f32)
    (n : Fin 16 → FVec Ideal S512x128 .f32) (h : Fin 16) (p) (hp : p ∈ headKPieces pss rot g n h) (x : p.1.shape.Idx) :
    p.2 x = kTile pss rot g n (p.1.emb x 0) (p.1.emb x 1) (p.1.emb x 2) := by
  simp only [List.mem_cons, List.not_mem_nil, or_false] at hp
  rcases hp with rfl | rfl <;>
    refine piece3 h _ _ _ _ (by intro a; fin_cases a <;> simp <;> omega) _ (kTile pss rot g n) (fun d r hd hr => ?_) x <;> unfold kTile
  · rw [dif_neg (by dsimp only; omega)]
    exact ix3_congr _ (by dsimp only; omega) (by dsimp only; omega)
  · rw [dif_pos (by dsimp only; omega)]
    exact ix3_congr _ (by dsimp only; omega) (by dsimp only; omega)

theorem slice_apply (v : FVec Ideal S2048x512 .f32) (h : Fin 16) (hs) (d : Fin 128) (r : Fin 512) :
    shapeCast S1x128x512 (truncf .bf16 (extractStridedSlice S128x512 ![128 * h.val, 0] v hs) bitsLt_bf16_f32)
        shapeCasts_S128x512_S1x128x512 (ix3 0 d r)
      = v (ix2 ⟨128 * h.val + d.val, by omega⟩ r) := by
  pointwise []; try rfl

theorem v_piece (v : FVec Ideal S2048x512 .f32) (h : Fin 16) (p) (hp : p ∈ headVPieces v h) (x : p.1.shape.Idx) :
    p.2 x = vTile v (p.1.emb x 0) (p.1.emb x 1) (p.1.emb x 2) := by
  simp only [List.mem_cons, List.not_mem_nil, or_false] at hp
  rcases hp with rfl | rfl <;>
    refine piece3 h _ _ _ _ (by intro a; fin_cases a <;> simp <;> omega) _ (vTile v) (fun d r hd hr => ?_) x <;> unfold vTile
  · rw [dif_neg (by dsimp only; omega)]
    exact ix3_congr _ (by dsimp only; omega) (by dsimp only; omega)
  · rw [dif_pos (by dsimp only; omega)]
    refine (slice_apply v h _ d r).trans ?_
    exact ix2_congr v (by dsimp only; omega) (by dsimp only; omega)

section
variable (c : Dev nD) (i : grid0.Coords)
  (a1 : Memref sig .tc .vmem S512x2048 .f32) (h1 : a1.IsWhole) (a2 : Memref sig .tc .vmem S1x2048 .f32) (h2 : a2.IsWhole)
  (a3 : Memref sig .tc .vmem S2048x512 .bf16) (h3 : a3.IsWhole) (a4 : Memref sig .tc .vmem S1x512 .f32) (h4 : a4.IsWhole)
  (a5 : Memref sig .tc .vmem S4096x512 .bf16) (h5 : a5.IsWhole) (a6 : Memref sig .tc .vmem S256x1 .f32) (h6 : a6.IsWhole)
  (a7 : Memref sig .tc .vmem S32x512 .f32) (h7 : a7.IsWhole) (a8 : Memref sig .tc .vmem S32x512 .f32) (h8 : a8.IsWhole)
  (a9 : Memref sig .tc .vmem S2048x640 .bf16) (h9 : a9.IsWhole) (a10 : Memref sig .tc .vmem S1x512 .f32) (h10 : a10.IsWhole)
  (a11 : Memref sig .tc .vmem S512x2048 .bf16) (h11 : a11.IsWhole) (a12 : Memref sig .tc .vmem S2048x512 .bf16) (h12 : a12.IsWhole)
  (a13 : Memref sig .tc .vmem S1x256 .f32) (h13 : a13.IsWhole) (a14 : Memref sig .tc .vmem S512x128 .f32) (h14 : a14.IsWhole)
  (a15 : Memref sig .tc .vmem S512x128 .f32) (h15 : a15.IsWhole) (a16 : Memref sig .tc .vmem S16x256x512 .bf16) (h16 : a16.IsWhole)
  (a17 : Memref sig .tc .vmem S16x512x256 .bf16) (h17 : a17.IsWhole) (a18 : Memref sig .tc .vmem S16x144x512 .bf16) (h18 : a18.IsWhole)
  (x0 : Vec Ideal S512x2048 .f32) (x1 : Vec Ideal S1x2048 .f32) (x2 : Vec Ideal S2048x512 .bf16)
  (x3 : Vec Ideal S1x512 .f32) (x4 : Vec Ideal S4096x512 .bf16) (x5 : Vec Ideal S256x1 .f32)
  (x6 : Vec Ideal S32x512 .f32) (x7 : Vec Ideal S32x512 .f32) (x8 : Vec Ideal S2048x640 .bf16)
  (x9 : Vec Ideal S1x512 .f32) (x10 : Vec Ideal S512x2048 .bf16) (x11 : Vec Ideal S2048x512 .bf16)
  (x12 : Vec Ideal S1x256 .f32) (x13 : Vec Ideal S512x128 .f32) (x14 : Vec Ideal S512x128 .f32)

theorem q_block (h : Fin 16) (d : Fin 256) (r : Fin 512) :
    out0_A_15 c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 x13 x14 (ix3 h d r)
      = qTile (k0_pay4 x0 x1 x2 x3) x6 x7 (headW x4) x5 h d r := by
  unfold out0_A_15
  refine (View.read_writes_apply_of_pieces _ _ (fun y => qTile (k0_pay4 x0 x1 x2 x3) x6 x7 (headW x4) x5 (y 0) (y 1) (y 2)) _ (fun p hp x => ?_) _ (cover0_A_15 _ _ _ _ _ _ _ _ _ _ _ _ _ _ _ _ _ _ _ _ _ _ _ _ _ _ _ _ _ _ _ _ _ _ _ _ _ _ _ _ _ _ _ _ _ _ _ _ _ _ _ _ _ _)).trans ?_
  · rw [q_pieces] at hp
    obtain ⟨h, -, hp⟩ := List.mem_flatMap.mp hp
    exact q_piece _ _ _ _ _ h p hp x
  · rfl

theorem k_block (h : Fin 16) (r : Fin 512) (d : Fin 256) :
    out0_A_16 c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 x13 x14 (ix3 h r d)
      = kTile (k0_pay145 (k0_pay139 (k0_pay3 x0 x1) x8)) (k0_pay147 (k0_pay139 (k0_pay3 x0 x1) x8) (gainR x12) x13 x14) (gainN x12) (headN (compB x0 x1 x8 x9) x10) h r d := by
  unfold out0_A_16
  refine (View.read_writes_apply_of_pieces _ _ (fun y => kTile (k0_pay145 (k0_pay139 (k0_pay3 x0 x1) x8)) (k0_pay147 (k0_pay139 (k0_pay3 x0 x1) x8) (gainR x12) x13 x14) (gainN x12) (headN (compB x0 x1 x8 x9) x10) (y 0) (y 1) (y 2)) _ (fun p hp x => ?_) _ (cover0_A_16 _ _ _ _ _ _ _ _ _ _ _ _ _ _ _ _ _ _ _ _ _ _ _ _ _ _ _ _ _ _ _ _ _ _ _ _ _ _ _ _ _ _ _ _ _ _ _ _ _ _ _ _ _ _)).trans ?_
  · rw [k_pieces] at hp
    obtain ⟨h, -, hp⟩ := List.mem_flatMap.mp hp
    exact k_piece _ _ _ _ h p hp x
  · rfl

theorem v_block (h : Fin 16) (d : Fin 144) (r : Fin 512) :
    out0_A_17 c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 x13 x14 (ix3 h d r)
      = vTile (k0_pay148 (k0_pay140 (k0_pay3 x0 x1) x8) (k0_pay141 x9) (k0_pay142 (k0_pay3 x0 x1) x8) x11) h d r := by
  unfold out0_A_17
  refine (View.read_writes_apply_of_pieces _ _ (fun y => vTile (k0_pay148 (k0_pay140 (k0_pay3 x0 x1) x8) (k0_pay141 x9) (k0_pay142 (k0_pay3 x0 x1) x8) x11) (y 0) (y 1) (y 2)) _ (fun p hp x => ?_) _ (cover0_A_17 _ _ _ _ _ _ _ _ _ _ _ _ _ _ _ _ _ _ _ _ _ _ _ _ _ _ _ _ _ _ _ _ _ _ _ _ _ _ _ _ _ _ _ _ _ _ _ _ _ _ _ _ _ _)).trans ?_
  · rw [v_pieces] at hp
    obtain ⟨h, -, hp⟩ := List.mem_flatMap.mp hp
    exact v_piece _ h p hp x
  · rfl

end

end Cert.Proj

end
-- ==== Proof.ProjRef.lean ====
/-
  The reference's queries, keys and values at an index: a row's norm, the compressed queries and keys, each head's
  columns with their norm, and the rotary step on the last 64 of them.
-/
module

public import proofs.«01_k».proof.Proof.Gen.Reference5Ideal.Read
public import Idealize.ShloMosaic.Lib.Tactic
public import Idealize.ShloMosaic.Lib.Pointwise.Tactic
public import Idealize.ShloMosaic.Lib.Pointwise.Contract
public import Idealize.ShloMosaic.Lib.Pointwise.Reshape
public import Idealize.ShloMosaic.Lib.Pointwise.Reduce
public import Idealize.ShloMosaic.Lib.Pointwise.Sums
public import Idealize.ShloMosaic.Lib.Pointwise.Select
public import Idealize.ShloMosaic.Lib.Pointwise.ShapeOps

@[expose] public section

set_option maxRecDepth 16384

noncomputable section

namespace Cert.Proj

open Cert.Reference5Ideal Cert.Reference5Ideal.Read
open Idealize.ShloMosaic Idealize.ShloMosaic.TcCoe Idealize.SL.Sem

/-- A vector divided by the root of its mean square (with a small step), times a weight. -/
def normed {n : ℕ} (N : EReal) (f g : Fin n → EReal) (d : Fin n) : EReal :=
  f d * Ideal.rsqrt (Ideal.div (∑ k : Fin n, f k * f k) N + Ideal.ofBits .f32 0x358637BD#32) * g d

/-- The rotary step on columns 128 to 191 of a head. -/
def rope (y : Fin 192 → EReal) (co si : Fin 32 → EReal) (d : Fin 192) : EReal :=
  if h : d.val < 128 then y d
  else if h' : d.val < 160 then y d * co ⟨d.val - 128, by omega⟩ - y ⟨d.val + 32, by omega⟩ * si ⟨d.val - 128, by omega⟩
  else y d * co ⟨d.val - 160, by omega⟩ + y ⟨d.val - 32, by omega⟩ * si ⟨d.val - 160, by omega⟩

/-- The rotary angle of a position at a frequency. -/
def angle (p : Fin 16384) (l : Fin 32) : EReal := val_main_v15 (F := Ideal) (ix2 p l)

section
variable (x : S16384x2048.Idx → EReal) (ga : S2048.Idx → EReal) (wqa : S2048x512.Idx → EReal) (gqa : S512.Idx → EReal)
  (wqb : S512x3072.Idx → EReal) (wkva : S2048x576.Idx → EReal) (gkva : S512.Idx → EReal) (wkvb : S512x4096.Idx → EReal)
  (gq gk : S192.Idx → EReal) (p : Fin 16384)

def hid : Fin 2048 → EReal :=
  normed (Ideal.ofBits .f32 0x45000000#32) (fun k => x (ix2 p k)) (fun k => ga (ix1 k))

def compQ : Fin 512 → EReal :=
  normed (Ideal.ofBits .f32 0x44000000#32) (fun j => ∑ k : Fin 2048, hid x ga p k * wqa (ix2 k j)) (fun j => gqa (ix1 j))

def headQ (h : Fin 16) (d : Fin 192) : EReal :=
  ∑ k : Fin 512, compQ x ga wqa gqa p k * wqb (ix2 k ⟨h.val * 192 + d.val, by omega⟩)

def qOut (h : Fin 16) : Fin 192 → EReal :=
  rope (normed (Ideal.ofBits .f32 0x43400000#32) (headQ x ga wqa gqa wqb p h) (fun d => gq (ix1 d)))
    (fun l => Ideal.cos (angle p l)) (fun l => Ideal.sin (angle p l))

def rawKV (j : Fin 576) : EReal := ∑ k : Fin 2048, hid x ga p k * wkva (ix2 k j)

def compKV : Fin 512 → EReal :=
  normed (Ideal.ofBits .f32 0x44000000#32) (fun j => rawKV x ga wkva p (j.castLE (by decide))) (fun j => gkva (ix1 j))

def headKV (h : Fin 16) (d : Fin 256) : EReal :=
  ∑ k : Fin 512, compKV x ga wkva gkva p k * wkvb (ix2 k ⟨h.val * 256 + d.val, by omega⟩)

def headK (h : Fin 16) (d : Fin 192) : EReal :=
  if hd : d.val < 128 then headKV x ga wkva gkva wkvb p h ⟨d.val, by omega⟩
  else rawKV x ga wkva p ⟨512 + (d.val - 128), by omega⟩

def kOut (h : Fin 16) : Fin 192 → EReal :=
  rope (normed (Ideal.ofBits .f32 0x43400000#32) (headK x ga wkva gkva wkvb p h) (fun d => gk (ix1 d)))
    (fun l => Ideal.cos (angle p l)) (fun l => Ideal.sin (angle p l))

def vOut (h : Fin 16) (d : Fin 128) : EReal := headKV x ga wkva gkva wkvb p h ⟨128 + d.val, by omega⟩

theorem ref_hid (k : Fin 2048) : val_main_v32 (F := Ideal) x ga (ix2 p k) = hid x ga p k := by
  pointwise [val_main_v32, val_main_v31, val_main_v30, val_main_v29, val_main_v28, val_main_v27, val_main_v26,
    val_main_v25, val_main_cst_5, val_main_v24, val_main_v23, val_main_cst_4, val_main_v22, val_main_v21, val_main_cst_3, val_main_v20]
  try rfl

theorem ref_qa (j : Fin 512) :
    val_main_v33 (F := Ideal) x ga wqa (ix2 p j) = ∑ k : Fin 2048, hid x ga p k * wqa (ix2 k j) := by
  have e : val_main_v33 (F := Ideal) x ga wqa (ix2 p j)
      = ∑ k : Fin 2048, val_main_v32 (F := Ideal) x ga (ix2 p k) * wqa (ix2 k j) := by
    pointwise [val_main_v33]; try rfl
  rw [e]; simp only [ref_hid]

theorem ref_compQ (j : Fin 512) : val_main_v46 (F := Ideal) x ga wqa gqa (ix2 p j) = compQ x ga wqa gqa p j := by
  have e : val_main_v46 (F := Ideal) x ga wqa gqa (ix2 p j)
      = normed (Ideal.ofBits .f32 0x44000000#32) (fun i => val_main_v33 (F := Ideal) x ga wqa (ix2 p i)) (fun i => gqa (ix1 i)) j := by
    pointwise [val_main_v46, val_main_v45, val_main_v44, val_main_v43, val_main_v42, val_main_v41, val_main_v40, val_main_v39, val_main_cst_8, val_main_v38, val_main_v37, val_main_cst_7, val_main_v36, val_main_v35, val_main_cst_6, val_main_v34]
    try rfl
  rw [e]; unfold compQ; simp only [ref_qa]

theorem ref_headQ (h : Fin 16) (d : Fin 192) :
    val_main_v48 (F := Ideal) x ga wqa gqa wqb (ix3 p h d) = headQ x ga wqa gqa wqb p h d := by
  have e : val_main_v48 (F := Ideal) x ga wqa gqa wqb (ix3 p h d)
      = ∑ k : Fin 512, val_main_v46 (F := Ideal) x ga wqa gqa (ix2 p k) * wqb (ix2 k ⟨h.val * 192 + d.val, by omega⟩) := by
    pointwise [val_main_v48, val_main_v47]
    try rfl
  rw [e]; unfold headQ; simp only [ref_compQ]

theorem ref_normQ (h : Fin 16) (d : Fin 192) :
    val_main_v84 (F := Ideal) x ga wqa gqa wqb gq (ix3 p h d)
      = normed (Ideal.ofBits .f32 0x43400000#32) (headQ x ga wqa gqa wqb p h) (fun d => gq (ix1 d)) d := by
  have e : val_main_v84 (F := Ideal) x ga wqa gqa wqb gq (ix3 p h d)
      = normed (Ideal.ofBits .f32 0x43400000#32) (fun i => val_main_v48 (F := Ideal) x ga wqa gqa wqb (ix3 p h i))
          (fun i => gq (ix1 i)) d := by
    pointwise [val_main_v84, val_main_v83, val_main_v82, val_main_v81, val_main_v80, val_main_v79, val_main_v78, val_main_v77, val_main_cst_14, val_main_v76, val_main_v75, val_main_cst_13, val_main_v74, val_main_v73, val_main_cst_12, val_main_v72]
    try rfl
  rw [e]; simp only [ref_headQ]

theorem ref_rawKV (j : Fin 576) : val_main_v49 (F := Ideal) x ga wkva (ix2 p j) = rawKV x ga wkva p j := by
  have e : val_main_v49 (F := Ideal) x ga wkva (ix2 p j)
      = ∑ k : Fin 2048, val_main_v32 (F := Ideal) x ga (ix2 p k) * wkva (ix2 k j) := by
    pointwise [val_main_v49]; try rfl
  rw [e]; unfold rawKV; simp only [ref_hid]

theorem ref_compKV (j : Fin 512) : val_main_v64 (F := Ideal) x ga wkva gkva (ix2 p j) = compKV x ga wkva gkva p j := by
  have e : val_main_v64 (F := Ideal) x ga wkva gkva (ix2 p j)
      = normed (Ideal.ofBits .f32 0x44000000#32) (fun i => val_main_v49 (F := Ideal) x ga wkva (ix2 p (i.castLE (by decide))))
          (fun i => gkva (ix1 i)) j := by
    pointwise [val_main_v64, val_main_v63, val_main_v62, val_main_v61, val_main_v60, val_main_v59, val_main_v58, val_main_v57, val_main_cst_11, val_main_v56, val_main_v55, val_main_cst_10, val_main_v54, val_main_v53, val_main_cst_9, val_main_v52, val_main_v50]
    try rfl
  rw [e]; unfold compKV; simp only [ref_rawKV]

theorem ref_headKV (h : Fin 16) (d : Fin 256) :
    val_main_v66 (F := Ideal) x ga wkva gkva wkvb (ix3 p h d) = headKV x ga wkva gkva wkvb p h d := by
  have e : val_main_v66 (F := Ideal) x ga wkva gkva wkvb (ix3 p h d)
      = ∑ k : Fin 512, val_main_v64 (F := Ideal) x ga wkva gkva (ix2 p k) * wkvb (ix2 k ⟨h.val * 256 + d.val, by omega⟩) := by
    pointwise [val_main_v66, val_main_v65]
    try rfl
  rw [e]; unfold headKV; simp only [ref_compKV]

theorem ref_v (h : Fin 16) (d : Fin 128) :
    val_main_v68 (F := Ideal) x ga wkva gkva wkvb (ix3 p h d) = vOut x ga wkva gkva wkvb p h d := by
  have e : val_main_v68 (F := Ideal) x ga wkva gkva wkvb (ix3 p h d)
      = val_main_v66 (F := Ideal) x ga wkva gkva wkvb (ix3 p h ⟨128 + d.val, by omega⟩) := by
    pointwise [val_main_v68]; try rfl
  rw [e]; unfold vOut; rw [ref_headKV]

theorem ref_headK (h : Fin 16) (d : Fin 192) :
    val_main_v71 (F := Ideal) x ga wkva gkva wkvb (ix3 p h d) = headK x ga wkva gkva wkvb p h d := by
  unfold headK
  split
  · next hd =>
    have e : val_main_v71 (F := Ideal) x ga wkva gkva wkvb (ix3 p h d)
        = val_main_v66 (F := Ideal) x ga wkva gkva wkvb (ix3 p h ⟨d.val, by omega⟩) := by
      pointwise [val_main_v71, val_main_v67]
      exact dif_pos hd
    rw [e, ref_headKV]
  · next hd =>
    have e : val_main_v71 (F := Ideal) x ga wkva gkva wkvb (ix3 p h d)
        = val_main_v49 (F := Ideal) x ga wkva (ix2 p ⟨512 + (d.val - 128), by omega⟩) := by
      pointwise [val_main_v71, val_main_v70, val_main_v69, val_main_v51]
      exact dif_neg hd
    rw [e, ref_rawKV]

theorem ref_ropeQ (h : Fin 16) (d : Fin 192) :
    val_main_v113 (F := Ideal) x ga wqa gqa wqb gq (ix3 p h d)
      = rope (fun i => val_main_v84 (F := Ideal) x ga wqa gqa wqb gq (ix3 p h i))
          (fun l => Ideal.cos (angle p l)) (fun l => Ideal.sin (angle p l)) d := by
  unfold rope
  split
  · next hd =>
    pointwise [val_main_v113, val_main_v98]
    exact dif_pos hd
  · next hd =>
    split
    · next hd' =>
      pointwise [val_main_v113, val_main_v98, val_main_v112, val_main_v111, val_main_v110, val_main_v109, val_main_v108, val_main_v107, val_main_v106, val_main_v105, val_main_v104, val_main_v103, val_main_v102, val_main_v101, val_main_v100, val_main_v99, val_main_v19, val_main_v18, val_main_v17, val_main_v16]
      have i1 : (⟨128 + (d.val - 128), by omega⟩ : Fin 192) = d := Fin.ext (by dsimp only; omega)
      have i2 : (⟨128 + (32 + (d.val - 128)), by omega⟩ : Fin 192) = ⟨d.val + 32, by omega⟩ := Fin.ext (by dsimp only; omega)
      rw [dif_neg hd, dif_pos (by omega), i1, i2]
      rfl
    · next hd' =>
      pointwise [val_main_v113, val_main_v98, val_main_v112, val_main_v111, val_main_v110, val_main_v109, val_main_v108, val_main_v107, val_main_v106, val_main_v105, val_main_v104, val_main_v103, val_main_v102, val_main_v101, val_main_v100, val_main_v99, val_main_v19, val_main_v18, val_main_v17, val_main_v16]
      have i1 : (⟨128 + (32 + (d.val - 128 - 32)), by omega⟩ : Fin 192) = d := Fin.ext (by dsimp only; omega)
      have i2 : (⟨128 + (d.val - 128 - 32), by omega⟩ : Fin 192) = ⟨d.val - 32, by omega⟩ := Fin.ext (by dsimp only; omega)
      have i3 : (⟨d.val - 128 - 32, by omega⟩ : Fin 32) = ⟨d.val - 160, by omega⟩ := Fin.ext (by dsimp only; omega)
      rw [dif_neg hd, dif_neg (by omega), i1, i2, i3]
      rfl

theorem ref_ropeK (h : Fin 16) (d : Fin 192) :
    val_main_v129 (F := Ideal) x ga wkva gkva wkvb gk (ix3 p h d)
      = rope (fun i => val_main_v97 (F := Ideal) x ga wkva gkva wkvb gk (ix3 p h i))
          (fun l => Ideal.cos (angle p l)) (fun l => Ideal.sin (angle p l)) d := by
  unfold rope
  split
  · next hd =>
    pointwise [val_main_v129, val_main_v114]
    exact dif_pos hd
  · next hd =>
    split
    · next hd' =>
      pointwise [val_main_v129, val_main_v114, val_main_v128, val_main_v127, val_main_v126, val_main_v125, val_main_v124, val_main_v123, val_main_v122, val_main_v121, val_main_v120, val_main_v119, val_main_v118, val_main_v117, val_main_v116, val_main_v115, val_main_v19, val_main_v18, val_main_v17, val_main_v16]
      have i1 : (⟨128 + (d.val - 128), by omega⟩ : Fin 192) = d := Fin.ext (by dsimp only; omega)
      have i2 : (⟨128 + (32 + (d.val - 128)), by omega⟩ : Fin 192) = ⟨d.val + 32, by omega⟩ := Fin.ext (by dsimp only; omega)
      rw [dif_neg hd, dif_pos (by omega), i1, i2]
      rfl
    · next hd' =>
      pointwise [val_main_v129, val_main_v114, val_main_v128, val_main_v127, val_main_v126, val_main_v125, val_main_v124, val_main_v123, val_main_v122, val_main_v121, val_main_v120, val_main_v119, val_main_v118, val_main_v117, val_main_v116, val_main_v115, val_main_v19, val_main_v18, val_main_v17, val_main_v16]
      have i1 : (⟨128 + (32 + (d.val - 128 - 32)), by omega⟩ : Fin 192) = d := Fin.ext (by dsimp only; omega)
      have i2 : (⟨128 + (d.val - 128 - 32), by omega⟩ : Fin 192) = ⟨d.val - 32, by omega⟩ := Fin.ext (by dsimp only; omega)
      have i3 : (⟨d.val - 128 - 32, by omega⟩ : Fin 32) = ⟨d.val - 160, by omega⟩ := Fin.ext (by dsimp only; omega)
      rw [dif_neg hd, dif_neg (by omega), i1, i2, i3]
      rfl

theorem ref_normK (h : Fin 16) (d : Fin 192) :
    val_main_v97 (F := Ideal) x ga wkva gkva wkvb gk (ix3 p h d)
      = normed (Ideal.ofBits .f32 0x43400000#32) (headK x ga wkva gkva wkvb p h) (fun d => gk (ix1 d)) d := by
  have e : val_main_v97 (F := Ideal) x ga wkva gkva wkvb gk (ix3 p h d)
      = normed (Ideal.ofBits .f32 0x43400000#32) (fun i => val_main_v71 (F := Ideal) x ga wkva gkva wkvb (ix3 p h i))
          (fun i => gk (ix1 i)) d := by
    pointwise [val_main_v97, val_main_v96, val_main_v95, val_main_v94, val_main_v93, val_main_v92, val_main_v91, val_main_v90, val_main_cst_17, val_main_v89, val_main_v88, val_main_cst_16, val_main_v87, val_main_v86, val_main_cst_15, val_main_v85]
    try rfl
  rw [e]; simp only [ref_headK]

theorem ref_q (h : Fin 16) (d : Fin 192) :
    val_main_v113 (F := Ideal) x ga wqa gqa wqb gq (ix3 p h d) = qOut x ga wqa gqa wqb gq p h d := by
  rw [ref_ropeQ]; unfold qOut; simp only [ref_normQ]

theorem ref_k (h : Fin 16) (d : Fin 192) :
    val_main_v129 (F := Ideal) x ga wkva gkva wkvb gk (ix3 p h d) = kOut x ga wkva gkva wkvb gk p h d := by
  rw [ref_ropeK]; unfold kOut; simp only [ref_normK]

end

end Cert.Proj

end
-- ==== Proof.ProjHost.lean ====
/-
  The operands of the projection call at an index, from the arguments: the query weights padded to 256 rows a head, the
  key weights and the value weights apart, the rotary columns twice, and the rotary tables.
-/
module

public import proofs.«01_k».proof.Proof.ProjBlock
public import proofs.«01_k».proof.Proof.ProjRef
public import Idealize.ShloMosaic.Lib.StableHlo.ReadAt

@[expose] public section

set_option maxRecDepth 16384

noncomputable section

namespace Cert.Proj

open Cert.Kernel5Ideal Cert.Kernel5Ideal.Gen
open Idealize.ShloMosaic Idealize.ShloMosaic.TcCoe Idealize.SL.Sem

variable (m : (ℓ : Loc nD τ sig) → Buf (Elt Ideal) ℓ) (c : Dev nD)

/-- The arguments: the rows, the norms' gains and the weights. -/
def xIn : S16384x2048.Idx → EReal := m ((c.tc : Thread nD τ).loc main_arg0)
def gaIn : S2048.Idx → EReal := m ((c.tc : Thread nD τ).loc main_arg1)
def wqaIn : S2048x512.Idx → EReal := m ((c.tc : Thread nD τ).loc main_arg2)
def gqaIn : S512.Idx → EReal := m ((c.tc : Thread nD τ).loc main_arg3)
def wqbIn : S512x3072.Idx → EReal := m ((c.tc : Thread nD τ).loc main_arg4)
def wkvaIn : S2048x576.Idx → EReal := m ((c.tc : Thread nD τ).loc main_arg5)
def gkvaIn : S512.Idx → EReal := m ((c.tc : Thread nD τ).loc main_arg6)
def wkvbIn : S512x4096.Idx → EReal := m ((c.tc : Thread nD τ).loc main_arg7)
def gqIn : S192.Idx → EReal := m ((c.tc : Thread nD τ).loc main_arg8)
def gkIn : S192.Idx → EReal := m ((c.tc : Thread nD τ).loc main_arg9)

/-- The call's operands. -/
def gaOp : S1x2048.Idx → EReal := V m c main_v17
def wqaOp : S2048x512.Idx → EReal := V m c main_v18
def gqaOp : S1x512.Idx → EReal := V m c main_v19
def wqbOp : S4096x512.Idx → EReal := V m c main_v20
def gqOp : S256x1.Idx → EReal := V m c main_v16
def cosOp : S32x16384.Idx → EReal := V m c main_v52
def sinOp : S32x16384.Idx → EReal := V m c main_v56
def wkvaOp : S2048x640.Idx → EReal := V m c main_v21
def gkvaOp : S1x512.Idx → EReal := V m c main_v22
def wkOp : S512x2048.Idx → EReal := V m c main_v23
def wvOp : S2048x512.Idx → EReal := V m c main_v24
def gkOp : S1x256.Idx → EReal := V m c main_v29
def cosdOp : S16384x128.Idx → EReal := V m c main_v60
def sindOp : S16384x128.Idx → EReal := V m c main_v65

/-- The rotary angle in words. -/
theorem angle_eq (p : Fin 16384) (l : Fin 32) :
    angle p l = FloatOps.sitofp (F := Ideal) .f32 (BitVec.ofNat 32 p.val)
      * Ideal.pow (Ideal.ofBits .f32 0x461C4000#32)
          (Ideal.div (-(Ideal.ofBits .f32 0x40000000#32 * FloatOps.sitofp (F := Ideal) .f32 (BitVec.ofNat 32 l.val)))
            (Ideal.ofBits .f32 0x42800000#32)) := by
  unfold angle
  pointwise [Reference5Ideal.Read.val_main_v15, Reference5Ideal.Read.val_main_v14, Reference5Ideal.Read.val_main_v13, Reference5Ideal.Read.val_main_v12, Reference5Ideal.Read.val_main_v11, Reference5Ideal.Read.val_main_v10, Reference5Ideal.Read.val_main_v9, Reference5Ideal.Read.val_main_v8, Reference5Ideal.Read.val_main_cst_2, Reference5Ideal.Read.val_main_v7, Reference5Ideal.Read.val_main_v6, Reference5Ideal.Read.val_main_cst_1, Reference5Ideal.Read.val_main_v5, Reference5Ideal.Read.val_main_v4, Reference5Ideal.Read.val_main_v3, Reference5Ideal.Read.val_main_cst_0, Reference5Ideal.Read.val_main_v2, Reference5Ideal.Read.val_main_v1, Reference5Ideal.Read.val_main_cst, Reference5Ideal.Read.val_main_v0]
  try rfl

theorem ix1_congr {A : ℕ} (f : (⟨1, ![A]⟩ : Shape).Idx → EReal) {a a' : Fin A} (ha : a.val = a'.val) :
    f (ix1 a) = f (ix1 a') := by
  rw [Fin.ext ha]

theorem ga_op (k : Fin 2048) : gaOp m c (ix2 0 k) = gaIn m c (ix1 k) := by
  unfold gaOp gaIn V
  after_reads_at
  try rfl
theorem wqa_op (i : S2048x512.Idx) : wqaOp m c i = wqaIn m c i := by
  unfold wqaOp wqaIn V
  after_reads_at
  try rfl
theorem gqa_op (j : Fin 512) : gqaOp m c (ix2 0 j) = gqaIn m c (ix1 j) := by
  unfold gqaOp gqaIn V
  after_reads_at
  try rfl
theorem gkva_op (j : Fin 512) : gkvaOp m c (ix2 0 j) = gkvaIn m c (ix1 j) := by
  unfold gkvaOp gkvaIn V
  after_reads_at
  try rfl

theorem wqb_op (h : Fin 16) (d : Fin 256) (k : Fin 512) :
    wqbOp m c (ix2 ⟨256 * h.val + d.val, by omega⟩ k)
      = if hd : d.val < 192 then wqbIn m c (ix2 k ⟨h.val * 192 + d.val, by omega⟩) else 0 := by
  unfold wqbOp wqbIn V
  after_reads_at
  by_cases hd : d.val < 192
  · refine Eq.trans (dif_pos ⟨by omega, by omega⟩) (Eq.trans ?_ (dif_pos hd).symm)
    exact ix2_congr _ rfl (by dsimp only; omega)
  · refine Eq.trans (dif_neg (by omega)) (Eq.trans ?_ (dif_neg hd).symm)
    show (((0#32 : BitVec 32).toInt : ℝ) : EReal) = 0
    simp
theorem gq_op (d : Fin 256) : gqOp m c (ix2 d 0) = if hd : d.val < 192 then gqIn m c (ix1 ⟨d.val, hd⟩) else 0 := by
  unfold gqOp gqIn V
  after_reads_at
  by_cases hd : d.val < 192
  · refine Eq.trans (dif_pos hd) (Eq.trans ?_ (dif_pos hd).symm)
    rfl
  · refine Eq.trans (dif_neg hd) (Eq.trans ?_ (dif_neg hd).symm)
    show (((0#32 : BitVec 32).toInt : ℝ) : EReal) = 0
    simp
theorem cos_op (l : Fin 32) (p : Fin 16384) : cosOp m c (ix2 l p) = Ideal.cos (angle p l) := by
  unfold cosOp V
  after_reads_at
  exact congrArg Ideal.cos (angle_eq p l).symm
theorem sin_op (l : Fin 32) (p : Fin 16384) : sinOp m c (ix2 l p) = Ideal.sin (angle p l) := by
  unfold sinOp V
  after_reads_at
  exact congrArg Ideal.sin (angle_eq p l).symm
theorem wkva_op (k : Fin 2048) (j : Fin 640) :
    wkvaOp m c (ix2 k j) = if hj : j.val < 576 then wkvaIn m c (ix2 k ⟨j.val, hj⟩) else wkvaIn m c (ix2 k ⟨j.val - 64, by omega⟩) := by
  unfold wkvaOp wkvaIn V
  after_reads_at
  by_cases hj : j.val < 512
  · have hj' : j.val < 576 := by omega
    refine Eq.trans (dif_pos hj) (Eq.trans ?_ (dif_pos hj').symm)
    after_reads_at
    try rfl
  · refine (dif_neg hj).trans ?_
    after_reads_at
    by_cases hj' : j.val < 576
    · refine Eq.trans (dif_pos (by omega)) (Eq.trans ?_ (dif_pos hj').symm)
      exact ix2_congr _ rfl (by dsimp only; omega)
    · refine Eq.trans (dif_neg (by omega)) (Eq.trans ?_ (dif_neg hj').symm)
      exact ix2_congr _ rfl (by dsimp only; omega)
theorem wk_op (k : Fin 512) (h : Fin 16) (d : Fin 128) :
    wkOp m c (ix2 k ⟨128 * h.val + d.val, by omega⟩) = wkvbIn m c (ix2 k ⟨h.val * 256 + d.val, by omega⟩) := by
  unfold wkOp wkvbIn V
  after_reads_at
  exact ix2_congr _ rfl (by dsimp only; omega)
theorem wv_op (h : Fin 16) (d : Fin 128) (k : Fin 512) :
    wvOp m c (ix2 ⟨128 * h.val + d.val, by omega⟩ k) = wkvbIn m c (ix2 k ⟨h.val * 256 + (128 + d.val), by omega⟩) := by
  unfold wvOp wkvbIn V
  after_reads_at
  exact ix2_congr _ rfl (by dsimp only; omega)
theorem gk_op (j : Fin 256) :
    gkOp m c (ix2 0 j) = if hj : j.val < 192 then gkIn m c (ix1 ⟨j.val, hj⟩) else gkIn m c (ix1 ⟨j.val - 64, by omega⟩) := by
  unfold gkOp gkIn V
  after_reads_at
  by_cases hj : j.val < 128
  · have hj' : j.val < 192 := by omega
    refine Eq.trans (dif_pos hj) (Eq.trans ?_ (dif_pos hj').symm)
    after_reads_at
    try rfl
  · refine (dif_neg hj).trans ?_
    after_reads_at
    by_cases hj' : j.val < 192
    · refine Eq.trans (dif_pos (by omega)) (Eq.trans ?_ (dif_pos hj').symm)
      exact ix1_congr _ (by dsimp only; omega)
    · refine Eq.trans (dif_neg (by omega)) (Eq.trans ?_ (dif_neg hj').symm)
      exact ix1_congr _ (by dsimp only; omega)
theorem cosd_op (p : Fin 16384) (l : Fin 128) :
    cosdOp m c (ix2 p l) = if h0 : l.val < 32 then Ideal.cos (angle p ⟨l.val, h0⟩)
      else if h1 : l.val < 64 then Ideal.cos (angle p ⟨l.val - 32, by omega⟩) else 0 := by
  unfold cosdOp V
  after_reads_at
  by_cases h0 : l.val < 32
  · refine Eq.trans (dif_pos h0) (Eq.trans ?_ (dif_pos h0).symm)
    after_reads_at
    rw [angle_eq]
  · refine Eq.trans (dif_neg h0) (Eq.trans ?_ (dif_neg h0).symm)
    by_cases h1 : l.val < 64
    · refine Eq.trans (dif_pos (by omega)) (Eq.trans ?_ (dif_pos h1).symm)
      after_reads_at
      rw [angle_eq]
    · refine Eq.trans (dif_neg (by omega)) (Eq.trans ?_ (dif_neg h1).symm)
      by_cases h2 : l.val - 32 - 32 < 32
      · refine Eq.trans (dif_pos h2) ?_
        after_reads_at
      · refine Eq.trans (dif_neg h2) ?_
        after_reads_at

theorem sind_op (p : Fin 16384) (l : Fin 128) :
    sindOp m c (ix2 p l) = if h0 : l.val < 32 then - Ideal.sin (angle p ⟨l.val, h0⟩)
      else if h1 : l.val < 64 then Ideal.sin (angle p ⟨l.val - 32, by omega⟩) else 0 := by
  unfold sindOp V
  after_reads_at
  by_cases h0 : l.val < 32
  · refine Eq.trans (dif_pos h0) (Eq.trans ?_ (dif_pos h0).symm)
    after_reads_at
    rw [angle_eq]
  · refine Eq.trans (dif_neg h0) (Eq.trans ?_ (dif_neg h0).symm)
    by_cases h1 : l.val < 64
    · refine Eq.trans (dif_pos (by omega)) (Eq.trans ?_ (dif_pos h1).symm)
      after_reads_at
      rw [angle_eq]
    · refine Eq.trans (dif_neg (by omega)) (Eq.trans ?_ (dif_neg h1).symm)
      by_cases h2 : l.val - 32 - 32 < 32
      · refine Eq.trans (dif_pos h2) ?_
        after_reads_at
      · refine Eq.trans (dif_neg h2) ?_
        after_reads_at

end Cert.Proj

end
-- ==== Proof.ProjMath.lean ====
/-
  The projection kernel's tiles over the extended reals: with its constants, a head's norm over 256 padded columns (or over
  128 columns and half of 128 doubled ones) is the norm over 192, and a factor of the norm passes through the rotary step.
-/
module

public import proofs.«01_k».proof.Proof.ProjBlock
public import proofs.«01_k».proof.Proof.ProjRef

@[expose] public section

set_option maxRecDepth 16384

noncomputable section

namespace Cert.Proj

open Cert.Kernel5Ideal Cert.Kernel5Ideal.Gen
open Idealize.ShloMosaic Idealize.ShloMosaic.TcCoe Idealize.SL.Sem

/-! ## Constants -/

theorem word_192 : Ideal.ofBits .f32 0x43400000#32 = ((192 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem eps_real : ∃ e : ℝ, 0 < e ∧ eps = (e : EReal) := by
  refine ⟨_, ?_, by simp [eps, Ideal.ofBits, Ideal.ieee, -EReal.coe_mul]; rfl⟩
  norm_num

theorem over_192 (S : EReal) : S * ((1 / 192 : ℝ) : EReal) = Ideal.div S (Ideal.ofBits .f32 0x43400000#32) := by
  rw [word_192]
  unfold Ideal.div
  rw [if_neg (by norm_num), one_div, EReal.coe_inv]

/-- The named scale and the one the caller divides out. -/
abbrev kap : EReal := (((Real.sqrt 192)⁻¹ * (Real.log 2)⁻¹ : ℝ) : EReal)
def unscale : EReal := Ideal.sqrt (Ideal.ofBits .f32 0x43400000#32) * Ideal.log (Ideal.ofBits .f32 0x40000000#32)

theorem unscale_real : unscale = ((Real.sqrt 192 * Real.log 2 : ℝ) : EReal) := by
  unfold unscale
  rw [word_192, word_two, Ideal.sqrt_coe, Ideal.log_coe, if_neg (by norm_num), if_neg (by norm_num), EReal.coe_mul]

theorem kap_unscale : kap * unscale = 1 := by
  have hl : Real.log 2 ≠ 0 := (Real.log_pos (by norm_num)).ne'
  have hs : Real.sqrt 192 ≠ 0 := (Real.sqrt_pos.mpr (by norm_num)).ne'
  rw [unscale_real, ← EReal.coe_mul, ← EReal.coe_one]
  refine congrArg _ ?_
  field_simp

theorem regroup (a ι κ g u : EReal) : a * (ι * κ) * g * u = a * ι * g * (κ * u) := by ac_rfl

/-! ## Norms -/

theorem sq_nonneg (a : EReal) : 0 ≤ a * a := by
  rcases le_total 0 a with h | h
  · exact mul_nonneg h h
  · have := mul_nonneg (EReal.neg_nonneg.mpr h) (EReal.neg_nonneg.mpr h)
    rwa [EReal.neg_mul, mul_comm, EReal.neg_mul, neg_neg] at this

theorem inv_real (S : EReal) (hS : 0 ≤ S) :
    ∃ ρ : ℝ, 0 ≤ ρ ∧ Ideal.rsqrt (Ideal.div S (Ideal.ofBits .f32 0x43400000#32) + eps) = (ρ : EReal) := by
  obtain ⟨e, he, hE⟩ := eps_real
  rw [← over_192, hE]
  induction S with
  | bot => exact absurd hS (by simp)
  | top =>
    refine ⟨0, le_rfl, ?_⟩
    rw [EReal.top_mul_coe_of_pos (by norm_num), EReal.top_add_coe]; rfl
  | coe s =>
    have hs : 0 ≤ s := by exact_mod_cast hS
    have hp : 0 < s * (1 / 192) + e := by positivity
    refine ⟨(Real.sqrt (s * (1 / 192) + e))⁻¹, by positivity, ?_⟩
    rw [← EReal.coe_mul, ← EReal.coe_add, Ideal.rsqrt_coe, if_neg hp.not_gt, if_neg hp.ne']

theorem add_mul_real (a b : EReal) (s : ℝ) (hs : 0 ≤ s) : (a + b) * (s : EReal) = a * s + b * s :=
  EReal.right_distrib_of_nonneg_of_ne_top (by exact_mod_cast hs) (EReal.coe_ne_top s) a b

theorem sub_mul_real (a b : EReal) (s : ℝ) (hs : 0 ≤ s) : (a - b) * (s : EReal) = a * s - b * s := by
  rw [sub_eq_add_neg, add_mul_real _ _ s hs, EReal.neg_mul, ← sub_eq_add_neg]

/-- Half of a nonnegative sum taken twice. -/
theorem half_twice (S : EReal) (hS : 0 ≤ S) : Ideal.ofBits .f32 0x3F000000#32 * (S + S) = S := by
  rw [word_half]
  induction S with
  | bot => exact absurd hS (by simp)
  | top => rw [EReal.top_add_top, EReal.coe_mul_top_of_pos (by norm_num)]
  | coe s => rw [← EReal.coe_add, ← EReal.coe_mul]; refine congrArg _ ?_; ring

/-! ## A head of queries -/

section
variable (cq : FVec Ideal S512x512 .bf16) (co si : FVec Ideal S32x512 .f32) (w : Fin 16 → Vec Ideal S256x512 .bf16)
  (g : Vec Ideal S256x1 .f32) (h : Fin 16) (r : Fin 512)
  (c : Fin 512 → EReal) (W : Fin 192 → Fin 512 → EReal) (G : Fin 192 → EReal) (C S : Fin 32 → EReal)
  (hc : ∀ k, cq (ix2 k r) = c k)
  (hw : ∀ (d : Fin 256) (k : Fin 512), w h (ix2 d k) = if hd : d.val < 192 then W ⟨d.val, hd⟩ k else 0)
  (hg : ∀ d : Fin 256, g (ix2 d 0) = if hd : d.val < 192 then G ⟨d.val, hd⟩ else 0)
  (hco : ∀ l, co (ix2 l r) = C l) (hsi : ∀ l, si (ix2 l r) = S l)
include hc hw

theorem col_in (d : Fin 256) (hd : d.val < 192) :
    ∑ k : Fin 512, w h (ix2 d k) * cq (ix2 k r) = ∑ k : Fin 512, c k * W ⟨d.val, hd⟩ k :=
  Finset.sum_congr rfl fun k _ => by rw [hc, hw, dif_pos hd, mul_comm]

theorem col_out (d : Fin 256) (hd : ¬ d.val < 192) : ∑ k : Fin 512, w h (ix2 d k) * cq (ix2 k r) = 0 :=
  Finset.sum_eq_zero fun k _ => by rw [hw, dif_neg hd, zero_mul]

theorem sq_cols : ∑ i : Fin 256, (∑ k : Fin 512, w h (ix2 i k) * cq (ix2 k r)) * (∑ k : Fin 512, w h (ix2 i k) * cq (ix2 k r))
      = ∑ d : Fin 192, (∑ k : Fin 512, c k * W d k) * (∑ k : Fin 512, c k * W d k) := by
  rw [Fin.sum_univ_two_halves 192 64 rfl]
  have z : ∑ x : Fin 64, (∑ k : Fin 512, w h (ix2 ⟨192 + x.val, by omega⟩ k) * cq (ix2 k r))
      * (∑ k : Fin 512, w h (ix2 ⟨192 + x.val, by omega⟩ k) * cq (ix2 k r)) = 0 :=
    Finset.sum_eq_zero fun x _ => by rw [col_out cq w h r c W hc hw _ (by dsimp only; omega), zero_mul]
  rw [z, add_zero]
  exact Finset.sum_congr rfl fun x _ => by rw [col_in cq w h r c W hc hw _ x.isLt]

include hg
theorem head_scaled (d : Fin 256) (hd : d.val < 192) :
    k0_pay7 cq (w h) g (ix2 d r) * unscale
      = normed (Ideal.ofBits .f32 0x43400000#32) (fun d => ∑ k : Fin 512, c k * W d k) G ⟨d.val, hd⟩ := by
  rw [head_apply, sq_cols cq w h r c W hc hw, col_in cq w h r c W hc hw d hd, over_192, hg, dif_pos hd]
  unfold normed
  exact (regroup _ _ kap _ unscale).trans (by rw [kap_unscale, mul_one])

include hco hsi
theorem q_tile (d : Fin 192) :
    qTile cq co si w g h (d.castLE (by decide)) r * unscale
      = rope (normed (Ideal.ofBits .f32 0x43400000#32) (fun d => ∑ k : Fin 512, c k * W d k) G) C S d := by
  have key := head_scaled cq w g h r c W G hc hw hg
  have hu : (0 : ℝ) ≤ Real.sqrt 192 * Real.log 2 := mul_nonneg (Real.sqrt_nonneg _) (Real.log_pos (by norm_num)).le
  unfold qTile rope
  by_cases h0 : d.val < 128
  · refine Eq.trans (congrArg (· * unscale) (dif_pos h0)) (Eq.trans ?_ (dif_pos h0).symm)
    rw [nope_apply, key _ (by dsimp only [Fin.castLE]; omega)]
    rfl
  refine Eq.trans (congrArg (· * unscale) (dif_neg h0)) (Eq.trans ?_ (dif_neg h0).symm)
  by_cases h1 : d.val < 160
  · refine Eq.trans (congrArg (· * unscale) (dif_pos h1)) (Eq.trans ?_ (dif_pos h1).symm)
    have e1 := key ⟨128 + (d.val - 128), by omega⟩ (by dsimp only; omega)
    have e2 := key ⟨160 + (d.val - 128), by omega⟩ (by dsimp only; omega)
    have i1 : (⟨128 + (d.val - 128), by omega⟩ : Fin 192) = d := Fin.ext (by dsimp only; omega)
    have i2 : (⟨160 + (d.val - 128), by omega⟩ : Fin 192) = ⟨d.val + 32, by omega⟩ := Fin.ext (by dsimp only; omega)
    rw [i1] at e1
    rw [i2] at e2
    rw [rope1_apply, hco, hsi, ← e1, ← e2, unscale_real, sub_mul_real _ _ _ hu, mul_right_comm, mul_right_comm _ (S _)]
    rfl
  · refine Eq.trans (congrArg (· * unscale) (dif_neg h1)) (Eq.trans ?_ (dif_neg h1).symm)
    refine Eq.trans (congrArg (· * unscale) (dif_pos d.isLt)) ?_
    have e1 := key ⟨160 + (d.val - 160), by omega⟩ (by dsimp only; omega)
    have e2 := key ⟨128 + (d.val - 160), by omega⟩ (by dsimp only; omega)
    have i1 : (⟨160 + (d.val - 160), by omega⟩ : Fin 192) = d := Fin.ext (by dsimp only; omega)
    have i2 : (⟨128 + (d.val - 160), by omega⟩ : Fin 192) = ⟨d.val - 32, by omega⟩ := Fin.ext (by dsimp only; omega)
    rw [i1] at e1
    rw [i2] at e2
    rw [rope2_apply]
    refine Eq.trans (congrArg (· * unscale) (congrArg₂ (· + ·) (congrArg (_ * ·) (hco _)) (congrArg (_ * ·) (hsi _)))) ?_
    dsimp only
    rw [← e1, ← e2, unscale_real, add_mul_real _ _ _ hu, mul_right_comm, mul_right_comm _ (S _)]
    rfl

end

/-! ## A head of keys -/

section
variable (v : FVec Ideal S512x640 .f32) (gR gN : Vec Ideal S1x128 .f32) (co si : Vec Ideal S512x128 .f32)
  (n : Fin 16 → FVec Ideal S512x128 .f32) (h : Fin 16) (r : Fin 512)
  (R : Fin 576 → EReal) (N : Fin 128 → EReal) (G : Fin 192 → EReal) (C S : Fin 32 → EReal)

/-- The columns with the rotary ones twice, their norm weights twice, and the rotary tables over twice 32 of 128 columns. -/
def twiceR (R : Fin 576 → EReal) (j : Fin 640) : EReal :=
  if hj : j.val < 576 then R ⟨j.val, hj⟩ else R ⟨j.val - 64, by omega⟩
def twiceG (G : Fin 192 → EReal) (l : Fin 128) : EReal :=
  if hl : 128 + l.val < 192 then G ⟨128 + l.val, hl⟩ else G ⟨128 + l.val - 64, by omega⟩
def ownG (G : Fin 192 → EReal) (d : Fin 128) : EReal := G ⟨d.val, by omega⟩
def bandC (C : Fin 32 → EReal) (l : Fin 128) : EReal :=
  if h0 : l.val < 32 then C ⟨l.val, h0⟩ else if h1 : l.val < 64 then C ⟨l.val - 32, by omega⟩ else 0
def bandS (S : Fin 32 → EReal) (l : Fin 128) : EReal :=
  if h0 : l.val < 32 then - S ⟨l.val, h0⟩ else if h1 : l.val < 64 then S ⟨l.val - 32, by omega⟩ else 0

/-- A head's 192 columns: its own 128 and the 64 rotary ones. -/
def cols (R : Fin 576 → EReal) (N : Fin 128 → EReal) (d : Fin 192) : EReal :=
  if hd : d.val < 128 then N ⟨d.val, hd⟩ else R ⟨512 + (d.val - 128), by omega⟩

variable
  (hv : ∀ j, v (ix2 r j) = twiceR R j)
  (hn : ∀ d, n h (ix2 r d) = N d)
  (hgN : ∀ d, gN (ix2 0 d) = ownG G d)
  (hgR : ∀ l, gR (ix2 0 l) = twiceG G l)
  (hco : ∀ l, co (ix2 r l) = bandC C l)
  (hsi : ∀ l, si (ix2 r l) = bandS S l)
include hv

theorem pe_lo (l : Fin 128) (hl : l.val < 64) : v (ix2 r ⟨512 + l.val, by omega⟩) = cols R N ⟨128 + l.val, by omega⟩ := by
  unfold twiceR at hv
  rw [hv, dif_pos (by dsimp only; omega)]
  unfold cols
  rw [dif_neg (by dsimp only; omega)]
  exact congrArg R (Fin.ext (by dsimp only; omega))

theorem pe_hi (l : Fin 128) (hl : ¬ l.val < 64) : v (ix2 r ⟨512 + l.val, by omega⟩) = cols R N ⟨64 + l.val, by omega⟩ := by
  unfold twiceR at hv
  rw [hv, dif_neg (by dsimp only; omega)]
  unfold cols
  rw [dif_neg (by dsimp only; omega)]
  exact congrArg R (Fin.ext (by dsimp only; omega))

theorem pe_sq : k0_pay145 v (ix2 r 0) = ∑ l : Fin 64, cols R N ⟨128 + l.val, by omega⟩ * cols R N ⟨128 + l.val, by omega⟩ := by
  rw [peSq_apply, Fin.sum_univ_two_halves 64 64 rfl]
  have e1 : ∀ l : Fin 64, v (ix2 r ⟨512 + (⟨l.val, by omega⟩ : Fin 128).val, by dsimp only; omega⟩) = cols R N ⟨128 + l.val, by omega⟩ :=
    fun l => pe_lo v r R N hv ⟨l.val, by omega⟩ l.isLt
  have e2 : ∀ l : Fin 64, v (ix2 r ⟨512 + (⟨64 + l.val, by omega⟩ : Fin 128).val, by dsimp only; omega⟩) = cols R N ⟨128 + l.val, by omega⟩ :=
    fun l => (pe_hi v r R N hv ⟨64 + l.val, by omega⟩ (by dsimp only; omega)).trans
      (congrArg (cols R N) (Fin.ext (by dsimp only; omega)))
  simp only [e1, e2]
  exact half_twice _ (Finset.sum_nonneg fun l _ => sq_nonneg _)

include hn
theorem k_inv : k0_pay154 (k0_pay145 v) (mulf (n h) (n h)) (ix2 r 0)
    = Ideal.rsqrt (Ideal.div (∑ d : Fin 192, cols R N d * cols R N d) (Ideal.ofBits .f32 0x43400000#32) + eps) := by
  rw [inv_apply, pe_sq v r R N hv, over_192, Fin.sum_univ_two_halves 128 64 rfl]
  refine congrArg (fun s => Ideal.rsqrt (Ideal.div (s + _) _ + eps)) (Finset.sum_congr rfl fun d _ => ?_)
  rw [hn]
  unfold cols
  rw [dif_pos d.isLt]

omit hn
include hgR hco hsi
theorem rot_lo (l : Fin 128) (hl : l.val < 32) :
    k0_pay147 v gR co si (ix2 r l)
      = cols R N ⟨128 + l.val, by omega⟩ * G ⟨128 + l.val, by omega⟩ * C ⟨l.val, hl⟩
        + cols R N ⟨160 + l.val, by omega⟩ * G ⟨160 + l.val, by omega⟩ * - S ⟨l.val, hl⟩ := by
  unfold twiceG at hgR
  unfold bandC at hco
  unfold bandS at hsi
  have e : (l.val + 128 - 32) % 128 = l.val + 96 := by omega
  rw [rot_apply, hco, hsi, dif_pos hl, dif_pos hl, pe_lo v r R N hv l (by omega), hgR, dif_pos (by omega)]
  refine congrArg (fun a => _ + a * _) (congrArg₂ (fun a b : EReal => a * b) ?_ ?_)
  · refine (pe_hi v r R N hv ⟨(l.val + 128 - 32) % 128, by omega⟩ (by dsimp only; omega)).trans ?_
    exact congrArg (cols R N) (Fin.ext (by dsimp only; omega))
  · rw [hgR, dif_neg (by dsimp only; omega)]
    exact congrArg G (Fin.ext (by dsimp only; omega))

theorem rot_hi (l : Fin 128) (h0 : ¬ l.val < 32) (hl : l.val < 64) :
    k0_pay147 v gR co si (ix2 r l)
      = cols R N ⟨128 + l.val, by omega⟩ * G ⟨128 + l.val, by omega⟩ * C ⟨l.val - 32, by omega⟩
        + cols R N ⟨96 + l.val, by omega⟩ * G ⟨96 + l.val, by omega⟩ * S ⟨l.val - 32, by omega⟩ := by
  unfold twiceG at hgR
  unfold bandC at hco
  unfold bandS at hsi
  have e : (l.val + 128 - 32) % 128 = l.val - 32 := by omega
  rw [rot_apply, hco, hsi, dif_neg h0, dif_neg h0, dif_pos hl, dif_pos hl, pe_lo v r R N hv l (by omega), hgR, dif_pos (by omega)]
  refine congrArg (fun a => _ + a * _) (congrArg₂ (fun a b : EReal => a * b) ?_ ?_)
  · refine (pe_lo v r R N hv ⟨(l.val + 128 - 32) % 128, by omega⟩ (by dsimp only; omega)).trans ?_
    exact congrArg (cols R N) (Fin.ext (by dsimp only; omega))
  · rw [hgR, dif_pos (by dsimp only; omega)]
    exact congrArg G (Fin.ext (by dsimp only; omega))

include hn hgN
theorem k_tile (d : Fin 192) :
    kTile (k0_pay145 v) (k0_pay147 v gR co si) gN n h r (d.castLE (by decide))
      = rope (normed (Ideal.ofBits .f32 0x43400000#32) (cols R N) G) C S d := by
  have hi := k_inv v n h r R N hv hn
  unfold ownG at hgN
  obtain ⟨ρ, hρ, e⟩ := inv_real (∑ d : Fin 192, cols R N d * cols R N d) (Finset.sum_nonneg fun l _ => sq_nonneg _)
  have hnm : ∀ d, normed (Ideal.ofBits .f32 0x43400000#32) (cols R N) G d = cols R N d * (ρ : EReal) * G d := by
    intro d; unfold normed; rw [e]
  rw [e] at hi
  unfold kTile rope
  by_cases h0 : d.val < 128
  · refine Eq.trans (dif_pos h0) (Eq.trans ?_ (dif_pos h0).symm)
    rw [keyN_apply, hi, hn, hgN, hnm]
    unfold cols
    rw [dif_pos h0]
    rfl
  refine Eq.trans (dif_neg h0) (Eq.trans ?_ (dif_neg h0).symm)
  rw [keyR_apply, hi]
  by_cases h1 : d.val < 160
  · refine Eq.trans ?_ (dif_pos h1).symm
    have i1 : (⟨128 + (d.val - 128), by omega⟩ : Fin 192) = d := Fin.ext (by dsimp only; omega)
    have i2 : (⟨160 + (d.val - 128), by omega⟩ : Fin 192) = ⟨d.val + 32, by omega⟩ := Fin.ext (by dsimp only; omega)
    have t := rot_lo v gR co si r R N G C S hv hgR hco hsi ⟨d.val - 128, by omega⟩ (by dsimp only; omega)
    dsimp only at t
    rw [i1, i2] at t
    refine (congrArg (· * (ρ : EReal)) t).trans ?_
    rw [hnm, hnm, add_mul_real _ _ ρ hρ, mul_neg, EReal.neg_mul, ← sub_eq_add_neg]
    exact congrArg₂ (· - ·) (by ac_rfl) (by ac_rfl)
  · refine Eq.trans ?_ (dif_neg h1).symm
    have i1 : (⟨128 + (d.val - 128), by omega⟩ : Fin 192) = d := Fin.ext (by dsimp only; omega)
    have i2 : (⟨96 + (d.val - 128), by omega⟩ : Fin 192) = ⟨d.val - 32, by omega⟩ := Fin.ext (by dsimp only; omega)
    have i3 : (⟨d.val - 128 - 32, by omega⟩ : Fin 32) = ⟨d.val - 160, by omega⟩ := Fin.ext (by dsimp only; omega)
    have t := rot_hi v gR co si r R N G C S hv hgR hco hsi ⟨d.val - 128, by omega⟩ (by dsimp only; omega) (by dsimp only; omega)
    dsimp only at t
    rw [i1, i2, i3] at t
    refine (congrArg (· * (ρ : EReal)) t).trans ?_
    rw [hnm, hnm, add_mul_real _ _ ρ hρ]
    exact congrArg₂ (· + ·) (by ac_rfl) (by ac_rfl)

end

end Cert.Proj

end
-- ==== Proof.ProjTile.lean ====
/-
  The projection call's blocks at a grid point, from its operands: a tile of 512 rows, the whole weights.
-/
module

public import proofs.«01_k».proof.Proof.ProjHost
public import proofs.«01_k».proof.Proof.ProjMath

@[expose] public section

set_option maxRecDepth 16384

noncomputable section

namespace Cert.Proj

open Cert.Kernel5Ideal Cert.Kernel5Ideal.Gen
open Idealize.ShloMosaic Idealize.ShloMosaic.TcCoe Idealize.SL.Sem
open Idealize.ShloMosaic.Pipeline (Dat Cfg Window)

variable (m : (ℓ : Loc nD τ sig) → Buf (Elt Ideal) ℓ) (c : Dev nD)

theorem points (t : Fin cfg0.N) : t.val < 32 := N_0 ▸ t.isLt

/-- The row at place `r` of a grid point's tile. -/
def rowOf (t : Fin cfg0.N) (r : Fin 512) : Fin 16384 := ⟨t.val * 512 + r.val, by have := points t; omega⟩

/-- The blocks' places at a grid point: the tiles follow the point, everything else is the whole operand. -/
theorem places : ∀ t : Fin cfg0.N,
    (win0_0.index t (0 : Fin 2) = t.val ∧ win0_0.index t (1 : Fin 2) = 0) ∧
    (win0_1.index t (0 : Fin 2) = 0 ∧ win0_1.index t (1 : Fin 2) = 0) ∧
    (win0_2.index t (0 : Fin 2) = 0 ∧ win0_2.index t (1 : Fin 2) = 0) ∧
    (win0_3.index t (0 : Fin 2) = 0 ∧ win0_3.index t (1 : Fin 2) = 0) ∧
    (win0_4.index t (0 : Fin 2) = 0 ∧ win0_4.index t (1 : Fin 2) = 0) ∧
    (win0_5.index t (0 : Fin 2) = 0 ∧ win0_5.index t (1 : Fin 2) = 0) ∧
    (win0_6.index t (0 : Fin 2) = 0 ∧ win0_6.index t (1 : Fin 2) = t.val) ∧
    (win0_7.index t (0 : Fin 2) = 0 ∧ win0_7.index t (1 : Fin 2) = t.val) ∧
    (win0_8.index t (0 : Fin 2) = 0 ∧ win0_8.index t (1 : Fin 2) = 0) ∧
    (win0_9.index t (0 : Fin 2) = 0 ∧ win0_9.index t (1 : Fin 2) = 0) ∧
    (win0_10.index t (0 : Fin 2) = 0 ∧ win0_10.index t (1 : Fin 2) = 0) ∧
    (win0_11.index t (0 : Fin 2) = 0 ∧ win0_11.index t (1 : Fin 2) = 0) ∧
    (win0_12.index t (0 : Fin 2) = 0 ∧ win0_12.index t (1 : Fin 2) = 0) ∧
    (win0_13.index t (0 : Fin 2) = t.val ∧ win0_13.index t (1 : Fin 2) = 0) ∧
    (win0_14.index t (0 : Fin 2) = t.val ∧ win0_14.index t (1 : Fin 2) = 0) ∧
    (win0_15.index t (0 : Fin 3) = 0 ∧ win0_15.index t (1 : Fin 3) = 0 ∧ win0_15.index t (2 : Fin 3) = t.val) ∧
    (win0_16.index t (0 : Fin 3) = 0 ∧ win0_16.index t (1 : Fin 3) = t.val ∧ win0_16.index t (2 : Fin 3) = 0) ∧
    (win0_17.index t (0 : Fin 3) = 0 ∧ win0_17.index t (1 : Fin 3) = 0 ∧ win0_17.index t (2 : Fin 3) = t.val) :=
  (by decide +kernel : ∀ t : Fin grid0.N, _)

/-- An operand read at an index with the coordinates `a` and `b`. -/
theorem read2 {A B : ℕ} (f : (⟨2, ![A, B]⟩ : Shape).Idx → EReal) (i : (⟨2, ![A, B]⟩ : Shape).Idx) (a : Fin A) (b : Fin B)
    (h0 : (i 0).val = a.val) (h1 : (i 1).val = b.val) : f i = f (ix2 a b) := by
  refine congrArg f (funext fun k => Fin.ext ?_)
  match k with | ⟨0, _⟩ => exact h0 | ⟨1, _⟩ => exact h1

theorem x_blk (t : Fin cfg0.N) (a : Fin 512) (b : Fin 2048) : iblk m c 0 t (ix2 a b) = xIn m c (ix2 (rowOf t a) b) := by
  have e := places t
  exact (congrFun (V_main_arg0 m c) _).trans (read2 (xIn m c) (((cfg0.win 0).blk t).view.emb (ix2 a b)) (rowOf t a) b
    (by show win0_0.index t (0 : Fin 2) * 512 + 1 * a.val = t.val * 512 + a.val; omega)
    (by show win0_0.index t (1 : Fin 2) * 2048 + 1 * b.val = b.val; omega))

theorem ga_blk (t : Fin cfg0.N) (a : Fin 1) (b : Fin 2048) : iblk m c 1 t (ix2 a b) = gaOp m c (ix2 a b) := by
  have e := places t
  exact (read2 (gaOp m c) (((cfg0.win 1).blk t).view.emb (ix2 a b)) a b
    (by show win0_1.index t (0 : Fin 2) * 1 + 1 * a.val = a.val; omega)
    (by show win0_1.index t (1 : Fin 2) * 2048 + 1 * b.val = b.val; omega))

theorem wqa_blk (t : Fin cfg0.N) (a : Fin 2048) (b : Fin 512) : iblk m c 2 t (ix2 a b) = wqaOp m c (ix2 a b) := by
  have e := places t
  exact (read2 (wqaOp m c) (((cfg0.win 2).blk t).view.emb (ix2 a b)) a b
    (by show win0_2.index t (0 : Fin 2) * 2048 + 1 * a.val = a.val; omega)
    (by show win0_2.index t (1 : Fin 2) * 512 + 1 * b.val = b.val; omega))

theorem gqa_blk (t : Fin cfg0.N) (a : Fin 1) (b : Fin 512) : iblk m c 3 t (ix2 a b) = gqaOp m c (ix2 a b) := by
  have e := places t
  exact (read2 (gqaOp m c) (((cfg0.win 3).blk t).view.emb (ix2 a b)) a b
    (by show win0_3.index t (0 : Fin 2) * 1 + 1 * a.val = a.val; omega)
    (by show win0_3.index t (1 : Fin 2) * 512 + 1 * b.val = b.val; omega))

theorem wqb_blk (t : Fin cfg0.N) (a : Fin 4096) (b : Fin 512) : iblk m c 4 t (ix2 a b) = wqbOp m c (ix2 a b) := by
  have e := places t
  exact (read2 (wqbOp m c) (((cfg0.win 4).blk t).view.emb (ix2 a b)) a b
    (by show win0_4.index t (0 : Fin 2) * 4096 + 1 * a.val = a.val; omega)
    (by show win0_4.index t (1 : Fin 2) * 512 + 1 * b.val = b.val; omega))

theorem gq_blk (t : Fin cfg0.N) (a : Fin 256) (b : Fin 1) : iblk m c 5 t (ix2 a b) = gqOp m c (ix2 a b) := by
  have e := places t
  exact (read2 (gqOp m c) (((cfg0.win 5).blk t).view.emb (ix2 a b)) a b
    (by show win0_5.index t (0 : Fin 2) * 256 + 1 * a.val = a.val; omega)
    (by show win0_5.index t (1 : Fin 2) * 1 + 1 * b.val = b.val; omega))

theorem cos_blk (t : Fin cfg0.N) (a : Fin 32) (b : Fin 512) : iblk m c 6 t (ix2 a b) = cosOp m c (ix2 a (rowOf t b)) := by
  have e := places t
  exact (read2 (cosOp m c) (((cfg0.win 6).blk t).view.emb (ix2 a b)) a (rowOf t b)
    (by show win0_6.index t (0 : Fin 2) * 32 + 1 * a.val = a.val; omega)
    (by show win0_6.index t (1 : Fin 2) * 512 + 1 * b.val = t.val * 512 + b.val; omega))

theorem sin_blk (t : Fin cfg0.N) (a : Fin 32) (b : Fin 512) : iblk m c 7 t (ix2 a b) = sinOp m c (ix2 a (rowOf t b)) := by
  have e := places t
  exact (read2 (sinOp m c) (((cfg0.win 7).blk t).view.emb (ix2 a b)) a (rowOf t b)
    (by show win0_7.index t (0 : Fin 2) * 32 + 1 * a.val = a.val; omega)
    (by show win0_7.index t (1 : Fin 2) * 512 + 1 * b.val = t.val * 512 + b.val; omega))

theorem wkva_blk (t : Fin cfg0.N) (a : Fin 2048) (b : Fin 640) : iblk m c 8 t (ix2 a b) = wkvaOp m c (ix2 a b) := by
  have e := places t
  exact (read2 (wkvaOp m c) (((cfg0.win 8).blk t).view.emb (ix2 a b)) a b
    (by show win0_8.index t (0 : Fin 2) * 2048 + 1 * a.val = a.val; omega)
    (by show win0_8.index t (1 : Fin 2) * 640 + 1 * b.val = b.val; omega))

theorem gkva_blk (t : Fin cfg0.N) (a : Fin 1) (b : Fin 512) : iblk m c 9 t (ix2 a b) = gkvaOp m c (ix2 a b) := by
  have e := places t
  exact (read2 (gkvaOp m c) (((cfg0.win 9).blk t).view.emb (ix2 a b)) a b
    (by show win0_9.index t (0 : Fin 2) * 1 + 1 * a.val = a.val; omega)
    (by show win0_9.index t (1 : Fin 2) * 512 + 1 * b.val = b.val; omega))

theorem wk_blk (t : Fin cfg0.N) (a : Fin 512) (b : Fin 2048) : iblk m c 10 t (ix2 a b) = wkOp m c (ix2 a b) := by
  have e := places t
  exact (read2 (wkOp m c) (((cfg0.win 10).blk t).view.emb (ix2 a b)) a b
    (by show win0_10.index t (0 : Fin 2) * 512 + 1 * a.val = a.val; omega)
    (by show win0_10.index t (1 : Fin 2) * 2048 + 1 * b.val = b.val; omega))

theorem wv_blk (t : Fin cfg0.N) (a : Fin 2048) (b : Fin 512) : iblk m c 11 t (ix2 a b) = wvOp m c (ix2 a b) := by
  have e := places t
  exact (read2 (wvOp m c) (((cfg0.win 11).blk t).view.emb (ix2 a b)) a b
    (by show win0_11.index t (0 : Fin 2) * 2048 + 1 * a.val = a.val; omega)
    (by show win0_11.index t (1 : Fin 2) * 512 + 1 * b.val = b.val; omega))

theorem gk_blk (t : Fin cfg0.N) (a : Fin 1) (b : Fin 256) : iblk m c 12 t (ix2 a b) = gkOp m c (ix2 a b) := by
  have e := places t
  exact (read2 (gkOp m c) (((cfg0.win 12).blk t).view.emb (ix2 a b)) a b
    (by show win0_12.index t (0 : Fin 2) * 1 + 1 * a.val = a.val; omega)
    (by show win0_12.index t (1 : Fin 2) * 256 + 1 * b.val = b.val; omega))

theorem cosd_blk (t : Fin cfg0.N) (a : Fin 512) (b : Fin 128) : iblk m c 13 t (ix2 a b) = cosdOp m c (ix2 (rowOf t a) b) := by
  have e := places t
  exact (read2 (cosdOp m c) (((cfg0.win 13).blk t).view.emb (ix2 a b)) (rowOf t a) b
    (by show win0_13.index t (0 : Fin 2) * 512 + 1 * a.val = t.val * 512 + a.val; omega)
    (by show win0_13.index t (1 : Fin 2) * 128 + 1 * b.val = b.val; omega))

theorem sind_blk (t : Fin cfg0.N) (a : Fin 512) (b : Fin 128) : iblk m c 14 t (ix2 a b) = sindOp m c (ix2 (rowOf t a) b) := by
  have e := places t
  exact (read2 (sindOp m c) (((cfg0.win 14).blk t).view.emb (ix2 a b)) (rowOf t a) b
    (by show win0_14.index t (0 : Fin 2) * 512 + 1 * a.val = t.val * 512 + a.val; omega)
    (by show win0_14.index t (1 : Fin 2) * 128 + 1 * b.val = b.val; omega))

theorem q_emb (t : Fin cfg0.N) (h : Fin 16) (d : Fin 256) (r : Fin 512) :
    ((cfg0.win 15).blk t).view.emb (ix3 h d r) = (ix3 h d (rowOf t r) : S16x256x16384.Idx) := by
  have e := places t
  refine funext fun a => Fin.ext ?_
  match a with
  | ⟨0, _⟩ => show win0_15.index t (0 : Fin 3) * 16 + 1 * h.val = h.val; omega
  | ⟨1, _⟩ => show win0_15.index t (1 : Fin 3) * 256 + 1 * d.val = d.val; omega
  | ⟨2, _⟩ => show win0_15.index t (2 : Fin 3) * 512 + 1 * r.val = t.val * 512 + r.val; omega

theorem k_emb (t : Fin cfg0.N) (h : Fin 16) (r : Fin 512) (d : Fin 256) :
    ((cfg0.win 16).blk t).view.emb (ix3 h r d) = (ix3 h (rowOf t r) d : S16x16384x256.Idx) := by
  have e := places t
  refine funext fun a => Fin.ext ?_
  match a with
  | ⟨0, _⟩ => show win0_16.index t (0 : Fin 3) * 16 + 1 * h.val = h.val; omega
  | ⟨1, _⟩ => show win0_16.index t (1 : Fin 3) * 512 + 1 * r.val = t.val * 512 + r.val; omega
  | ⟨2, _⟩ => show win0_16.index t (2 : Fin 3) * 256 + 1 * d.val = d.val; omega

theorem v_emb (t : Fin cfg0.N) (h : Fin 16) (d : Fin 144) (r : Fin 512) :
    ((cfg0.win 17).blk t).view.emb (ix3 h d r) = (ix3 h d (rowOf t r) : S16x144x16384.Idx) := by
  have e := places t
  refine funext fun a => Fin.ext ?_
  match a with
  | ⟨0, _⟩ => show win0_17.index t (0 : Fin 3) * 16 + 1 * h.val = h.val; omega
  | ⟨1, _⟩ => show win0_17.index t (1 : Fin 3) * 144 + 1 * d.val = d.val; omega
  | ⟨2, _⟩ => show win0_17.index t (2 : Fin 3) * 512 + 1 * r.val = t.val * 512 + r.val; omega

end Cert.Proj

end
-- ==== Proof.ProjArray.lean ====
/-
  The projection call's three arrays at an index: over the extended reals the queries with the norm's named factor, the
  keys and the values are the reference's.
-/
module

public import proofs.«01_k».proof.Proof.ProjTile
public import Idealize.ShloMosaic.Lib.Pipeline.ValueKit.Geometry

@[expose] public section

set_option maxRecDepth 16384

noncomputable section

namespace Cert.Proj

open Cert.Kernel5Ideal Cert.Kernel5Ideal.Gen
open Idealize.ShloMosaic Idealize.ShloMosaic.TcCoe Idealize.SL.Sem
open Idealize.ShloMosaic.Pipeline (Dat Cfg Window)

variable (m : (ℓ : Loc nD τ sig) → Buf (Elt Ideal) ℓ) (c : Dev nD)

/-! ## The bodies' values at a grid point -/

section
variable (t : Fin cfg0.N) (r : Fin 512)

theorem hid_tile (k : Fin 2048) :
    k0_pay3 (iblk m c 0 t) (iblk m c 1 t) (ix2 r k) = hid (xIn m c) (gaIn m c) (rowOf t r) k := by
  refine (row_apply _ _ r k).trans ?_
  have e : ∀ k, iblk m c 0 t (ix2 r k) = xIn m c (ix2 (rowOf t r) k) := x_blk m c t r
  unfold hid normed
  simp only [e]
  rw [ga_blk, ga_op]

theorem compQ_tile (j : Fin 512) :
    k0_pay4 (iblk m c 0 t) (iblk m c 1 t) (iblk m c 2 t) (iblk m c 3 t) (ix2 j r)
      = compQ (xIn m c) (gaIn m c) (wqaIn m c) (gqaIn m c) (rowOf t r) j := by
  refine (cq_apply _ _ _ _ j r).trans ?_
  have e : ∀ j : Fin 512, ∑ k : Fin 2048, k0_pay3 (iblk m c 0 t) (iblk m c 1 t) (ix2 r k) * iblk m c 2 t (ix2 k j)
      = ∑ k : Fin 2048, hid (xIn m c) (gaIn m c) (rowOf t r) k * wqaIn m c (ix2 k j) := fun j =>
    Finset.sum_congr rfl fun k _ => congrArg₂ (fun a b : EReal => a * b) (hid_tile m c t r k) ((wqa_blk m c t k j).trans (wqa_op m c _))
  unfold compQ normed
  simp only [e]
  rw [gqa_blk, gqa_op]

theorem raw_tile (j : Fin 640) :
    k0_pay139 (k0_pay3 (iblk m c 0 t) (iblk m c 1 t)) (iblk m c 8 t) (ix2 r j)
      = if hj : j.val < 576 then rawKV (xIn m c) (gaIn m c) (wkvaIn m c) (rowOf t r) ⟨j.val, hj⟩
        else rawKV (xIn m c) (gaIn m c) (wkvaIn m c) (rowOf t r) ⟨j.val - 64, by omega⟩ := by
  refine (ckv_apply _ _ r j).trans ?_
  have e : ∀ k, iblk m c 8 t (ix2 k j) = wkvaOp m c (ix2 k j) := fun k => wkva_blk m c t k j
  simp only [e, hid_tile]
  by_cases hj : j.val < 576
  · refine Eq.trans ?_ (dif_pos hj).symm
    exact Finset.sum_congr rfl fun k _ => congrArg (fun b : EReal => _ * b) ((wkva_op m c k j).trans (dif_pos hj))
  · refine Eq.trans ?_ (dif_neg hj).symm
    exact Finset.sum_congr rfl fun k _ => congrArg (fun b : EReal => _ * b) ((wkva_op m c k j).trans (dif_neg hj))

theorem comp_tile (j : Fin 512) :
    comp (k0_pay3 (iblk m c 0 t) (iblk m c 1 t)) (iblk m c 8 t) (iblk m c 9 t) (ix2 r j)
      = compKV (xIn m c) (gaIn m c) (wkvaIn m c) (gkvaIn m c) (rowOf t r) j := by
  refine (comp_apply _ _ _ r j).trans ?_
  have e : ∀ j : Fin 512, k0_pay139 (k0_pay3 (iblk m c 0 t) (iblk m c 1 t)) (iblk m c 8 t) (ix2 r (j.castLE (by decide)))
      = rawKV (xIn m c) (gaIn m c) (wkvaIn m c) (rowOf t r) (j.castLE (by decide)) := fun j =>
    (raw_tile m c t r _).trans (dif_pos (lt_trans j.isLt (by decide)))
  unfold compKV normed
  simp only [e]
  rw [gkva_blk, gkva_op]

theorem headN_tile (h : Fin 16) (d : Fin 128) :
    headN (compB (iblk m c 0 t) (iblk m c 1 t) (iblk m c 8 t) (iblk m c 9 t)) (iblk m c 10 t) h (ix2 r d)
      = headKV (xIn m c) (gaIn m c) (wkvaIn m c) (gkvaIn m c) (wkvbIn m c) (rowOf t r) h ⟨d.val, by omega⟩ := by
  have s : ∀ (v : FVec Ideal S512x256 .f32) (hs), extractStridedSlice S512x128 ![0, 128 * (h.val % 2)] v hs (ix2 r d)
      = v (ix2 r ⟨128 * (h.val % 2) + d.val, by omega⟩) := by
    intro v hs; pointwise []; try rfl
  refine (s _ _).trans ((pair_apply _ _ r _).trans ?_)
  unfold headKV
  refine Finset.sum_congr rfl fun k _ => congrArg₂ (fun a b : EReal => a * b) (comp_tile m c t r k) ?_
  refine Eq.trans ?_ (wk_op m c k h d)
  refine Eq.trans ?_ (wk_blk m c t k ⟨128 * h.val + d.val, by omega⟩)
  refine read2 (iblk m c 10 t) _ _ _ ?_ ?_
  · show 0 + 1 * k.val = k.val; omega
  · show 256 * (h.val / 2) + 1 * (128 * (h.val % 2) + d.val) = 128 * h.val + d.val; omega

theorem val_tile (h : Fin 16) (d : Fin 128) :
    k0_pay148 (k0_pay140 (k0_pay3 (iblk m c 0 t) (iblk m c 1 t)) (iblk m c 8 t)) (k0_pay141 (iblk m c 9 t))
        (k0_pay142 (k0_pay3 (iblk m c 0 t) (iblk m c 1 t)) (iblk m c 8 t)) (iblk m c 11 t) (ix2 ⟨128 * h.val + d.val, by omega⟩ r)
      = vOut (xIn m c) (gaIn m c) (wkvaIn m c) (gkvaIn m c) (wkvbIn m c) (rowOf t r) h d := by
  refine (val_apply _ _ _ _ _ r).trans ?_
  unfold vOut headKV
  refine Finset.sum_congr rfl fun k _ => (mul_comm _ _).trans ?_
  exact congrArg₂ (fun a b : EReal => a * b) (comp_tile m c t r k) ((wv_blk m c t _ k).trans (wv_op m c h d k))

/-! ## The blocks left -/

theorem q_outs (h : Fin 16) (d : Fin 256) : (outsAt0 m c t).1 (ix3 h d r)
    = qTile (k0_pay4 (iblk m c 0 t) (iblk m c 1 t) (iblk m c 2 t) (iblk m c 3 t)) (iblk m c 6 t) (iblk m c 7 t) (headW (iblk m c 4 t)) (iblk m c 5 t) h d r := by
  unfold outsAt0
  dsimp only
  rw [q_block]

theorem k_outs (h : Fin 16) (d : Fin 256) : (outsAt0 m c t).2.1 (ix3 h r d)
    = kTile (k0_pay145 (k0_pay139 (k0_pay3 (iblk m c 0 t) (iblk m c 1 t)) (iblk m c 8 t)))
        (k0_pay147 (k0_pay139 (k0_pay3 (iblk m c 0 t) (iblk m c 1 t)) (iblk m c 8 t)) (gainR (iblk m c 12 t)) (iblk m c 13 t) (iblk m c 14 t))
        (gainN (iblk m c 12 t)) (headN (compB (iblk m c 0 t) (iblk m c 1 t) (iblk m c 8 t) (iblk m c 9 t)) (iblk m c 10 t)) h r d := by
  unfold outsAt0
  dsimp only
  rw [k_block]

theorem v_outs (h : Fin 16) (d : Fin 144) : (outsAt0 m c t).2.2 (ix3 h d r)
    = vTile (k0_pay148 (k0_pay140 (k0_pay3 (iblk m c 0 t) (iblk m c 1 t)) (iblk m c 8 t)) (k0_pay141 (iblk m c 9 t))
        (k0_pay142 (k0_pay3 (iblk m c 0 t) (iblk m c 1 t)) (iblk m c 8 t)) (iblk m c 11 t)) h d r := by
  unfold outsAt0
  dsimp only
  rw [v_block]

theorem q_left (h : Fin 16) (d : Fin 192) :
    ((outsAt0 m c t).1 (ix3 h (d.castLE (by decide)) r) : EReal) * unscale
      = qOut (xIn m c) (gaIn m c) (wqaIn m c) (gqaIn m c) (wqbIn m c) (gqIn m c) (rowOf t r) h d := by
  refine (congrArg (· * unscale) (q_outs m c t r h _)).trans ?_
  refine (q_tile _ _ _ _ _ h r (compQ (xIn m c) (gaIn m c) (wqaIn m c) (gqaIn m c) (rowOf t r))
    (fun d k => wqbIn m c (ix2 k ⟨h.val * 192 + d.val, by omega⟩)) (fun d => gqIn m c (ix1 d))
    (fun l => Ideal.cos (angle (rowOf t r) l)) (fun l => Ideal.sin (angle (rowOf t r) l))
    (fun k => compQ_tile m c t r k) (fun d k => ?_) (fun d => (gq_blk m c t d 0).trans (gq_op m c d))
    (fun l => (cos_blk m c t l r).trans (cos_op m c l _)) (fun l => (sin_blk m c t l r).trans (sin_op m c l _)) d)
  refine Eq.trans ?_ (wqb_op m c h d k)
  refine Eq.trans ?_ (wqb_blk m c t ⟨256 * h.val + d.val, by omega⟩ k)
  refine read2 (iblk m c 4 t) _ _ _ ?_ ?_
  · show 256 * h.val + 1 * d.val = 256 * h.val + d.val; omega
  · show 0 + 1 * k.val = k.val; omega

theorem gainR_tile (l : Fin 128) :
    gainR (iblk m c 12 t) (ix2 0 l) = if hl : 128 + l.val < 192 then gkIn m c (ix1 ⟨128 + l.val, hl⟩)
      else gkIn m c (ix1 ⟨128 + l.val - 64, by omega⟩) := by
  refine Eq.trans ?_ (gk_op m c ⟨128 + l.val, by omega⟩)
  refine Eq.trans ?_ (gk_blk m c t 0 ⟨128 + l.val, by omega⟩)
  refine read2 (iblk m c 12 t) _ _ _ ?_ ?_
  · show 0 + 1 * 0 = 0; omega
  · show 128 + 1 * l.val = 128 + l.val; omega

theorem gainN_tile (d : Fin 128) : gainN (iblk m c 12 t) (ix2 0 d) = gkIn m c (ix1 (d.castLE (by decide))) := by
  refine Eq.trans ?_ ((gk_op m c ⟨d.val, by omega⟩).trans (dif_pos (lt_trans d.isLt (by decide))))
  refine Eq.trans ?_ (gk_blk m c t 0 ⟨d.val, by omega⟩)
  refine read2 (iblk m c 12 t) _ _ _ ?_ ?_
  · show 0 + 1 * 0 = 0; omega
  · show 0 + 1 * d.val = d.val; omega

theorem k_left (h : Fin 16) (d : Fin 192) :
    ((outsAt0 m c t).2.1 (ix3 h r (d.castLE (by decide))) : EReal)
      = kOut (xIn m c) (gaIn m c) (wkvaIn m c) (gkvaIn m c) (wkvbIn m c) (gkIn m c) (rowOf t r) h d := by
  refine (k_outs m c t r h _).trans ?_
  exact k_tile _ _ _ _ _ _ h r (rawKV (xIn m c) (gaIn m c) (wkvaIn m c) (rowOf t r))
    (fun d => headKV (xIn m c) (gaIn m c) (wkvaIn m c) (gkvaIn m c) (wkvbIn m c) (rowOf t r) h ⟨d.val, by omega⟩)
    (fun d => gkIn m c (ix1 d)) (fun l => Ideal.cos (angle (rowOf t r) l)) (fun l => Ideal.sin (angle (rowOf t r) l))
    (fun j => raw_tile m c t r j) (fun d => headN_tile m c t r h d) (fun d => gainN_tile m c t d) (fun l => gainR_tile m c t l)
    (fun l => (cosd_blk m c t r l).trans (cosd_op m c _ l)) (fun l => (sind_blk m c t r l).trans (sind_op m c _ l)) d

theorem v_left (h : Fin 16) (d : Fin 128) :
    ((outsAt0 m c t).2.2 (ix3 h (d.castLE (by decide)) r) : EReal)
      = vOut (xIn m c) (gaIn m c) (wkvaIn m c) (gkvaIn m c) (wkvbIn m c) (rowOf t r) h d := by
  refine (v_outs m c t r h _).trans ?_
  unfold vTile
  exact (dif_pos d.isLt).trans (val_tile m c t r h d)

end

end Cert.Proj

end
-- ==== Proof.ProjTail.lean ====
/-
  The projection call's whole arrays and what its caller reads of them: 192 of 256 columns of the queries, times the root
  of 192 and the logarithm of two, 192 of 256 columns of the keys, 128 of 144 of the values.
-/
module

public import proofs.«01_k».proof.Proof.ProjArray

@[expose] public section

set_option maxRecDepth 16384

noncomputable section

namespace Cert.Proj

open Cert.Kernel5Ideal Cert.Kernel5Ideal.Gen
open Idealize.ShloMosaic Idealize.ShloMosaic.TcCoe Idealize.SL.Sem
open Idealize.ShloMosaic.Pipeline (Dat Cfg Window)

variable (m : (ℓ : Loc nD τ sig) → Buf (Elt Ideal) ℓ) (c : Dev nD)

/-! ## The arrays after the last point -/

/-- The grid point and the place in its tile of a row. -/
def pointOf (p : Fin 16384) : Fin cfg0.N := ⟨p.val / 512, (show p.val / 512 < 32 by omega).trans_eq N_0.symm⟩
def placeOf (p : Fin 16384) : Fin 512 := ⟨p.val % 512, by omega⟩

theorem pointOf_rowOf (t : Fin cfg0.N) (r : Fin 512) : pointOf (rowOf t r) = t :=
  Fin.ext (by show (t.val * 512 + r.val) / 512 = t.val; omega)
theorem placeOf_rowOf (t : Fin cfg0.N) (r : Fin 512) : placeOf (rowOf t r) = r :=
  Fin.ext (by show (t.val * 512 + r.val) % 512 = r.val; omega)
theorem rowOf_pointOf (p : Fin 16384) : rowOf (pointOf p) (placeOf p) = p :=
  Fin.ext (by show p.val / 512 * 512 + p.val % 512 = p.val; omega)

theorem ix3_all {A B C : ℕ} (y : (⟨3, ![A, B, C]⟩ : Shape).Idx) : ∃ (a : Fin A) (b : Fin B) (d : Fin C), y = ix3 a b d :=
  ⟨y 0, y 1, y 2, by funext a; match a with | ⟨0, _⟩ => rfl | ⟨1, _⟩ => rfl | ⟨2, _⟩ => rfl⟩

def qArr : S16x256x16384.Idx → EReal := fun i => (outsAt0 m c (pointOf (i 2))).1 (ix3 (i 0) (i 1) (placeOf (i 2)))
def kArr : S16x16384x256.Idx → EReal := fun i => (outsAt0 m c (pointOf (i 1))).2.1 (ix3 (i 0) (placeOf (i 1)) (i 2))
def vArr : S16x144x16384.Idx → EReal := fun i => (outsAt0 m c (pointOf (i 2))).2.2 (ix3 (i 0) (i 1) (placeOf (i 2)))

theorem q_array : (dats m 0 c).arrAt 15 cfg0.N = qArr m c := by
  refine (dats m 0 c).arrAt_eq_of_covers 15 _ (by decide +kernel) fun t _ y => ?_
  obtain ⟨h, d, r, rfl⟩ := ix3_all y
  have key : (outsAt0 m c t).1 (ix3 h d r) = qArr m c (((cfg0.win 15).blk t).view.emb (ix3 h d r)) := by
    rw [q_emb]
    show _ = (outsAt0 m c (pointOf (rowOf t r))).1 (ix3 h d (placeOf (rowOf t r)))
    rw [pointOf_rowOf, placeOf_rowOf]
  blk_simp
  rw [after0_15]
  exact key

theorem k_array : (dats m 0 c).arrAt 16 cfg0.N = kArr m c := by
  refine (dats m 0 c).arrAt_eq_of_covers 16 _ (by decide +kernel) fun t _ y => ?_
  obtain ⟨h, r, d, rfl⟩ := ix3_all y
  have key : (outsAt0 m c t).2.1 (ix3 h r d) = kArr m c (((cfg0.win 16).blk t).view.emb (ix3 h r d)) := by
    rw [k_emb]
    show _ = (outsAt0 m c (pointOf (rowOf t r))).2.1 (ix3 h (placeOf (rowOf t r)) d)
    rw [pointOf_rowOf, placeOf_rowOf]
  blk_simp
  rw [after0_16]
  exact key

theorem v_array : (dats m 0 c).arrAt 17 cfg0.N = vArr m c := by
  refine (dats m 0 c).arrAt_eq_of_covers 17 _ (by decide +kernel) fun t _ y => ?_
  obtain ⟨h, d, r, rfl⟩ := ix3_all y
  have key : (outsAt0 m c t).2.2 (ix3 h d r) = vArr m c (((cfg0.win 17).blk t).view.emb (ix3 h d r)) := by
    rw [v_emb]
    show _ = (outsAt0 m c (pointOf (rowOf t r))).2.2 (ix3 h d (placeOf (rowOf t r)))
    rw [pointOf_rowOf, placeOf_rowOf]
  blk_simp
  rw [after0_17]
  exact key

/-! ## What the caller reads -/

section
variable (X : Valuation τ sig (Elt Ideal)) (p : Fin 16384) (h : Fin 16)

theorem tail_q (d : Fin 192) (A : S16x256x16384.Idx → EReal) (hA : X (Proc.devRef .tc main_v66_0) = A) :
    (StableHlo.after (List.flatten [hostOps1]) X (Proc.devRef .tc main_v74) : S16384x16x192.Idx → EReal) (ix3 p h d)
      = A (ix3 h (d.castLE (by decide)) p) * unscale := by
  subst hA
  after_reads_at
  unfold unscale
  rfl

theorem tail_k (d : Fin 192) (A : S16x16384x256.Idx → EReal) (hA : X (Proc.devRef .tc main_v66_1) = A) :
    (StableHlo.after (List.flatten [hostOps1]) X (Proc.devRef .tc main_v77) : S16384x16x192.Idx → EReal) (ix3 p h d)
      = A (ix3 h p (d.castLE (by decide))) := by
  subst hA
  after_reads_at
  rfl

theorem tail_v (d : Fin 128) (A : S16x144x16384.Idx → EReal) (hA : X (Proc.devRef .tc main_v66_2) = A) :
    (StableHlo.after (List.flatten [hostOps1]) X (Proc.devRef .tc main_v80) : S16384x16x128.Idx → EReal) (ix3 p h d)
      = A (ix3 h (d.castLE (by decide)) p) := by
  subst hA
  after_reads_at
  rfl
end

/-! ## The results -/

/-- The buffers as the region leaves them. -/
def left (m : (ℓ : Loc nD τ sig) → Buf (Elt Ideal) ℓ) (c : Dev nD) : Valuation τ sig (Elt Ideal) :=
  Pipeline.withArrays spec0 c (V0 m c) fun w => (dats m 0 c).arrAt w cfg0.N

theorem afterTail_eq (b : Ref sig .tc) : Pipeline.afterTail₀ cfgs (dats m) 0 (V0 m) [hostOps1] c b
    = StableHlo.after (List.flatten [hostOps1]) (left m c) (Proc.devRef .tc b) := rfl

theorem left_q : left m c (Proc.devRef .tc main_v66_0) = qArr m c :=
  (Pipeline.withArrays_arr spec0 launch0.win.arr_inj c (V0 m c) (fun w => (dats m 0 c).arrAt w cfg0.N) 15).trans (q_array m c)

theorem left_k : left m c (Proc.devRef .tc main_v66_1) = kArr m c :=
  (Pipeline.withArrays_arr spec0 launch0.win.arr_inj c (V0 m c) (fun w => (dats m 0 c).arrAt w cfg0.N) 16).trans (k_array m c)

theorem left_v : left m c (Proc.devRef .tc main_v66_2) = vArr m c :=
  (Pipeline.withArrays_arr spec0 launch0.win.arr_inj c (V0 m c) (fun w => (dats m 0 c).arrAt w cfg0.N) 17).trans (v_array m c)

theorem result_q : Pipeline.afterTail₀ cfgs (dats m) 0 (V0 m) [hostOps1] c main_v74
    = Cert.Reference5Ideal.Read.val_main_v113 (F := Ideal) (xIn m c) (gaIn m c) (wqaIn m c) (gqaIn m c) (wqbIn m c) (gqIn m c) := by
  funext i
  obtain ⟨p, h, d, rfl⟩ : ∃ (p : Fin 16384) (h : Fin 16) (d : Fin 192), i = ix3 p h d := ix3_all i
  refine (congrFun (afterTail_eq m c _) _).trans ((tail_q (left m c) p h d (qArr m c) (left_q m c)).trans ?_)
  refine Eq.trans ?_ (ref_q _ _ _ _ _ _ p h d).symm
  refine (q_left m c (pointOf p) (placeOf p) h d).trans ?_
  rw [rowOf_pointOf]

theorem result_k : Pipeline.afterTail₀ cfgs (dats m) 0 (V0 m) [hostOps1] c main_v77
    = Cert.Reference5Ideal.Read.val_main_v129 (F := Ideal) (xIn m c) (gaIn m c) (wkvaIn m c) (gkvaIn m c) (wkvbIn m c) (gkIn m c) := by
  funext i
  obtain ⟨p, h, d, rfl⟩ : ∃ (p : Fin 16384) (h : Fin 16) (d : Fin 192), i = ix3 p h d := ix3_all i
  refine (congrFun (afterTail_eq m c _) _).trans ((tail_k (left m c) p h d (kArr m c) (left_k m c)).trans ?_)
  refine Eq.trans ?_ (ref_k _ _ _ _ _ _ p h d).symm
  refine (k_left m c (pointOf p) (placeOf p) h d).trans ?_
  rw [rowOf_pointOf]

theorem result_v : Pipeline.afterTail₀ cfgs (dats m) 0 (V0 m) [hostOps1] c main_v80
    = Cert.Reference5Ideal.Read.val_main_v68 (F := Ideal) (xIn m c) (gaIn m c) (wkvaIn m c) (gkvaIn m c) (wkvbIn m c) := by
  funext i
  obtain ⟨p, h, d, rfl⟩ : ∃ (p : Fin 16384) (h : Fin 16) (d : Fin 128), i = ix3 p h d := ix3_all i
  refine (congrFun (afterTail_eq m c _) _).trans ((tail_v (left m c) p h d (vArr m c) (left_v m c)).trans ?_)
  refine Eq.trans ?_ (ref_v _ _ _ _ _ p h d).symm
  refine (v_left m c (pointOf p) (placeOf p) h d).trans ?_
  rw [rowOf_pointOf]

end Cert.Proj

end
-- ==== Proof.ProjClaims.lean ====
/-
  The projection call's claims: the two named constants, and that over the extended reals its run leaves the reference's
  queries, keys and values.
-/
module

public import proofs.«01_k».proof.Defs
public import proofs.«01_k».proof.Proof.Gen.Kernel5.Frame
public import proofs.«01_k».proof.Proof.Gen.Reference5Ideal.Run
public import proofs.«01_k».proof.Proof.ProjTail
public import Idealize.ShloMosaic.Lib.Quiescent

@[expose] public section

noncomputable section

namespace Cert.Proj

open Idealize.ShloMosaic Idealize.ShloMosaic.TcCoe Idealize.SL.Sem

theorem frame_reference5 : Cert.quiescent_Reference5Ideal := fun m ρ _ =>
  (θ_run Cert.Reference5Ideal.defs _ _).mono (fun r h => ⟨fun c => (h c).2.2.2,
      Idealize.ShloMosaic.sem_eq_zero_of_no_sems (by decide) r.2⟩)
    (Cert.Reference5Ideal.Value.run (F := Ideal) m ρ)

theorem preserves5 : Cert.preserves_Kernel5_Kernel5Ideal :=
  ⟨IdealRules.named_const.statement Cert.Kernel5Ideal.κ "one_over_width" .f32 0x3BAAAAAB#32 ((1 / 192 : ℝ) : EReal) rfl,
    IdealRules.named_const.statement Cert.Kernel5Ideal.κ "score_scale" .f32 0x3DD53B95#32
      (((Real.sqrt 192)⁻¹ * (Real.log 2)⁻¹ : ℝ) : EReal) rfl⟩

/-- The run of the call and its caller's lines: the three results and the arguments. -/
theorem run5 (m : (ℓ : Loc Cert.Kernel5Ideal.nD Cert.Kernel5Ideal.τ Cert.Kernel5Ideal.sig) → Buf (Elt Ideal) ℓ)
    (ρ : Dev Cert.Kernel5Ideal.nD → PrngReg) :
    θ_run (Cert.Kernel5Ideal.defs (F := Ideal)) (onTc (τ := Cert.Kernel5Ideal.τ) (Cert.Kernel5Ideal.main (F := Ideal)))
      ⟨m, fun _ => 0, ρ⟩ (fun r => ∀ c : Dev Cert.Kernel5Ideal.nD,
      r.2.mem ((c.tc : Thread Cert.Kernel5Ideal.nD Cert.Kernel5Ideal.τ).loc Cert.Kernel5Ideal.main_v74)
        = Cert.Reference5Ideal.Read.val_main_v113 (F := Ideal) (xIn m c) (gaIn m c) (wqaIn m c) (gqaIn m c) (wqbIn m c) (gqIn m c)
      ∧ r.2.mem ((c.tc : Thread Cert.Kernel5Ideal.nD Cert.Kernel5Ideal.τ).loc Cert.Kernel5Ideal.main_v77)
        = Cert.Reference5Ideal.Read.val_main_v129 (F := Ideal) (xIn m c) (gaIn m c) (wkvaIn m c) (gkvaIn m c) (wkvbIn m c) (gkIn m c)
      ∧ r.2.mem ((c.tc : Thread Cert.Kernel5Ideal.nD Cert.Kernel5Ideal.τ).loc Cert.Kernel5Ideal.main_v80)
        = Cert.Reference5Ideal.Read.val_main_v68 (F := Ideal) (xIn m c) (gaIn m c) (wkvaIn m c) (gkvaIn m c) (wkvbIn m c)) :=
  (θ_run Cert.Kernel5Ideal.defs _ _).mono (fun r h c =>
    ⟨((h c).2 Cert.Kernel5Ideal.main_v74 (Pipeline.mem_restRefs_of Cert.Kernel5Ideal.main_v74 (by decide) (by decide))).trans (result_q m c),
      ((h c).2 Cert.Kernel5Ideal.main_v77 (Pipeline.mem_restRefs_of Cert.Kernel5Ideal.main_v77 (by decide) (by decide))).trans (result_k m c),
      ((h c).2 Cert.Kernel5Ideal.main_v80 (Pipeline.mem_restRefs_of Cert.Kernel5Ideal.main_v80 (by decide) (by decide))).trans (result_v m c)⟩)
    (Cert.Kernel5Ideal.Gen.run_main (F := Ideal) m ρ)

theorem algebraic5 : Cert.algebraic_Kernel5Ideal_Reference5Ideal := by
  intro m ρ m' ρ' _ hagree
  refine ⟨fun c => Cert.Reference5Ideal.Read.val_main_v113 (F := Ideal) (xIn m c) (gaIn m c) (wqaIn m c) (gqaIn m c) (wqbIn m c) (gqIn m c),
    fun c => Cert.Reference5Ideal.Read.val_main_v129 (F := Ideal) (xIn m c) (gaIn m c) (wkvaIn m c) (gkvaIn m c) (wkvbIn m c) (gkIn m c),
    fun c => Cert.Reference5Ideal.Read.val_main_v68 (F := Ideal) (xIn m c) (gaIn m c) (wkvaIn m c) (gkvaIn m c) (wkvbIn m c),
    ?_, ?_⟩
  · exact (θ_run Cert.Kernel5Ideal.defs _ _).mono (fun r h c => ⟨(h.1 c).1, (h.1 c).2.1, (h.1 c).2.2, h.2 c⟩)
      (θ_run_and (run5 m ρ) (Cert.Kernel5Ideal.Gen.unchanged (F := Ideal) m ρ))
  · refine (θ_run Cert.Reference5Ideal.defs _ _).mono (fun r h c => ⟨?_, ?_, ?_, (h c).2.2.2⟩)
      (Cert.Reference5Ideal.Value.run (F := Ideal) m' ρ')
    · obtain ⟨e0, e1, e2, e3, e4, e5, e6, e7, e8, e9⟩ := hagree c
      refine (h c).1.trans ((Cert.Reference5Ideal.Read.val_main_v113_eq _ _).trans ?_)
      rw [e0, e1, e2, e3, e4, e8]
      rfl
    · obtain ⟨e0, e1, e2, e3, e4, e5, e6, e7, e8, e9⟩ := hagree c
      refine (h c).2.1.trans ((Cert.Reference5Ideal.Read.val_main_v129_eq _ _).trans ?_)
      rw [e0, e1, e5, e6, e7, e9]
      rfl
    · obtain ⟨e0, e1, e2, e3, e4, e5, e6, e7, e8, e9⟩ := hagree c
      refine (h c).2.2.1.trans ((Cert.Reference5Ideal.Read.val_main_v68_eq _ _ _ _ _).trans ?_)
      dsimp only
      rw [e0, e1, e5, e6, e7]
      rfl

end Cert.Proj

end
-- ==== Proof.lean ====
/-
  The proof of `Cert.Claim`. The attention kernel's run is proved once, over any float model (Proof/Run.lean), and gives
  the frames of the kernel and of its idealization, whose texts are the same. The algebraic claims are the `final` of
  Proof/Array.lean (attention), Proof/MlpArray.lean (feed-forward part), Proof/Oproj.lean and Proof/OprojMix.lean
  (output projection): over the extended reals the kernel's array is the reference's. The claims of the projections to
  queries, keys and values are those of Proof/ProjClaims.lean.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite
public import proofs.«01_k».proof.Proof.Array
public import proofs.«01_k».proof.Proof.MlpArray
public import proofs.«01_k».proof.Proof.Oproj
public import proofs.«01_k».proof.Proof.OprojMix
public import proofs.«01_k».proof.Proof.ProjClaims
public import Idealize.ShloMosaic.Adequacy
public import Idealize.ShloMosaic.Init

@[expose] public section

noncomputable section

namespace Cert.Proof

open Idealize.ShloMosaic Idealize.SL.Sem Cert.Kernel

/-- The idealized kernel's run, at the arguments and the semaphores. -/
theorem frame_ideal : Cert.quiescent_KernelIdeal := fun m ρ _ => Cert.Flash.run_args (F := Ideal) m ρ

/-- The two programs' kernel bodies are the same text. -/
theorem bodies_eq : @Cert.KernelIdeal.defs₀ Bits _ _ = @Cert.Kernel.defs₀ Bits _ _ := by
  unfold Cert.KernelIdeal.defs₀ Cert.Kernel.defs₀
  refine congrArg Defs.onTc ?_
  funext l x
  match l, x with
  | ⟨0, _⟩, x => rfl

theorem tables_eq : @Cert.KernelIdeal.defs Bits _ _ = @Cert.Kernel.defs Bits _ _ :=
  congrArg (Pipeline.defs (Cert.KernelIdeal.pcfgs (F := Bits))) bodies_eq

/-- The kernel's own run: the same text, read at the bits. -/
theorem frame_kernel : Cert.quiescent_Kernel := fun m ρ _ => by
  have h := Cert.Flash.run_args (F := Bits) m ρ
  rw [tables_eq] at h
  exact h

/-- The reference's run: a host program with no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two runs leave the same array: the reference's term of the arguments. -/
theorem algebraic : Cert.algebraic_KernelIdeal_ReferenceIdeal_pre_finite := by
  intro m ρ m' ρ' hpre hagree
  refine ⟨fun c => Cert.ReferenceIdeal.Read.val_main_v17 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono ?_
      (θ_run_and ((θ_run Cert.KernelIdeal.defs _ _).mono (fun _ h => h.1) (Cert.Flash.run (F := Ideal) m ρ))
        ((θ_run Cert.KernelIdeal.defs _ _).mono (fun _ h => h.1) (Cert.Flash.run_args (F := Ideal) m ρ)))
    intro r h c
    refine ⟨?_, h.2 c⟩
    obtain ⟨⟨r0, h0⟩, ⟨r1, h1⟩⟩ := Cert.Flash.reals_of_finite _ _ _ (hpre c)
    exact ((h.1 c).1 3).trans (Cert.Flash.final m c r0 r1 h0 h1)
  · refine (θ_run Cert.ReferenceIdeal.defs _ _).mono (fun r h c => ⟨?_, (h c).2⟩)
      (Cert.ReferenceIdeal.Value.run (F := Ideal) m' ρ')
    obtain ⟨e0, e1, e2⟩ := hagree c
    refine (h c).1.trans ((Cert.ReferenceIdeal.Read.val_main_v17_eq _ _ _).trans ?_)
    dsimp only
    rw [e0, e1, e2]

/-! ## The feed-forward part -/

theorem frame_reference2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The feed-forward kernel's run leaves the reference's term of the arguments. -/
theorem algebraic2 : Cert.algebraic_Kernel2Ideal_Reference2Ideal := by
  intro m ρ m' ρ' _ hagree
  refine ⟨fun c => Cert.Reference2Ideal.Read.val_main_v23 (F := Ideal)
    (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3)), ?_, ?_⟩
  · exact (θ_run Cert.Kernel2Ideal.defs _ _).mono (fun r h c => ⟨(h c).1.trans (Cert.Mlp.final m c), (h c).2⟩)
      (Cert.Kernel2Ideal.Value.run (F := Ideal) m ρ)
  · refine (θ_run Cert.Reference2Ideal.defs _ _).mono (fun r h c => ⟨?_, (h c).2⟩)
      (Cert.Reference2Ideal.Value.run (F := Ideal) m' ρ')
    obtain ⟨e0, e1, e2, e3⟩ := hagree c
    refine (h c).1.trans ((Cert.Reference2Ideal.Read.val_main_v23_eq _ _ _ _).trans ?_)
    dsimp only
    rw [e0, e1, e2, e3]

/-! ## The output projection -/

theorem frame_reference3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The output projection's run leaves the reference's term of the arguments. -/
theorem algebraic3 : Cert.algebraic_Kernel3Ideal_Reference3Ideal := by
  intro m ρ m' ρ' _ hagree
  refine ⟨fun c => Cert.Reference3Ideal.Read.val_main_v2 (F := Ideal)
    (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2)), ?_, ?_⟩
  · exact (θ_run Cert.Kernel3Ideal.defs _ _).mono (fun r h c => ⟨(h c).1.trans (Cert.Oproj.final m c), (h c).2⟩)
      (Cert.Kernel3Ideal.Value.run_blocks (F := Ideal) m ρ)
  · refine (θ_run Cert.Reference3Ideal.defs _ _).mono (fun r h c => ⟨?_, (h c).2⟩)
      (Cert.Reference3Ideal.Value.run (F := Ideal) m' ρ')
    obtain ⟨e0, e1, e2⟩ := hagree c
    refine (h c).1.trans ((Cert.Reference3Ideal.Read.val_main_v2_eq _ _ _).trans ?_)
    dsimp only
    rw [e0, e1, e2]

theorem frame_reference4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- After a Fourier mixer the run leaves the reference's term of the arguments. -/
theorem algebraic4 : Cert.algebraic_Kernel4Ideal_Reference4Ideal := by
  intro m ρ m' ρ' _ hagree
  refine ⟨fun c => Cert.Reference4Ideal.Read.val_main_v1 (F := Ideal)
    (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2)), ?_, ?_⟩
  · exact (θ_run Cert.Kernel4Ideal.defs _ _).mono (fun r h c => ⟨(h c).1.trans (Cert.OprojMix.final m c), (h c).2⟩)
      (Cert.Kernel4Ideal.Value.run_blocks (F := Ideal) m ρ)
  · refine (θ_run Cert.Reference4Ideal.defs _ _).mono (fun r h c => ⟨?_, (h c).2⟩)
      (Cert.Reference4Ideal.Value.run (F := Ideal) m' ρ')
    obtain ⟨e0, e1, e2⟩ := hagree c
    refine (h c).1.trans ((Cert.Reference4Ideal.Read.val_main_v1_eq _ _ _).trans ?_)
    dsimp only
    rw [e0, e1, e2]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts,
  frame_kernel, frame_ideal, fun m ρ _ => frame_ideal m ρ trivial, frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, Cert.Proj.frame_reference5,
  trivial, algebraic, trivial, algebraic2, trivial, algebraic3, trivial, algebraic4,
  Cert.Proj.preserves5, Cert.Proj.algebraic5⟩

end Cert.Proof

end
